-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelUp [hPre_experts_named : Cert.Pre_experts_named.Facts] (m : (ℓ : Loc Cert.KernelUp.nD Cert.KernelUp.τ Cert.KernelUp.sig) → Buf (Elt Bits) ℓ) : Prop :=
  ∀ c : Dev Cert.KernelUp.nD,
    (Cert.Pre_experts_named.fn (F := Bits) (m ((c.tc : Thread Cert.KernelUp.nD Cert.KernelUp.τ).loc Cert.KernelUp.main_arg0)) (m ((c.tc : Thread Cert.KernelUp.nD Cert.KernelUp.τ).loc Cert.KernelUp.main_arg1)) (m ((c.tc : Thread Cert.KernelUp.nD Cert.KernelUp.τ).loc Cert.KernelUp.main_arg2)) (m ((c.tc : Thread Cert.KernelUp.nD Cert.KernelUp.τ).loc Cert.KernelUp.main_arg3)) (m ((c.tc : Thread Cert.KernelUp.nD Cert.KernelUp.τ).loc Cert.KernelUp.main_arg4))) = (fun _ => 1#1)

def Pre_KernelUpIdeal [hPre_experts_named : Cert.Pre_experts_named.Facts] (m : (ℓ : Loc Cert.KernelUpIdeal.nD Cert.KernelUpIdeal.τ Cert.KernelUpIdeal.sig) → Buf (Elt Ideal) ℓ) : Prop :=
  ∀ c : Dev Cert.KernelUpIdeal.nD,
    (Cert.Pre_experts_named.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4))) = (fun _ => 1#1)

def Pre_ReferenceUpIdeal [hPre_experts_named : Cert.Pre_experts_named.Facts] (m : (ℓ : Loc Cert.ReferenceUpIdeal.nD Cert.ReferenceUpIdeal.τ Cert.ReferenceUpIdeal.sig) → Buf (Elt Ideal) ℓ) : Prop :=
  ∀ c : Dev Cert.ReferenceUpIdeal.nD,
    (Cert.Pre_experts_named.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3)) (m ((c.tc : Thread Cert.ReferenceUpIdeal.nD Cert.ReferenceUpIdeal.τ).loc Cert.ReferenceUpIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelUp [hKernelUp : Cert.KernelUp.Facts] [hPre_experts_named : Cert.Pre_experts_named.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4))
      ∧ r.2.sem = fun _ => 0)

def quiescent_KernelUpIdeal [hKernelUpIdeal : Cert.KernelUpIdeal.Facts] [hPre_experts_named : Cert.Pre_experts_named.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ r.2.sem = fun _ => 0)

def quiescent_ReferenceUpIdeal [hReferenceUpIdeal : Cert.ReferenceUpIdeal.Facts] [hPre_experts_named : Cert.Pre_experts_named.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v4) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v5) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] [hPre_experts_named : Cert.Pre_experts_named.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v35) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelUp : Cert.KernelUp.Facts) (hKernelUpIdeal : Cert.KernelUpIdeal.Facts) (hReferenceUpIdeal : Cert.ReferenceUpIdeal.Facts) (hPre_experts_named : Cert.Pre_experts_named.Facts),
    quiescent_Kernel (hKernel := hKernel)
    ∧ quiescent_KernelIdeal (hKernelIdeal := hKernelIdeal)
    ∧ quiescent_ReferenceIdeal (hReferenceIdeal := hReferenceIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelUp (hKernelUp := hKernelUp) (hPre_experts_named := hPre_experts_named)
    ∧ quiescent_KernelUpIdeal (hKernelUpIdeal := hKernelUpIdeal) (hPre_experts_named := hPre_experts_named)
    ∧ quiescent_ReferenceUpIdeal (hReferenceUpIdeal := hReferenceUpIdeal) (hPre_experts_named := hPre_experts_named)
    ∧ preserves_Kernel_KernelIdeal
    ∧ algebraic_KernelIdeal_ReferenceIdeal (hKernelIdeal := hKernelIdeal) (hReferenceIdeal := hReferenceIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelUp_KernelUpIdeal
    ∧ algebraic_KernelUpIdeal_ReferenceUpIdeal (hKernelUpIdeal := hKernelUpIdeal) (hReferenceUpIdeal := hReferenceUpIdeal) (hPre_experts_named := hPre_experts_named)
-- ==== Pre_experts_named.lean ====
abbrev S704 : Shape := ⟨1, ![704]⟩
abbrev S180224x2048 : Shape := ⟨2, ![180224, 2048]⟩
abbrev S4x64x4096x512 : Shape := ⟨4, ![4, 64, 4096, 512]⟩
abbrev S_ : Shape := ⟨0, ![]⟩

class Facts : Prop where
  bcast_S_S704 : S_.BroadcastsInDim S704 (![] : Fin 0 → Fin S704.rank)

variable [Facts]

def fn {F : FTy → Type} [FloatOps F] (main_arg0 : IVec S704 32) (main_arg1 : IVec S704 32) (main_arg2 : IVec S180224x2048 32) (main_arg3 : FVec F S4x64x4096x512 .f32) (main_arg4 : FVec F S4x64x4096x512 .f32) : IVec S704 1 :=
  let main_c : IVec S_ 32 := constantI S_ 32 0#32
  let main_v0 : IVec S704 32 := broadcastInDim S704 ![] bcast_S_S704 main_c
  let main_v1 : IVec S704 1 := cmpi .sge main_arg0 main_v0
  let main_c_0 : IVec S_ 32 := constantI S_ 32 64#32
  let main_v2 : IVec S704 32 := broadcastInDim S704 ![] bcast_S_S704 main_c_0
  let main_v3 : IVec S704 1 := cmpi .slt main_arg0 main_v2
  let main_v4 : IVec S704 1 := andi main_v1 main_v3
  main_v4
-- ==== Kernel.lean ====
abbrev S20480x12288 : Shape := ⟨2, ![20480, 12288]⟩
abbrev S20480x128 : Shape := ⟨2, ![20480, 128]⟩
abbrev S2x128x2048 : Shape := ⟨3, ![2, 128, 2048]⟩
abbrev S2x2048 : Shape := ⟨2, ![2, 2048]⟩
abbrev S4096 : Shape := ⟨1, ![4096]⟩
abbrev S2x1x2048 : Shape := ⟨3, ![2, 1, 2048]⟩
abbrev S1x4096 : Shape := ⟨2, ![1, 4096]⟩
abbrev S4096x4096 : Shape := ⟨2, ![4096, 4096]⟩
abbrev S16x2x2x4x512x1024 : Shape := ⟨6, ![16, 2, 2, 4, 512, 1024]⟩
abbrev S256x512 : Shape := ⟨2, ![256, 512]⟩
abbrev S256x1024 : Shape := ⟨2, ![256, 1024]⟩
abbrev S256x128 : Shape := ⟨2, ![256, 128]⟩
abbrev S1x128x512 : Shape := ⟨3, ![1, 128, 512]⟩
abbrev S1x1x512 : Shape := ⟨3, ![1, 1, 512]⟩
abbrev S1x1024 : Shape := ⟨2, ![1, 1024]⟩
abbrev S1x2x1x1x512x1024 : Shape := ⟨6, ![1, 2, 1, 1, 512, 1024]⟩
abbrev S512x1024 : Shape := ⟨2, ![512, 1024]⟩
abbrev S64x64 : Shape := ⟨2, ![64, 64]⟩
abbrev S64x128 : Shape := ⟨2, ![64, 128]⟩
abbrev S128x512 : Shape := ⟨2, ![128, 512]⟩
abbrev S64x512 : Shape := ⟨2, ![64, 512]⟩
abbrev S1x512 : Shape := ⟨2, ![1, 512]⟩
abbrev S64x1024 : Shape := ⟨2, ![64, 1024]⟩
abbrev S512x1 : Shape := ⟨2, ![512, 1]⟩
abbrev S64 : Shape := ⟨1, ![64]⟩
abbrev S64x1 : Shape := ⟨2, ![64, 1]⟩
abbrev S1x1x1x1x512x1024 : Shape := ⟨6, ![1, 1, 1, 1, 512, 1024]⟩

abbrev nBuf : Space → Nat
  | .hbm => 9
  | .vmem => 22
  | .smem => 0
  | _ => 0

abbrev bufTy : (tb : Table) → Fin (tcTables nBuf tb) → BufTy
  | .hbm, ⟨0, _⟩ => ⟨S20480x12288, .bf16⟩
  | .hbm, ⟨1, _⟩ => ⟨S20480x128, .f32⟩
  | .hbm, ⟨2, _⟩ => ⟨S2x128x2048, .bf16⟩
  | .hbm, ⟨3, _⟩ => ⟨S2x2048, .f32⟩
  | .hbm, ⟨4, _⟩ => ⟨S4096, .f32⟩
  | .hbm, ⟨5, _⟩ => ⟨S2x1x2048, .f32⟩
  | .hbm, ⟨6, _⟩ => ⟨S1x4096, .f32⟩
  | .hbm, ⟨7, _⟩ => ⟨S4096x4096, .bf16⟩
  | .hbm, ⟨8, _⟩ => ⟨S16x2x2x4x512x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x128, .f32⟩
  | .local _ .vmem, ⟨9, _⟩ => ⟨S256x128, .f32⟩
  | .local _ .vmem, ⟨10, _⟩ => ⟨S1x128x512, .bf16⟩
  | .local _ .vmem, ⟨11, _⟩ => ⟨S1x128x512, .bf16⟩
  | .local _ .vmem, ⟨12, _⟩ => ⟨S1x1x512, .f32⟩
  | .local _ .vmem, ⟨13, _⟩ => ⟨S1x1x512, .f32⟩
  | .local _ .vmem, ⟨14, _⟩ => ⟨S1x1024, .f32⟩
  | .local _ .vmem, ⟨15, _⟩ => ⟨S1x1024, .f32⟩
  | .local _ .vmem, ⟨16, _⟩ => ⟨S256x1024, .bf16⟩
  | .local _ .vmem, ⟨17, _⟩ => ⟨S256x1024, .bf16⟩
  | .local _ .vmem, ⟨18, _⟩ => ⟨S1x2x1x1x512x1024, .f32⟩
  | .local _ .vmem, ⟨19, _⟩ => ⟨S1x2x1x1x512x1024, .f32⟩
  | .local _ .vmem, ⟨20, _⟩ => ⟨S512x1024, .f32⟩
  | .local _ .vmem, ⟨21, _⟩ => ⟨S256x1024, .f32⟩
  | _, _ => ⟨S20480x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg2 : BitVec 32 := BitVec.ofNat 32 (i 2).val
  let c1_i32_1 : BitVec 32 := 1#32
  let v7 : BitVec 1 := Scalar.cmpi .slt arg2 c1_i32_1
  let v8 : BitVec 32 := Scalar.extui v7
  let c0_i32_2 : BitVec 32 := 0#32
  let v9 : BitVec 1 := Scalar.cmpi .ne v8 c0_i32_2
  v9

def k0_mult1 (i : grid0.Coords) : BitVec 32 :=
  let arg2 : BitVec 32 := BitVec.ofNat 32 (i 2).val
  let c256_i32 : BitVec 32 := 256#32
  let v94 : BitVec 32 := Scalar.muli arg2 c256_i32
  let c0_i32_39 : BitVec 32 := 0#32
  let v95 : BitVec 32 := Scalar.addi v94 c0_i32_39
  v95
def k0_off1 (i : grid0.Coords) (c0_i32_39 : BitVec 32) : Fin 2 → Nat :=
  let arg2 : BitVec 32 := BitVec.ofNat 32 (i 2).val
  let c256_i32 : BitVec 32 := 256#32
  let v94 : BitVec 32 := Scalar.muli arg2 c256_i32
  let v95 : BitVec 32 := Scalar.addi v94 c0_i32_39
  let v96 : BitVec 32 := v95
  let v97 : Index := Scalar.indexCast v96
  let c0_40 : Index := 0#32
  ![v97.toNat, 0]
def k0_mult2 (i : grid0.Coords) : BitVec 32 :=
  let arg2 : BitVec 32 := BitVec.ofNat 32 (i 2).val
  let c256_i32_73 : BitVec 32 := 256#32
  let v173 : BitVec 32 := Scalar.muli arg2 c256_i32_73
  let c64_i32 : BitVec 32 := 64#32
  let v174 : BitVec 32 := Scalar.addi v173 c64_i32
  v174
def k0_mult3 (i : grid0.Coords) : BitVec 32 :=
  let arg2 : BitVec 32 := BitVec.ofNat 32 (i 2).val
  let c256_i32_107 : BitVec 32 := 256#32
  let v252 : BitVec 32 := Scalar.muli arg2 c256_i32_107
  let c128_i32 : BitVec 32 := 128#32
  let v253 : BitVec 32 := Scalar.addi v252 c128_i32
  v253
def k0_mult4 (i : grid0.Coords) : BitVec 32 :=
  let arg2 : BitVec 32 := BitVec.ofNat 32 (i 2).val
  let c256_i32_141 : BitVec 32 := 256#32
  let v331 : BitVec 32 := Scalar.muli arg2 c256_i32_141
  let c192_i32 : BitVec 32 := 192#32
  let v332 : BitVec 32 := Scalar.addi v331 c192_i32
  v332
def k0_cond3 (i : grid0.Coords) : BitVec 1 :=
  let arg2 : BitVec 32 := BitVec.ofNat 32 (i 2).val
  let c1_i32_3 : BitVec 32 := 1#32
  let v10 : BitVec 1 := Scalar.cmpi .sge arg2 c1_i32_3
  let v11 : BitVec 32 := Scalar.extui v10
  let c0_i32_4 : BitVec 32 := 0#32
  let v12 : BitVec 1 := Scalar.cmpi .ne v11 c0_i32_4
  v12

def k0_mult5 (i : grid0.Coords) : BitVec 32 :=
  let c1_i32_8 : BitVec 32 := 1#32
  let arg2 : BitVec 32 := BitVec.ofNat 32 (i 2).val
  let v18 : BitVec 32 := Scalar.subi c1_i32_8 arg2
  let c256_i32 : BitVec 32 := 256#32
  let v95 : BitVec 32 := Scalar.muli v18 c256_i32
  let c192_i32 : BitVec 32 := 192#32
  let v96 : BitVec 32 := Scalar.addi v95 c192_i32
  v96
def k0_off2 (i : grid0.Coords) (c192_i32 : BitVec 32) : Fin 2 → Nat :=
  let c1_i32_8 : BitVec 32 := 1#32
  let arg2 : BitVec 32 := BitVec.ofNat 32 (i 2).val
  let v18 : BitVec 32 := Scalar.subi c1_i32_8 arg2
  let c256_i32 : BitVec 32 := 256#32
  let v95 : BitVec 32 := Scalar.muli v18 c256_i32
  let v96 : BitVec 32 := Scalar.addi v95 c192_i32
  let v97 : BitVec 32 := v96
  let v98 : Index := Scalar.indexCast v97
  let c0_39 : Index := 0#32
  ![v98.toNat, 0]
def k0_mult6 (i : grid0.Coords) : BitVec 32 :=
  let c1_i32_8 : BitVec 32 := 1#32
  let arg2 : BitVec 32 := BitVec.ofNat 32 (i 2).val
  let v18 : BitVec 32 := Scalar.subi c1_i32_8 arg2
  let c256_i32_85 : BitVec 32 := 256#32
  let v204 : BitVec 32 := Scalar.muli v18 c256_i32_85
  let c128_i32 : BitVec 32 := 128#32
  let v205 : BitVec 32 := Scalar.addi v204 c128_i32
  v205
def k0_mult7 (i : grid0.Coords) : BitVec 32 :=
  let c1_i32_8 : BitVec 32 := 1#32
  let arg2 : BitVec 32 := BitVec.ofNat 32 (i 2).val
  let v18 : BitVec 32 := Scalar.subi c1_i32_8 arg2
  let c256_i32_132 : BitVec 32 := 256#32
  let v313 : BitVec 32 := Scalar.muli v18 c256_i32_132
  let c64_i32 : BitVec 32 := 64#32
  let v314 : BitVec 32 := Scalar.addi v313 c64_i32
  v314
def k0_mult8 (i : grid0.Coords) : BitVec 32 :=
  let c1_i32_8 : BitVec 32 := 1#32
  let arg2 : BitVec 32 := BitVec.ofNat 32 (i 2).val
  let v18 : BitVec 32 := Scalar.subi c1_i32_8 arg2
  let c256_i32_180 : BitVec 32 := 256#32
  let v422 : BitVec 32 := Scalar.muli v18 c256_i32_180
  let c0_i32_181 : BitVec 32 := 0#32
  let v423 : BitVec 32 := Scalar.addi v422 c0_i32_181
  v423
def k0_cond4 (i : grid0.Coords) : BitVec 1 :=
  let arg2 : BitVec 32 := BitVec.ofNat 32 (i 2).val
  let c0_i32_5 : BitVec 32 := 0#32
  let v13 : BitVec 1 := Scalar.cmpi .eq arg2 c0_i32_5
  let c1_i32_6 : BitVec 32 := 1#32
  let v14 : BitVec 1 := Scalar.cmpi .eq arg2 c1_i32_6
  let v15 : BitVec 1 := Scalar.ori v13 v14
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let c1_i32_0 : BitVec 32 := 1#32
  let v2 : BitVec 1 := Scalar.cmpi .slt arg2 c1_i32_0
  let c1_i32_1 : BitVec 32 := 1#32
  let v3 : BitVec 32 := Scalar.subi c1_i32_1 arg2
  let v4 : BitVec 32 := Scalar.select v2 arg2 v3
  let v5 : BitVec 32 := Scalar.addi v1 v4
  let c0_i32_2 : BitVec 32 := 0#32
  ![v5.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let c1_i32_0 : BitVec 32 := 1#32
  let v2 : BitVec 1 := Scalar.cmpi .slt arg2 c1_i32_0
  let c1_i32_1 : BitVec 32 := 1#32
  let v3 : BitVec 32 := Scalar.subi c1_i32_1 arg2
  let v4 : BitVec 32 := Scalar.select v2 arg2 v3
  let v5 : BitVec 32 := Scalar.addi v1 v4
  let c4_i32 : BitVec 32 := 4#32
  let v6 : BitVec 32 := Scalar.addi c4_i32 arg1
  let c0_i32_2 : BitVec 32 := 0#32
  ![v5.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let c1_i32_0 : BitVec 32 := 1#32
  let v2 : BitVec 1 := Scalar.cmpi .slt arg2 c1_i32_0
  let c1_i32_1 : BitVec 32 := 1#32
  let v3 : BitVec 32 := Scalar.subi c1_i32_1 arg2
  let v4 : BitVec 32 := Scalar.select v2 arg2 v3
  let v5 : BitVec 32 := Scalar.addi v1 v4
  let c4_i32 : BitVec 32 := 4#32
  let v6 : BitVec 32 := Scalar.addi c4_i32 arg1
  let c0_i32_2 : BitVec 32 := 0#32
  ![v5.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let c1_i32_0 : BitVec 32 := 1#32
  let v2 : BitVec 1 := Scalar.cmpi .slt arg2 c1_i32_0
  let c1_i32_1 : BitVec 32 := 1#32
  let v3 : BitVec 32 := Scalar.subi c1_i32_1 arg2
  let v4 : BitVec 32 := Scalar.select v2 arg2 v3
  let v5 : BitVec 32 := Scalar.addi v1 v4
  let c8_i32 : BitVec 32 := 8#32
  let v6 : BitVec 32 := Scalar.addi c8_i32 arg1
  let c0_i32_2 : BitVec 32 := 0#32
  ![v5.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let c1_i32_0 : BitVec 32 := 1#32
  let v2 : BitVec 1 := Scalar.cmpi .slt arg2 c1_i32_0
  let c1_i32_1 : BitVec 32 := 1#32
  let v3 : BitVec 32 := Scalar.subi c1_i32_1 arg2
  let v4 : BitVec 32 := Scalar.select v2 arg2 v3
  let v5 : BitVec 32 := Scalar.addi v1 v4
  let c0_i32_2 : BitVec 32 := 0#32
  let c0_i32_3 : BitVec 32 := 0#32
  ![v5.toNat, c0_i32_2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c1_i32_0 : BitVec 32 := 1#32
  let v1 : BitVec 1 := Scalar.cmpi .slt arg2 c1_i32_0
  let c1_i32_1 : BitVec 32 := 1#32
  let v2 : BitVec 32 := Scalar.subi c1_i32_1 arg2
  let c0_i32 : BitVec 32 := 0#32
  let v3 : BitVec 32 := Scalar.select v1 c0_i32 v2
  let v4 : BitVec 32 := Scalar.addi v0 v3
  let c0_i32_2 : BitVec 32 := 0#32
  ![v4.toNat, arg1.toNat]

def cc0_transform_9 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![arg0.toNat, c0_i32_5.toNat, v16.toNat, arg1.toNat, c0_i32_6.toNat, c0_i32_7.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x2x1x1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S20480x12288 : Shape := ⟨2, ![20480, 12288]⟩
abbrev S20480x128 : Shape := ⟨2, ![20480, 128]⟩
abbrev S2x128x2048 : Shape := ⟨3, ![2, 128, 2048]⟩
abbrev S2x2048 : Shape := ⟨2, ![2, 2048]⟩
abbrev S4096 : Shape := ⟨1, ![4096]⟩
abbrev S4096x8192 : Shape := ⟨2, ![4096, 8192]⟩
abbrev S16x256x8192 : Shape := ⟨3, ![16, 256, 8192]⟩
abbrev S16x256x2048 : Shape := ⟨3, ![16, 256, 2048]⟩
abbrev S16x256x4096 : Shape := ⟨3, ![16, 256, 4096]⟩
abbrev S16x256x4x512 : Shape := ⟨4, ![16, 256, 4, 512]⟩
abbrev S16x4x256x512 : Shape := ⟨4, ![16, 4, 256, 512]⟩
abbrev S_ : Shape := ⟨0, ![]⟩
abbrev S16x256x4x1024 : Shape := ⟨4, ![16, 256, 4, 1024]⟩
abbrev S16x4x256x1024 : Shape := ⟨4, ![16, 4, 256, 1024]⟩
abbrev S4096x128 : Shape := ⟨2, ![4096, 128]⟩
abbrev S16x256x128 : Shape := ⟨3, ![16, 256, 128]⟩
abbrev S2x2048x16x256 : Shape := ⟨4, ![2, 2048, 16, 256]⟩
abbrev S2x16x256x2048 : Shape := ⟨4, ![2, 16, 256, 2048]⟩
abbrev S2x1x1x2048 : Shape := ⟨4, ![2, 1, 1, 2048]⟩
abbrev S2x16x256x4x512 : Shape := ⟨5, ![2, 16, 256, 4, 512]⟩
abbrev S2x16x4x256x512 : Shape := ⟨5, ![2, 16, 4, 256, 512]⟩
abbrev S1x16x4x256x512 : Shape := ⟨5, ![1, 16, 4, 256, 512]⟩
abbrev S2x16x4x512x1024 : Shape := ⟨5, ![2, 16, 4, 512, 1024]⟩
abbrev S1x16x4x256x1024 : Shape := ⟨5, ![1, 16, 4, 256, 1024]⟩
abbrev S2x16x4x256x1024 : Shape := ⟨5, ![2, 16, 4, 256, 1024]⟩
abbrev S64x64 : Shape := ⟨2, ![64, 64]⟩
abbrev S2x16x4x4x64x512 : Shape := ⟨6, ![2, 16, 4, 4, 64, 512]⟩
abbrev S4x2x16x4x64x512 : Shape := ⟨6, ![4, 2, 16, 4, 64, 512]⟩
abbrev S2x16x4x4x64x1024 : Shape := ⟨6, ![2, 16, 4, 4, 64, 1024]⟩
abbrev S4x2x16x4x64x1024 : Shape := ⟨6, ![4, 2, 16, 4, 64, 1024]⟩
abbrev S1x2x16x4x64x512 : Shape := ⟨6, ![1, 2, 16, 4, 64, 512]⟩
abbrev S2x16x4x64x512 : Shape := ⟨5, ![2, 16, 4, 64, 512]⟩
abbrev S1x2x16x4x64x1024 : Shape := ⟨6, ![1, 2, 16, 4, 64, 1024]⟩
abbrev S2x16x4x64x1024 : Shape := ⟨5, ![2, 16, 4, 64, 1024]⟩
abbrev S2x16x4x1x512 : Shape := ⟨5, ![2, 16, 4, 1, 512]⟩
abbrev S2x16x4x64x64 : Shape := ⟨5, ![2, 16, 4, 64, 64]⟩
abbrev S2x16x4x512 : Shape := ⟨4, ![2, 16, 4, 512]⟩
abbrev S2x16x4x512x1 : Shape := ⟨5, ![2, 16, 4, 512, 1]⟩
abbrev S16x4x256 : Shape := ⟨3, ![16, 4, 256]⟩
abbrev S16x4x256x1 : Shape := ⟨4, ![16, 4, 256, 1]⟩
abbrev S1x1x4096 : Shape := ⟨3, ![1, 1, 4096]⟩
abbrev S4096x4096 : Shape := ⟨2, ![4096, 4096]⟩
abbrev S16x2x4x512x1024 : Shape := ⟨5, ![16, 2, 4, 512, 1024]⟩
abbrev S16x1x2x4x512x1024 : Shape := ⟨6, ![16, 1, 2, 4, 512, 1024]⟩
abbrev S16x2x2x4x512x1024 : Shape := ⟨6, ![16, 2, 2, 4, 512, 1024]⟩

abbrev nBuf : Space → Nat
  | .hbm => 212
  | .vmem => 0
  | .smem => 0
  | _ => 0

abbrev hbmTy0_0 (i : Nat) : BufTy := match i % 128 with
  | 0 => ⟨S20480x12288, .bf16⟩
  | 1 => ⟨S20480x128, .f32⟩
  | 2 => ⟨S2x128x2048, .bf16⟩
  | 3 => ⟨S2x2048, .f32⟩
  | 4 => ⟨S4096, .f32⟩
  | 5 => ⟨S4096x8192, .bf16⟩
  | 6 => ⟨S16x256x8192, .bf16⟩
  | 7 => ⟨S16x256x8192, .f32⟩
  | 8 => ⟨S16x256x2048, .f32⟩
  | 9 => ⟨S16x256x2048, .f32⟩
  | 10 => ⟨S16x256x4096, .f32⟩
  | 11 => ⟨S16x256x4x512, .f32⟩
  | 12 => ⟨S16x4x256x512, .f32⟩
  | 13 => ⟨S_, .f32⟩
  | 14 => ⟨S16x4x256x512, .f32⟩
  | 15 => ⟨S16x4x256x512, .f32⟩
  | 16 => ⟨S16x256x4x512, .f32⟩
  | 17 => ⟨S16x4x256x512, .f32⟩
  | 18 => ⟨S16x256x4x1024, .f32⟩
  | 19 => ⟨S16x4x256x1024, .f32⟩
  | 20 => ⟨S4096x128, .f32⟩
  | 21 => ⟨S16x256x128, .f32⟩
  | 22 => ⟨S2x128x2048, .f32⟩
  | 23 => ⟨S2x2048x16x256, .f32⟩
  | 24 => ⟨S2x16x256x2048, .f32⟩
  | 25 => ⟨S2x1x1x2048, .f32⟩
  | 26 => ⟨S2x16x256x2048, .f32⟩
  | 27 => ⟨S2x16x256x2048, .f32⟩
  | 28 => ⟨S2x16x256x2048, .f32⟩
  | 29 => ⟨S_, .f32⟩
  | 30 => ⟨S2x16x256x2048, .f32⟩
  | 31 => ⟨S2x16x256x2048, .f32⟩
  | 32 => ⟨S2x16x256x2048, .f32⟩
  | 33 => ⟨S2x16x256x2048, .f32⟩
  | 34 => ⟨S2x16x256x2048, .f32⟩
  | 35 => ⟨S2x16x256x2048, .f32⟩
  | 36 => ⟨S2x16x256x2048, .f32⟩
  | 37 => ⟨S2x16x256x2048, .f32⟩
  | 38 => ⟨S_, .f32⟩
  | 39 => ⟨S2x16x256x2048, .f32⟩
  | 40 => ⟨S2x16x256x2048, .f32⟩
  | 41 => ⟨S2x16x256x4x512, .f32⟩
  | 42 => ⟨S2x16x4x256x512, .f32⟩
  | 43 => ⟨S1x16x4x256x512, .f32⟩
  | 44 => ⟨S16x4x256x512, .f32⟩
  | 45 => ⟨S1x16x4x256x512, .f32⟩
  | 46 => ⟨S16x4x256x512, .f32⟩
  | 47 => ⟨S16x4x256x512, .f32⟩
  | 48 => ⟨S1x16x4x256x512, .f32⟩
  | 49 => ⟨S1x16x4x256x512, .f32⟩
  | 50 => ⟨S2x16x4x256x512, .f32⟩
  | 51 => ⟨S_, .f32⟩
  | 52 => ⟨S2x16x4x512x1024, .f32⟩
  | 53 => ⟨S16x4x256x512, .f32⟩
  | 54 => ⟨S1x16x4x256x512, .f32⟩
  | 55 => ⟨S1x16x4x256x512, .f32⟩
  | 56 => ⟨S2x16x4x256x512, .f32⟩
  | 57 => ⟨S16x4x256x512, .f32⟩
  | 58 => ⟨S1x16x4x256x512, .f32⟩
  | 59 => ⟨S1x16x4x256x512, .f32⟩
  | 60 => ⟨S2x16x4x256x512, .f32⟩
  | 61 => ⟨S16x4x256x1024, .f32⟩
  | 62 => ⟨S1x16x4x256x1024, .f32⟩
  | 63 => ⟨S1x16x4x256x1024, .f32⟩
  | 64 => ⟨S2x16x4x256x1024, .f32⟩
  | 65 => ⟨S64x64, .i32⟩
  | 66 => ⟨S64x64, .i32⟩
  | 67 => ⟨S64x64, .i1⟩
  | 68 => ⟨S2x16x4x4x64x512, .f32⟩
  | 69 => ⟨S4x2x16x4x64x512, .f32⟩
  | 70 => ⟨S2x16x4x4x64x512, .f32⟩
  | 71 => ⟨S4x2x16x4x64x512, .f32⟩
  | 72 => ⟨S2x16x4x4x64x1024, .f32⟩
  | 73 => ⟨S4x2x16x4x64x1024, .f32⟩
  | 74 => ⟨S2x16x4x4x64x512, .f32⟩
  | 75 => ⟨S4x2x16x4x64x512, .f32⟩
  | 76 => ⟨S_, .f32⟩
  | 77 => ⟨S4x2x16x4x64x1024, .f32⟩
  | 78 => ⟨S_, .i32⟩
  | 79 => ⟨S4x2x16x4x64x512, .f32⟩
  | 80 => ⟨S4x2x16x4x64x512, .f32⟩
  | 81 => ⟨S4x2x16x4x64x1024, .f32⟩
  | 82 => ⟨S4x2x16x4x64x512, .f32⟩
  | 83 => ⟨S64x64, .i1⟩
  | 84 => ⟨S_, .i32⟩
  | 85 => ⟨S2x16x4x512x1024, .f32⟩
  | 86 => ⟨S4x2x16x4x64x1024, .f32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S1x2x16x4x64x512, .f32⟩
  | 95 => ⟨S2x16x4x64x512, .f32⟩
  | 96 => ⟨S_, .i32⟩
  | 97 => ⟨S_, .i32⟩
  | 98 => ⟨S_, .i32⟩
  | 99 => ⟨S_, .i32⟩
  | 100 => ⟨S_, .i32⟩
  | 101 => ⟨S1x2x16x4x64x512, .f32⟩
  | 102 => ⟨S2x16x4x64x512, .f32⟩
  | 103 => ⟨S_, .i32⟩
  | 104 => ⟨S_, .i32⟩
  | 105 => ⟨S_, .i32⟩
  | 106 => ⟨S_, .i32⟩
  | 107 => ⟨S_, .i32⟩
  | 108 => ⟨S1x2x16x4x64x1024, .f32⟩
  | 109 => ⟨S2x16x4x64x1024, .f32⟩
  | 110 => ⟨S_, .i32⟩
  | 111 => ⟨S_, .i32⟩
  | 112 => ⟨S_, .i32⟩
  | 113 => ⟨S_, .i32⟩
  | 114 => ⟨S_, .i32⟩
  | 115 => ⟨S1x2x16x4x64x512, .f32⟩
  | 116 => ⟨S2x16x4x64x512, .f32⟩
  | 117 => ⟨S_, .f32⟩
  | 118 => ⟨S_, .f32⟩
  | 119 => ⟨S2x16x4x64x512, .f32⟩
  | 120 => ⟨S2x16x4x1x512, .f32⟩
  | 121 => ⟨S2x16x4x64x512, .f32⟩
  | 122 => ⟨S2x16x4x64x512, .f32⟩
  | 123 => ⟨S2x16x4x64x512, .f32⟩
  | 124 => ⟨S2x16x4x64x512, .f32⟩
  | 125 => ⟨S2x16x4x64x512, .f32⟩
  | 126 => ⟨S2x16x4x64x64, .f32⟩
  | 127 => ⟨S_, .f32⟩
  | _ => ⟨S20480x12288, .bf16⟩

abbrev hbmTy0_1 (i : Nat) : BufTy := match i % 128 with
  | 0 => ⟨S_, .f32⟩
  | 1 => ⟨S2x16x4x64x64, .i1⟩
  | 2 => ⟨S2x16x4x64x64, .f32⟩
  | 3 => ⟨S2x16x4x64x64, .f32⟩
  | 4 => ⟨S2x16x4x64x1024, .f32⟩
  | 5 => ⟨S2x16x4x64x1024, .f32⟩
  | 6 => ⟨S2x16x4x64x1024, .f32⟩
  | 7 => ⟨S2x16x4x64x512, .f32⟩
  | 8 => ⟨S2x16x4x64x512, .f32⟩
  | 9 => ⟨S2x16x4x64x512, .f32⟩
  | 10 => ⟨S2x16x4x64x512, .f32⟩
  | 11 => ⟨S2x16x4x512, .f32⟩
  | 12 => ⟨S2x16x4x512, .f32⟩
  | 13 => ⟨S2x16x4x512x1, .f32⟩
  | 14 => ⟨S2x16x4x512x1024, .f32⟩
  | 15 => ⟨S2x16x4x512x1024, .f32⟩
  | 16 => ⟨S2x16x4x512x1024, .f32⟩
  | 17 => ⟨S2x16x4x512x1024, .f32⟩
  | 18 => ⟨S1x2x16x4x64x1024, .f32⟩
  | 19 => ⟨S_, .i32⟩
  | 20 => ⟨S_, .i32⟩
  | 21 => ⟨S_, .i32⟩
  | 22 => ⟨S_, .i32⟩
  | 23 => ⟨S_, .i32⟩
  | 24 => ⟨S4x2x16x4x64x1024, .f32⟩
  | 25 => ⟨S_, .i32⟩
  | 26 => ⟨S_, .i32⟩
  | 27 => ⟨S2x16x4x4x64x1024, .f32⟩
  | 28 => ⟨S2x16x4x256x1024, .f32⟩
  | 29 => ⟨S1x16x4x256x1024, .f32⟩
  | 30 => ⟨S16x4x256x1024, .f32⟩
  | 31 => ⟨S1x16x4x256x1024, .f32⟩
  | 32 => ⟨S16x4x256x1024, .f32⟩
  | 33 => ⟨S16x4x256x1024, .f32⟩
  | 34 => ⟨S16x4x256x1024, .f32⟩
  | 35 => ⟨S_, .f32⟩
  | 36 => ⟨S16x4x256, .f32⟩
  | 37 => ⟨S16x4x256x1, .f32⟩
  | 38 => ⟨S_, .f32⟩
  | 39 => ⟨S16x4x256x1, .f32⟩
  | 40 => ⟨S16x4x256x1, .f32⟩
  | 41 => ⟨S16x4x256x1024, .f32⟩
  | 42 => ⟨S16x4x256x1024, .f32⟩
  | 43 => ⟨S16x4x256x1024, .f32⟩
  | 44 => ⟨S_, .f32⟩
  | 45 => ⟨S16x4x256, .f32⟩
  | 46 => ⟨S16x4x256x1, .f32⟩
  | 47 => ⟨S_, .f32⟩
  | 48 => ⟨S16x4x256x1, .f32⟩
  | 49 => ⟨S16x4x256x1, .f32⟩
  | 50 => ⟨S16x4x256x1024, .f32⟩
  | 51 => ⟨S16x4x256x1024, .f32⟩
  | 52 => ⟨S_, .f32⟩
  | 53 => ⟨S16x4x256x1, .f32⟩
  | 54 => ⟨S16x4x256x1, .f32⟩
  | 55 => ⟨S16x4x256x1, .f32⟩
  | 56 => ⟨S16x4x256x1024, .f32⟩
  | 57 => ⟨S16x4x256x1024, .f32⟩
  | 58 => ⟨S16x256x4x1024, .f32⟩
  | 59 => ⟨S16x256x4096, .f32⟩
  | 60 => ⟨S1x1x4096, .f32⟩
  | 61 => ⟨S16x256x4096, .f32⟩
  | 62 => ⟨S16x256x4096, .f32⟩
  | 63 => ⟨S4096x4096, .bf16⟩
  | 64 => ⟨S16x256x4096, .bf16⟩
  | 65 => ⟨S16x256x4096, .f32⟩
  | 66 => ⟨S16x256x4096, .f32⟩
  | 67 => ⟨S16x256x4096, .f32⟩
  | 68 => ⟨S_, .f32⟩
  | 69 => ⟨S16x256x4096, .f32⟩
  | 70 => ⟨S16x256x4096, .f32⟩
  | 71 => ⟨S_, .f32⟩
  | 72 => ⟨S16x256x4096, .f32⟩
  | 73 => ⟨S16x256x4096, .f32⟩
  | 74 => ⟨S16x256x4096, .f32⟩
  | 75 => ⟨S16x256x4096, .f32⟩
  | 76 => ⟨S16x2x4x512x1024, .f32⟩
  | 77 => ⟨S_, .f32⟩
  | 78 => ⟨S16x2x4x512x1024, .f32⟩
  | 79 => ⟨S16x1x2x4x512x1024, .f32⟩
  | 80 => ⟨S16x1x2x4x512x1024, .f32⟩
  | 81 => ⟨S16x2x2x4x512x1024, .f32⟩
  | 82 => ⟨S4096x4096, .f32⟩
  | 83 => ⟨S4096x4096, .bf16⟩
  | _ => ⟨S20480x12288, .bf16⟩

abbrev hbmTy (i : Nat) : BufTy := match i / 128 with
  | 0 => hbmTy0_0 i
  | 1 => hbmTy0_1 i
  | _ => ⟨S20480x12288, .bf16⟩

abbrev bufTy : (tb : Table) → Fin (tcTables nBuf tb) → BufTy
  | .hbm, ⟨i, _⟩ => hbmTy i
  | _, _ => ⟨S20480x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_2 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_3 : Ref sig .tc := ⟨.hbm, 76, rfl⟩
abbrev main_v67 : Ref sig .tc := ⟨.hbm, 77, rfl⟩
abbrev main_c : Ref sig .tc := ⟨.hbm, 78, rfl⟩
abbrev main_v68_0 : Ref sig .tc := ⟨.hbm, 79, rfl⟩
abbrev main_v68_1 : Ref sig .tc := ⟨.hbm, 80, rfl⟩
abbrev main_v68_2 : Ref sig .tc := ⟨.hbm, 81, rfl⟩
abbrev main_v68_3 : Ref sig .tc := ⟨.hbm, 82, rfl⟩
abbrev main_v68_4 : Ref sig .tc := ⟨.hbm, 83, rfl⟩
abbrev main_v68_5 : Ref sig .tc := ⟨.hbm, 84, rfl⟩
abbrev main_v68_6 : Ref sig .tc := ⟨.hbm, 85, rfl⟩
abbrev main_v68_7 : Ref sig .tc := ⟨.hbm, 86, rfl⟩
abbrev main_while0c_c_19 : Ref sig .tc := ⟨.hbm, 87, rfl⟩
abbrev main_while0c_v118 : Ref sig .tc := ⟨.hbm, 88, rfl⟩
abbrev main_while0b_call4_c : Ref sig .tc := ⟨.hbm, 89, rfl⟩
abbrev main_while0b_call4_c_0 : Ref sig .tc := ⟨.hbm, 90, rfl⟩
abbrev main_while0b_call4_c_1 : Ref sig .tc := ⟨.hbm, 91, rfl⟩
abbrev main_while0b_call4_c_2 : Ref sig .tc := ⟨.hbm, 92, rfl⟩
abbrev main_while0b_call4_c_3 : Ref sig .tc := ⟨.hbm, 93, rfl⟩
abbrev main_while0b_call4_v0 : Ref sig .tc := ⟨.hbm, 94, rfl⟩
abbrev main_while0b_v118 : Ref sig .tc := ⟨.hbm, 95, rfl⟩
abbrev main_while0b_call5_c : Ref sig .tc := ⟨.hbm, 96, rfl⟩
abbrev main_while0b_call5_c_0 : Ref sig .tc := ⟨.hbm, 97, rfl⟩
abbrev main_while0b_call5_c_1 : Ref sig .tc := ⟨.hbm, 98, rfl⟩
abbrev main_while0b_call5_c_2 : Ref sig .tc := ⟨.hbm, 99, rfl⟩
abbrev main_while0b_call5_c_3 : Ref sig .tc := ⟨.hbm, 100, rfl⟩
abbrev main_while0b_call5_v0 : Ref sig .tc := ⟨.hbm, 101, rfl⟩
abbrev main_while0b_v119 : Ref sig .tc := ⟨.hbm, 102, rfl⟩
abbrev main_while0b_call6_c : Ref sig .tc := ⟨.hbm, 103, rfl⟩
abbrev main_while0b_call6_c_0 : Ref sig .tc := ⟨.hbm, 104, rfl⟩
abbrev main_while0b_call6_c_1 : Ref sig .tc := ⟨.hbm, 105, rfl⟩
abbrev main_while0b_call6_c_2 : Ref sig .tc := ⟨.hbm, 106, rfl⟩
abbrev main_while0b_call6_c_3 : Ref sig .tc := ⟨.hbm, 107, rfl⟩
abbrev main_while0b_call6_v0 : Ref sig .tc := ⟨.hbm, 108, rfl⟩
abbrev main_while0b_v120 : Ref sig .tc := ⟨.hbm, 109, rfl⟩
abbrev main_while0b_call7_c : Ref sig .tc := ⟨.hbm, 110, rfl⟩
abbrev main_while0b_call7_c_0 : Ref sig .tc := ⟨.hbm, 111, rfl⟩
abbrev main_while0b_call7_c_1 : Ref sig .tc := ⟨.hbm, 112, rfl⟩
abbrev main_while0b_call7_c_2 : Ref sig .tc := ⟨.hbm, 113, rfl⟩
abbrev main_while0b_call7_c_3 : Ref sig .tc := ⟨.hbm, 114, rfl⟩
abbrev main_while0b_call7_v0 : Ref sig .tc := ⟨.hbm, 115, rfl⟩
abbrev main_while0b_v121 : Ref sig .tc := ⟨.hbm, 116, rfl⟩
abbrev main_while0b_call8_call0_cst : Ref sig .tc := ⟨.hbm, 117, rfl⟩
abbrev main_while0b_call8_call0_v0 : Ref sig .tc := ⟨.hbm, 118, rfl⟩
abbrev main_while0b_v122 : Ref sig .tc := ⟨.hbm, 119, rfl⟩
abbrev main_while0b_v123 : Ref sig .tc := ⟨.hbm, 120, rfl⟩
abbrev main_while0b_v124 : Ref sig .tc := ⟨.hbm, 121, rfl⟩
abbrev main_while0b_v125 : Ref sig .tc := ⟨.hbm, 122, rfl⟩
abbrev main_while0b_v126 : Ref sig .tc := ⟨.hbm, 123, rfl⟩
abbrev main_while0b_v127 : Ref sig .tc := ⟨.hbm, 124, rfl⟩
abbrev main_while0b_v128 : Ref sig .tc := ⟨.hbm, 125, rfl⟩
abbrev main_while0b_v129 : Ref sig .tc := ⟨.hbm, 126, rfl⟩
abbrev main_while0b_cst_19 : Ref sig .tc := ⟨.hbm, 127, rfl⟩
abbrev main_while0b_call9_v0 : Ref sig .tc := ⟨.hbm, 128, rfl⟩
abbrev main_while0b_call9_v1 : Ref sig .tc := ⟨.hbm, 129, rfl⟩
abbrev main_while0b_call9_v2 : Ref sig .tc := ⟨.hbm, 130, rfl⟩
abbrev main_while0b_v130 : Ref sig .tc := ⟨.hbm, 131, rfl⟩
abbrev main_while0b_v131 : Ref sig .tc := ⟨.hbm, 132, rfl⟩
abbrev main_while0b_v132 : Ref sig .tc := ⟨.hbm, 133, rfl⟩
abbrev main_while0b_v133 : Ref sig .tc := ⟨.hbm, 134, rfl⟩
abbrev main_while0b_v134 : Ref sig .tc := ⟨.hbm, 135, rfl⟩
abbrev main_while0b_v135 : Ref sig .tc := ⟨.hbm, 136, rfl⟩
abbrev main_while0b_v136 : Ref sig .tc := ⟨.hbm, 137, rfl⟩
abbrev main_while0b_v137 : Ref sig .tc := ⟨.hbm, 138, rfl⟩
abbrev main_while0b_v138 : Ref sig .tc := ⟨.hbm, 139, rfl⟩
abbrev main_while0b_v139 : Ref sig .tc := ⟨.hbm, 140, rfl⟩
abbrev main_while0b_v140 : Ref sig .tc := ⟨.hbm, 141, rfl⟩
abbrev main_while0b_v141 : Ref sig .tc := ⟨.hbm, 142, rfl⟩
abbrev main_while0b_v142 : Ref sig .tc := ⟨.hbm, 143, rfl⟩
abbrev main_while0b_v143 : Ref sig .tc := ⟨.hbm, 144, rfl⟩
abbrev main_while0b_v144 : Ref sig .tc := ⟨.hbm, 145, rfl⟩
abbrev main_while0b_call10_v0 : Ref sig .tc := ⟨.hbm, 146, rfl⟩
abbrev main_while0b_call10_c : Ref sig .tc := ⟨.hbm, 147, rfl⟩
abbrev main_while0b_call10_c_0 : Ref sig .tc := ⟨.hbm, 148, rfl⟩
abbrev main_while0b_call10_c_1 : Ref sig .tc := ⟨.hbm, 149, rfl⟩
abbrev main_while0b_call10_c_2 : Ref sig .tc := ⟨.hbm, 150, rfl⟩
abbrev main_while0b_call10_c_3 : Ref sig .tc := ⟨.hbm, 151, rfl⟩
abbrev main_while0b_v145 : Ref sig .tc := ⟨.hbm, 152, rfl⟩
abbrev main_while0b_c_20 : Ref sig .tc := ⟨.hbm, 153, rfl⟩
abbrev main_while0b_v146 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_cst_4 : Ref sig .tc := ⟨.hbm, 163, rfl⟩
abbrev main_v77 : Ref sig .tc := ⟨.hbm, 164, rfl⟩
abbrev main_v78 : Ref sig .tc := ⟨.hbm, 165, rfl⟩
abbrev main_cst_5 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_cst_6 : Ref sig .tc := ⟨.hbm, 172, rfl⟩
abbrev main_v84 : Ref sig .tc := ⟨.hbm, 173, rfl⟩
abbrev main_v85 : Ref sig .tc := ⟨.hbm, 174, rfl⟩
abbrev main_cst_7 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_cst_8 : Ref sig .tc := ⟨.hbm, 180, rfl⟩
abbrev main_v90 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_cst_9 : Ref sig .tc := ⟨.hbm, 196, rfl⟩
abbrev main_v105 : Ref sig .tc := ⟨.hbm, 197, rfl⟩
abbrev main_v106 : Ref sig .tc := ⟨.hbm, 198, rfl⟩
abbrev main_cst_10 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_cst_11 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩

abbrev nD : Nat := 1
abbrev τ : Topo := Topo.v7x

variable {F : FTy → Type} [FloatOps F]

abbrev main_while0_count : Scf.Loop 32 := ⟨0#32, 4#32, 1#32⟩
-- ==== KernelIn.lean ====
abbrev S20480x4096 : Shape := ⟨2, ![20480, 4096]⟩
abbrev S2x4096x12288 : Shape := ⟨3, ![2, 4096, 12288]⟩
abbrev S20480x12288 : Shape := ⟨2, ![20480, 12288]⟩
abbrev S512x4096 : Shape := ⟨2, ![512, 4096]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S20480x4096, .bf16⟩
  | .hbm, ⟨1, _⟩ => ⟨S2x4096x12288, .f32⟩
  | .hbm, ⟨2, _⟩ => ⟨S20480x12288, .bf16⟩
  | .local _ .vmem, ⟨0, _⟩ => ⟨S512x4096, .bf16⟩
  | .local _ .vmem, ⟨1, _⟩ => ⟨S512x4096, .bf16⟩
  | .local _ .vmem, ⟨2, _⟩ => ⟨S1x4096x512, .f32⟩
  | .local _ .vmem, ⟨3, _⟩ => ⟨S1x4096x512, .f32⟩
  | .local _ .vmem, ⟨4, _⟩ => ⟨S512x512, .bf16⟩
  | .local _ .vmem, ⟨5, _⟩ => ⟨S512x512, .bf16⟩
  | .local _ .vmem, ⟨6, _⟩ => ⟨S4096x512, .bf16⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 40], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInIdeal.lean ====
abbrev S20480x4096 : Shape := ⟨2, ![20480, 4096]⟩
abbrev S2x4096x12288 : Shape := ⟨3, ![2, 4096, 12288]⟩
abbrev S1x4096x12288 : Shape := ⟨3, ![1, 4096, 12288]⟩
abbrev S4096x12288 : Shape := ⟨2, ![4096, 12288]⟩
abbrev S20480x12288 : Shape := ⟨2, ![20480, 12288]⟩

abbrev nBuf : Space → Nat
  | .hbm => 7
  | .vmem => 0
  | .smem => 0
  | _ => 0

abbrev bufTy : (tb : Table) → Fin (tcTables nBuf tb) → BufTy
  | .hbm, ⟨0, _⟩ => ⟨S20480x4096, .bf16⟩
  | .hbm, ⟨1, _⟩ => ⟨S2x4096x12288, .f32⟩
  | .hbm, ⟨2, _⟩ => ⟨S20480x4096, .f32⟩
  | .hbm, ⟨3, _⟩ => ⟨S1x4096x12288, .f32⟩
  | .hbm, ⟨4, _⟩ => ⟨S4096x12288, .f32⟩
  | .hbm, ⟨5, _⟩ => ⟨S20480x12288, .f32⟩
  | .hbm, ⟨6, _⟩ => ⟨S20480x12288, .bf16⟩
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelOut.lean ====
abbrev S4096x4096 : Shape := ⟨2, ![4096, 4096]⟩
abbrev S16384x4096 : Shape := ⟨2, ![16384, 4096]⟩
abbrev S2x4096x4096 : Shape := ⟨3, ![2, 4096, 4096]⟩
abbrev S20480x4096 : Shape := ⟨2, ![20480, 4096]⟩
abbrev S512x4096 : Shape := ⟨2, ![512, 4096]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S16384x4096, .bf16⟩
  | .hbm, ⟨2, _⟩ => ⟨S2x4096x4096, .f32⟩
  | .hbm, ⟨3, _⟩ => ⟨S20480x4096, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S1x4096x512, .f32⟩
  | .local _ .vmem, ⟨5, _⟩ => ⟨S1x4096x512, .f32⟩
  | .local _ .vmem, ⟨6, _⟩ => ⟨S512x512, .bf16⟩
  | .local _ .vmem, ⟨7, _⟩ => ⟨S512x512, .bf16⟩
  | .local _ .vmem, ⟨8, _⟩ => ⟨S4096x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 40], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOutIdeal.lean ====
abbrev S4096x4096 : Shape := ⟨2, ![4096, 4096]⟩
abbrev S16384x4096 : Shape := ⟨2, ![16384, 4096]⟩
abbrev S2x4096x4096 : Shape := ⟨3, ![2, 4096, 4096]⟩
abbrev S20480x4096 : Shape := ⟨2, ![20480, 4096]⟩
abbrev S1x4096x4096 : Shape := ⟨3, ![1, 4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S16384x4096, .bf16⟩
  | .hbm, ⟨2, _⟩ => ⟨S2x4096x4096, .f32⟩
  | .hbm, ⟨3, _⟩ => ⟨S20480x4096, .bf16⟩
  | .hbm, ⟨4, _⟩ => ⟨S20480x4096, .f32⟩
  | .hbm, ⟨5, _⟩ => ⟨S1x4096x4096, .f32⟩
  | .hbm, ⟨6, _⟩ => ⟨S4096x4096, .f32⟩
  | .hbm, ⟨7, _⟩ => ⟨S20480x4096, .f32⟩
  | .hbm, ⟨8, _⟩ => ⟨S20480x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelUp.lean ====
abbrev S704 : Shape := ⟨1, ![704]⟩
abbrev S180224x2048 : Shape := ⟨2, ![180224, 2048]⟩
abbrev S4x64x4096x512 : Shape := ⟨4, ![4, 64, 4096, 512]⟩
abbrev S180224x512 : Shape := ⟨2, ![180224, 512]⟩
abbrev S256x2048 : Shape := ⟨2, ![256, 2048]⟩
abbrev S1x1x4096x512 : Shape := ⟨4, ![1, 1, 4096, 512]⟩
abbrev S1 : Shape := ⟨1, ![1]⟩
abbrev S256x512 : Shape := ⟨2, ![256, 512]⟩
abbrev S4096x512 : Shape := ⟨2, ![4096, 512]⟩
abbrev S2048x512 : Shape := ⟨2, ![2048, 512]⟩

abbrev nBuf : Space → Nat
  | .hbm => 4
  | .vmem => 10
  | .smem => 2
  | _ => 0

abbrev bufTy : (tb : Table) → Fin (tcTables nBuf tb) → BufTy
  | .hbm, ⟨0, _⟩ => ⟨S180224x2048, .i32⟩
  | .hbm, ⟨1, _⟩ => ⟨S4x64x4096x512, .f32⟩
  | .hbm, ⟨2, _⟩ => ⟨S4x64x4096x512, .f32⟩
  | .hbm, ⟨3, _⟩ => ⟨S180224x512, .bf16⟩
  | .local _ .vmem, ⟨0, _⟩ => ⟨S256x2048, .i32⟩
  | .local _ .vmem, ⟨1, _⟩ => ⟨S256x2048, .i32⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S256x512, .bf16⟩
  | .local _ .vmem, ⟨7, _⟩ => ⟨S256x512, .bf16⟩
  | .local _ .vmem, ⟨8, _⟩ => ⟨S4096x512, .bf16⟩
  | .local _ .vmem, ⟨9, _⟩ => ⟨S4096x512, .bf16⟩
  | .local _ .smem, ⟨0, _⟩ => ⟨S704, .i32⟩
  | .local _ .smem, ⟨1, _⟩ => ⟨S704, .i32⟩
  | _, _ => ⟨S180224x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![704], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .ne v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S704.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S704) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S704.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S704) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceUpIdeal.lean ====
abbrev S704 : Shape := ⟨1, ![704]⟩
abbrev S180224x2048 : Shape := ⟨2, ![180224, 2048]⟩
abbrev S4x64x4096x512 : Shape := ⟨4, ![4, 64, 4096, 512]⟩
abbrev S_ : Shape := ⟨0, ![]⟩
abbrev S180224x4096 : Shape := ⟨2, ![180224, 4096]⟩
abbrev S704x256x4096 : Shape := ⟨3, ![704, 256, 4096]⟩
abbrev S1x64x4096x512 : Shape := ⟨4, ![1, 64, 4096, 512]⟩
abbrev S64x4096x512 : Shape := ⟨3, ![64, 4096, 512]⟩
abbrev S704x1 : Shape := ⟨2, ![704, 1]⟩
abbrev S704x4096x512 : Shape := ⟨3, ![704, 4096, 512]⟩
abbrev S704x256x512 : Shape := ⟨3, ![704, 256, 512]⟩
abbrev S704x1x1 : Shape := ⟨3, ![704, 1, 1]⟩
abbrev S180224x512 : Shape := ⟨2, ![180224, 512]⟩

abbrev nBuf : Space → Nat
  | .hbm => 60
  | .vmem => 0
  | .smem => 0
  | _ => 0

abbrev bufTy : (tb : Table) → Fin (tcTables nBuf tb) → BufTy
  | .hbm, ⟨0, _⟩ => ⟨S704, .i32⟩
  | .hbm, ⟨1, _⟩ => ⟨S704, .i32⟩
  | .hbm, ⟨2, _⟩ => ⟨S180224x2048, .i32⟩
  | .hbm, ⟨3, _⟩ => ⟨S4x64x4096x512, .f32⟩
  | .hbm, ⟨4, _⟩ => ⟨S4x64x4096x512, .f32⟩
  | .hbm, ⟨5, _⟩ => ⟨S_, .i32⟩
  | .hbm, ⟨6, _⟩ => ⟨S180224x2048, .i32⟩
  | .hbm, ⟨7, _⟩ => ⟨S180224x2048, .i32⟩
  | .hbm, ⟨8, _⟩ => ⟨S180224x2048, .f32⟩
  | .hbm, ⟨9, _⟩ => ⟨S_, .i32⟩
  | .hbm, ⟨10, _⟩ => ⟨S180224x2048, .i32⟩
  | .hbm, ⟨11, _⟩ => ⟨S180224x2048, .i32⟩
  | .hbm, ⟨12, _⟩ => ⟨S180224x2048, .f32⟩
  | .hbm, ⟨13, _⟩ => ⟨S180224x4096, .f32⟩
  | .hbm, ⟨14, _⟩ => ⟨S704x256x4096, .f32⟩
  | .hbm, ⟨15, _⟩ => ⟨S1x64x4096x512, .f32⟩
  | .hbm, ⟨16, _⟩ => ⟨S64x4096x512, .f32⟩
  | .hbm, ⟨17, _⟩ => ⟨S_, .i32⟩
  | .hbm, ⟨18, _⟩ => ⟨S704, .i32⟩
  | .hbm, ⟨19, _⟩ => ⟨S704, .i1⟩
  | .hbm, ⟨20, _⟩ => ⟨S_, .i32⟩
  | .hbm, ⟨21, _⟩ => ⟨S704, .i32⟩
  | .hbm, ⟨22, _⟩ => ⟨S704, .i32⟩
  | .hbm, ⟨23, _⟩ => ⟨S704, .i32⟩
  | .hbm, ⟨24, _⟩ => ⟨S704x1, .i32⟩
  | .hbm, ⟨25, _⟩ => ⟨S704x4096x512, .f32⟩
  | .hbm, ⟨26, _⟩ => ⟨S704x256x512, .f32⟩
  | .hbm, ⟨27, _⟩ => ⟨S1x64x4096x512, .f32⟩
  | .hbm, ⟨28, _⟩ => ⟨S64x4096x512, .f32⟩
  | .hbm, ⟨29, _⟩ => ⟨S_, .i32⟩
  | .hbm, ⟨30, _⟩ => ⟨S704, .i32⟩
  | .hbm, ⟨31, _⟩ => ⟨S704, .i1⟩
  | .hbm, ⟨32, _⟩ => ⟨S_, .i32⟩
  | .hbm, ⟨33, _⟩ => ⟨S704, .i32⟩
  | .hbm, ⟨34, _⟩ => ⟨S704, .i32⟩
  | .hbm, ⟨35, _⟩ => ⟨S704, .i32⟩
  | .hbm, ⟨36, _⟩ => ⟨S704x1, .i32⟩
  | .hbm, ⟨37, _⟩ => ⟨S704x4096x512, .f32⟩
  | .hbm, ⟨38, _⟩ => ⟨S704x256x512, .f32⟩
  | .hbm, ⟨39, _⟩ => ⟨S_, .i32⟩
  | .hbm, ⟨40, _⟩ => ⟨S704, .i32⟩
  | .hbm, ⟨41, _⟩ => ⟨S704, .i1⟩
  | .hbm, ⟨42, _⟩ => ⟨S704x1x1, .i1⟩
  | .hbm, ⟨43, _⟩ => ⟨S704x256x512, .f32⟩
  | .hbm, ⟨44, _⟩ => ⟨S704x256x512, .f32⟩
  | .hbm, ⟨45, _⟩ => ⟨S_, .f32⟩
  | .hbm, ⟨46, _⟩ => ⟨S704x256x512, .f32⟩
  | .hbm, ⟨47, _⟩ => ⟨S704x256x512, .f32⟩
  | .hbm, ⟨48, _⟩ => ⟨S_, .f32⟩
  | .hbm, ⟨49, _⟩ => ⟨S704x256x512, .f32⟩
  | .hbm, ⟨50, _⟩ => ⟨S704x256x512, .f32⟩
  | .hbm, ⟨51, _⟩ => ⟨S704x256x512, .f32⟩
  | .hbm, ⟨52, _⟩ => ⟨S704x256x512, .f32⟩
  | .hbm, ⟨53, _⟩ => ⟨S_, .f32⟩
  | .hbm, ⟨54, _⟩ => ⟨S_, .f32⟩
  | .hbm, ⟨55, _⟩ => ⟨S704x256x512, .i1⟩
  | .hbm, ⟨56, _⟩ => ⟨S704x256x512, .f32⟩
  | .hbm, ⟨57, _⟩ => ⟨S704x256x512, .f32⟩
  | .hbm, ⟨58, _⟩ => ⟨S704x256x512, .bf16⟩
  | .hbm, ⟨59, _⟩ => ⟨S180224x512, .bf16⟩
  | _, _ => ⟨S704, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v31 : Ref sig .tc := ⟨.hbm, 51, rfl⟩
abbrev main_v32 : Ref sig .tc := ⟨.hbm, 52, rfl⟩
abbrev main_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩

abbrev nD : Nat := 1
abbrev τ : Topo := Topo.v7x

variable {F : FTy → Type} [FloatOps F]
-- ==== Proof.GlaRuns.lean ====
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What the runs of the scan's body share: its branch conditions over the grid, where its windows are idle, its
    staging and scratch buffers. -/

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.ori (Scalar.cmpi .eq (BitVec.ofNat 32 (i 2).val) 0#32) (Scalar.cmpi .eq (BitVec.ofNat 32 (i 2).val) 1#32))) 0#32) = 1#1
/-- It holds at every point — by arithmetic of the point. -/
theorem hcond0_0 : ∀ t : Fin cfg0.N, cond0_0 (grid0.coords t) :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 2 % 4 := Pipeline.Grid.coords_val t 1 (by decide) rfl
    have e2 : (grid0.coords t 2).val = t.val / 1 % 2 := Pipeline.Grid.coords_val t 2 (by decide) rfl
    simp only [cond0_0, e0, e1, e2]
    word_cmp
   : ∀ t : Fin grid0.N, cond0_0 (grid0.coords t))

/-- The condition of the body's `scf.if` 1 (`k0_h2`), from the grid coordinates (the skeleton's scalar
    chain substituted). -/
abbrev cond0_1 (i : grid0.Coords) : Prop := k0_cond2 i = 1#1
/-- It holds at the points ≡ 0 (mod 2) — decided over the grid. -/
theorem hcond0_1 : ∀ t : Fin cfg0.N, cond0_1 (grid0.coords t) ↔ t.val % 2 = 0 :=
  (by decide +kernel : ∀ t : Fin grid0.N, cond0_1 (grid0.coords t) ↔ t.val % 2 = 0)

/-- The condition of the body's `scf.if` 2 (`k0_h3`), from the grid coordinates (the skeleton's scalar
    chain substituted). -/
abbrev cond0_2 (i : grid0.Coords) : Prop := k0_cond3 i = 1#1
/-- It holds at the points ≡ 1 (mod 2) — decided over the grid. -/
theorem hcond0_2 : ∀ t : Fin cfg0.N, cond0_2 (grid0.coords t) ↔ t.val % 2 = 1 :=
  (by decide +kernel : ∀ t : Fin grid0.N, cond0_2 (grid0.coords t) ↔ t.val % 2 = 1)

/-- The condition of the body's `scf.if` 3 (`k0_h4`), from the grid coordinates (the skeleton's scalar
    chain substituted). -/
abbrev cond0_3 (i : grid0.Coords) : Prop := k0_cond4 i = 1#1
/-- It holds at every point — by arithmetic of the point. -/
theorem hcond0_3 : ∀ t : Fin cfg0.N, cond0_3 (grid0.coords t) :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 2 % 4 := Pipeline.Grid.coords_val t 1 (by decide) rfl
    have e2 : (grid0.coords t 2).val = t.val / 1 % 2 := Pipeline.Grid.coords_val t 2 (by decide) rfl
    simp only [cond0_3, k0_cond4, e0, e1, e2]
    word_cmp
   : ∀ t : Fin grid0.N, cond0_3 (grid0.coords t))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x1x1x512x1024 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S512x1024 .f32 := Memref.whole cc0_scratch0
abbrev scM0_1 : Memref sig .tc .vmem S256x1024 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- Window 8, the output rows, is idle at the forward points, and not at the backward ones. -/
theorem idle_even : ∀ t : Fin cfg0.N, t.val % 2 = 0 → cfg0.idle 8 (grid0.coords t) = true :=
  (by decide +kernel : ∀ t : Fin grid0.N, t.val % 2 = 0 → idle0 8 (grid0.coords t) = true)
theorem live_odd : ∀ t : Fin cfg0.N, t.val % 2 = 1 → cfg0.idle 8 (grid0.coords t) = false :=
  (by decide +kernel : ∀ t : Fin grid0.N, t.val % 2 = 1 → idle0 8 (grid0.coords t) = false)
/-- Window 9, the states, is stored at every point. -/
theorem live_states : ∀ t : Fin cfg0.N, cfg0.idle 9 (grid0.coords t) = false :=
  (by decide +kernel : ∀ t : Fin grid0.N, idle0 9 (grid0.coords t) = false)

end Cert.KernelIdeal.Gla

end
-- ==== Proof.GlaRunA.lean ====
module

public import proofs.«01_k».proof.Proof.GlaRuns

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The forward point's body: on the inputs at their contents it stores the states and the forward outputs; the pieces
    it stores are found by the run. -/
def kernelRunA (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x128 .f32) (harg7 : arg7.IsWhole) (arg8 : Memref sig .tc .vmem S1x128x512 .bf16) (harg8 : arg8.IsWhole) (arg9 : Memref sig .tc .vmem S1x1x512 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S1x2x1x1x512x1024 .f32) (harg12 : arg12.IsWhole) (arg13 : Memref sig .tc .vmem S512x1024 .f32) (harg13 : arg13.IsWhole) (arg14 : Memref sig .tc .vmem S256x1024 .f32) (harg14 : arg14.IsWhole) (hc0 : cond0_0 i) (hc1 : cond0_1 i) (hc2 : ¬cond0_2 i) (hc3 : cond0_3 i)
    (x0 : Vec F S256x512 .bf16) (x1 : Vec F S256x512 .bf16) (x2 : Vec F S256x1024 .bf16) (x3 : Vec F S256x1024 .bf16) (x4 : Vec F S256x128 .f32) (x5 : Vec F S1x128x512 .bf16) (x6 : Vec F S1x1x512 .f32) (x7 : Vec F S1x1024 .f32) :
    { L : (List (View.Piece (Elt F) S1x2x1x1x512x1024 .f32)) × (List (View.Piece (Elt F) S256x1024 .f32)) //
      ∀ (E : Set ℕ) (K : PUnit → sProp 𝕄) (y8 : Vec F S256x1024 .bf16),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare y8 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare y8 ∗ (∃ f, arg12.view.loc (c : Thread nD τ) ↦[arg12.view.set]{fullShare} arg12.view.writes (Elt F) f L.1) ∗ (∃ d, owns (c : Thread nD τ) arg13 fullShare d) ∗ (∃ f, arg14.view.loc (c : Thread nD τ) ↦[arg14.view.set]{fullShare} arg14.view.writes (Elt F) f L.2)) -∗ K ⟨⟩))
          ⊢ wp frame (wpE (defs₀ (F := F)) Variants.none c none) E (cc0_gla_scan i arg3 harg3 arg4 harg4 arg5 harg5 arg6 harg6 arg7 harg7 arg8 harg8 arg9 harg9 arg10 harg10 arg11 harg11 arg12 harg12 arg13 harg13 arg14 harg14) K } := by
  refine ⟨(?_, ?_), fun E K y8 => ?run⟩
  case run =>
    simp only [cc0_gla_scan_eq_skeleton]; unfold cc0_gla_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    obtain rfl := harg11.eq_unread hf8
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]
    · iexists _, _; isplitr; swap; · iexact HS0
      ipureintro; rfl
    iexists _; iexact HS1

end Cert.KernelIdeal.Gla

end
-- ==== Proof.GlaRunB.lean ====
module

public import proofs.«01_k».proof.Proof.GlaRunA

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The backward point's body: on the inputs at their contents and the forward outputs at `xs` it stores the output
    rows and the states; the pieces it stores are found by the run. -/
def kernelRunB (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x128 .f32) (harg7 : arg7.IsWhole) (arg8 : Memref sig .tc .vmem S1x128x512 .bf16) (harg8 : arg8.IsWhole) (arg9 : Memref sig .tc .vmem S1x1x512 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S1x2x1x1x512x1024 .f32) (harg12 : arg12.IsWhole) (arg13 : Memref sig .tc .vmem S512x1024 .f32) (harg13 : arg13.IsWhole) (arg14 : Memref sig .tc .vmem S256x1024 .f32) (harg14 : arg14.IsWhole) (hc0 : cond0_0 i) (hc1 : ¬cond0_1 i) (hc2 : cond0_2 i) (hc3 : cond0_3 i)
    (x0 : Vec F S256x512 .bf16) (x1 : Vec F S256x512 .bf16) (x2 : Vec F S256x1024 .bf16) (x3 : Vec F S256x1024 .bf16) (x4 : Vec F S256x128 .f32) (x5 : Vec F S1x128x512 .bf16) (x6 : Vec F S1x1x512 .f32) (x7 : Vec F S1x1024 .f32) (xs : Vec F S256x1024 .f32) :
    { L : (List (View.Piece (Elt F) S256x1024 .bf16)) × (List (View.Piece (Elt F) S1x2x1x1x512x1024 .f32)) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L.1) ∗ (∃ f, arg12.view.loc (c : Thread nD τ) ↦[arg12.view.set]{fullShare} arg12.view.writes (Elt F) f L.2) ∗ (∃ d, owns (c : Thread nD τ) arg13 fullShare d) ∗ owns (c : Thread nD τ) arg14 fullShare xs) -∗ K ⟨⟩))
          ⊢ wp frame (wpE (defs₀ (F := F)) Variants.none c none) E (cc0_gla_scan i arg3 harg3 arg4 harg4 arg5 harg5 arg6 harg6 arg7 harg7 arg8 harg8 arg9 harg9 arg10 harg10 arg11 harg11 arg12 harg12 arg13 harg13 arg14 harg14) K } := by
  refine ⟨(?_, ?_), fun E K => ?run⟩
  case run =>
    simp only [cc0_gla_scan_eq_skeleton]; unfold cc0_gla_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    obtain rfl := harg14.eq_unread hfs1
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [HS0]
    · iexists _, _; isplitr; swap; · iexact HS0
      ipureintro; rfl
    iexists _; isplitr; · ipureintro; exact harg14.read_unread _
    iexact HS1

end Cert.KernelIdeal.Gla

end
-- ==== Proof.GlaRun.lean ====
module

public import proofs.«01_k».proof.Proof.GlaRunB

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The scan of the whole grid: what each point leaves, the body's triple at each point, and the run. -/

variable (m : (ℓ : Loc nD τ sig) → Buf (Elt F) ℓ) (ρ : Dev nD → PrngReg)

/-! ## Where the body stores -/

/-- A forward point stores its rows at rows 0, 64, 128, 192 of the forward buffer. -/
theorem off1_even : ∀ t : Fin cfg0.N, t.val % 2 = 0 → k0_off1 (grid0.coords t) 0#32 = ![0, 0]
    ∧ k0_off1 (grid0.coords t) 64#32 = ![64, 0] ∧ k0_off1 (grid0.coords t) 128#32 = ![128, 0]
    ∧ k0_off1 (grid0.coords t) 192#32 = ![192, 0] :=
  (by decide +kernel : ∀ t : Fin grid0.N, t.val % 2 = 0 → k0_off1 (grid0.coords t) 0#32 = ![0, 0]
    ∧ k0_off1 (grid0.coords t) 64#32 = ![64, 0] ∧ k0_off1 (grid0.coords t) 128#32 = ![128, 0]
    ∧ k0_off1 (grid0.coords t) 192#32 = ![192, 0])

/-- A backward point reads them there. -/
theorem off2_odd : ∀ t : Fin cfg0.N, t.val % 2 = 1 → k0_off2 (grid0.coords t) 0#32 = ![0, 0]
    ∧ k0_off2 (grid0.coords t) 64#32 = ![64, 0] ∧ k0_off2 (grid0.coords t) 128#32 = ![128, 0]
    ∧ k0_off2 (grid0.coords t) 192#32 = ![192, 0] :=
  (by decide +kernel : ∀ t : Fin grid0.N, t.val % 2 = 1 → k0_off2 (grid0.coords t) 0#32 = ![0, 0]
    ∧ k0_off2 (grid0.coords t) 64#32 = ![64, 0] ∧ k0_off2 (grid0.coords t) 128#32 = ![128, 0]
    ∧ k0_off2 (grid0.coords t) 192#32 = ![192, 0])

/-- Four blocks of 64 rows cover 256 rows. -/
theorem rows_cover (o0 o1 o2 o3 : Fin 2 → Nat) (h0 : o0 = ![0, 0]) (h1 : o1 = ![64, 0]) (h2 : o2 = ![128, 0]) (h3 : o3 = ![192, 0])
    (b0 : ∀ a, o0 a + S64x1024.size a ≤ S256x1024.size a) (b1 : ∀ a, o1 a + S64x1024.size a ≤ S256x1024.size a)
    (b2 : ∀ a, o2 a + S64x1024.size a ≤ S256x1024.size a) (b3 : ∀ a, o3 a + S64x1024.size a ≤ S256x1024.size a) (y : S256x1024.Idx) :
    y ∈ (Rect.unit (s := S256x1024) o0 S64x1024.size b0).set ∨ y ∈ (Rect.unit (s := S256x1024) o1 S64x1024.size b1).set
      ∨ y ∈ (Rect.unit (s := S256x1024) o2 S64x1024.size b2).set ∨ y ∈ (Rect.unit (s := S256x1024) o3 S64x1024.size b3).set := by
  subst h0 h1 h2 h3
  have e0 : (y 0).val < 256 := (y 0).isLt
  have e1 : (y 1).val < 1024 := (y 1).isLt
  have key : ∀ (r : Nat) (b : ∀ a, (![r, 0] : Fin 2 → Nat) a + S64x1024.size a ≤ S256x1024.size a), r ≤ (y 0).val → (y 0).val < r + 64 →
      y ∈ (Rect.unit (s := S256x1024) ![r, 0] S64x1024.size b).set := by
    intro r b hl hr
    rw [Rect.mem_set_unit]
    intro a
    match a with
    | ⟨0, _⟩ => exact ⟨hl, hr⟩
    | ⟨1, _⟩ => exact ⟨Nat.zero_le _, by show (y 1).val < 0 + 1024; omega⟩
  by_cases c1 : (y 0).val < 64
  · exact .inl (key 0 _ (by omega) (by omega))
  by_cases c2 : (y 0).val < 128
  · exact .inr (.inl (key 64 _ (by omega) (by omega)))
  by_cases c3 : (y 0).val < 192
  · exact .inr (.inr (.inl (key 128 _ (by omega) (by omega))))
  exact .inr (.inr (.inr (key 192 _ (by omega) (by omega))))

/-! ## The run at a point -/

/-- The forward body's run at a point, on the point's blocks. -/
def runA (c : Dev nD) (t : Fin cfg0.N) (h : t.val % 2 = 0) :=
  kernelRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _)
    (hcond0_0 t) ((hcond0_1 t).mpr h) (fun h' => by have := (hcond0_2 t).mp h'; omega) (hcond0_3 t) (iblk m c 0 t) (iblk m c 1 t) (iblk m c 2 t) (iblk m c 3 t) (iblk m c 4 t) (iblk m c 5 t) (iblk m c 6 t) (iblk m c 7 t)

/-- The backward body's run at a point, on the point's blocks and the forward rows `xs`. -/
def runB (c : Dev nD) (t : Fin cfg0.N) (h : t.val % 2 = 1) (xs : Vec F S256x1024 .f32) :=
  kernelRunB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _)
    (hcond0_0 t) (fun h' => by have := (hcond0_1 t).mp h'; omega) ((hcond0_2 t).mpr h) (hcond0_3 t) (iblk m c 0 t) (iblk m c 1 t) (iblk m c 2 t) (iblk m c 3 t) (iblk m c 4 t) (iblk m c 5 t) (iblk m c 6 t) (iblk m c 7 t) xs

theorem coverA_states (c : Dev nD) (t : Fin cfg0.N) (h : t.val % 2 = 0) (y : S1x2x1x1x512x1024.Idx) :
    ∃ pc ∈ (runA m c t h).1.1, y ∈ pc.1.set :=
  View.cover_of_tiledL (runA m c t h).1.1 ![1, 1, 1, 1, 512, 1024] (by sl_kernel_rfl) y

theorem coverA_rows (c : Dev nD) (t : Fin cfg0.N) (h : t.val % 2 = 0) (y : S256x1024.Idx) :
    ∃ pc ∈ (runA m c t h).1.2, y ∈ pc.1.set := by
  obtain ⟨h0, h1, h2, h3⟩ := off1_even t h
  unfold runA
  unfold kernelRunA
  dsimp only
  simp only [List.exists_mem_cons_iff, List.not_mem_nil, false_and, exists_false, or_false]
  rcases rows_cover _ _ _ _ h0 h1 h2 h3 (k0_off1_inb (grid0.coords t) ((hcond0_1 t).mpr h) 0) (k0_off1_inb (grid0.coords t) ((hcond0_1 t).mpr h) 1)
    (k0_off1_inb (grid0.coords t) ((hcond0_1 t).mpr h) 2) (k0_off1_inb (grid0.coords t) ((hcond0_1 t).mpr h) 3) y with h | h | h | h
  · exact .inr (.inr (.inr h))
  · exact .inr (.inr (.inl h))
  · exact .inr (.inl h)
  · exact .inl h

theorem coverB_states (c : Dev nD) (t : Fin cfg0.N) (h : t.val % 2 = 1) (xs) (y : S1x2x1x1x512x1024.Idx) :
    ∃ pc ∈ (runB m c t h xs).1.2, y ∈ pc.1.set :=
  View.cover_of_tiledL (runB m c t h xs).1.2 ![1, 1, 1, 1, 512, 1024] (by sl_kernel_rfl) y

theorem coverB_rows (c : Dev nD) (t : Fin cfg0.N) (h : t.val % 2 = 1) (xs) (y : S256x1024.Idx) :
    ∃ pc ∈ (runB m c t h xs).1.1, y ∈ pc.1.set :=
  View.cover_of_tiledL (runB m c t h xs).1.1 ![64, 1024] (by sl_kernel_rfl) y

/-! ## What the points leave -/

/-- The forward rows a forward point leaves (nothing in particular at a backward one). -/
def rowsAt (c : Dev nD) (t : Fin cfg0.N) : Vec F S256x1024 .f32 :=
  if h : t.val % 2 = 0 then View.canon (runA m c t h).1.2 else View.canon []

theorem rowsAt_even (c : Dev nD) (t : Fin cfg0.N) (h : t.val % 2 = 0) : rowsAt m c t = View.canon (runA m c t h).1.2 := dif_pos h

/-- The point before. -/
abbrev before (t : Fin cfg0.N) : Fin cfg0.N := ⟨t.val - 1, by have := t.isLt; omega⟩

/-- The states' block after a point. -/
def statesAt (c : Dev nD) (t : Fin cfg0.N) : Vec F S1x2x1x1x512x1024 .f32 :=
  if h : t.val % 2 = 0 then View.canon (runA m c t h).1.1
  else View.canon (runB m c t (by omega) (rowsAt m c (before t))).1.2

theorem statesAt_even (c : Dev nD) (t : Fin cfg0.N) (h : t.val % 2 = 0) : statesAt m c t = View.canon (runA m c t h).1.1 := dif_pos h
theorem statesAt_odd (c : Dev nD) (t : Fin cfg0.N) (h : t.val % 2 = 1) :
    statesAt m c t = View.canon (runB m c t h (rowsAt m c (before t))).1.2 := dif_neg (by omega)

/-- The output rows after a backward point (nothing in particular at a forward one). -/
def outAt (c : Dev nD) (t : Fin cfg0.N) : Vec F S256x1024 .bf16 :=
  if h : t.val % 2 = 1 then View.canon (runB m c t h (rowsAt m c (before t))).1.1 else View.canon []

theorem outAt_odd (c : Dev nD) (t : Fin cfg0.N) (h : t.val % 2 = 1) :
    outAt m c t = View.canon (runB m c t h (rowsAt m c (before t))).1.1 := dif_pos h

/-- The invariant before position `n`: between a forward point and its backward one the forward buffer holds the forward
    rows; otherwise the scratch is at anything. -/
def PhiS (c : Dev nD) (n : ℕ) (hn : n ≤ cfg0.N) : sProp 𝕄 :=
  if h : n % 2 = 1 then
    iprop(iprop((∃ d, owns (c : Thread nD τ) scM0_0 fullShare d) ∗ owns (c : Thread nD τ) scM0_1 fullShare (rowsAt m c ⟨n - 1, by omega⟩)) ∗ (∃ r, prngReg c r))
  else Pipeline.ΦA spec0 c

theorem PhiS_odd (c : Dev nD) (n : ℕ) (hn : n ≤ cfg0.N) (h : n % 2 = 1) : PhiS m c n hn =
    iprop(iprop((∃ d, owns (c : Thread nD τ) scM0_0 fullShare d) ∗ owns (c : Thread nD τ) scM0_1 fullShare (rowsAt m c ⟨n - 1, by omega⟩)) ∗ (∃ r, prngReg c r)) := dif_pos h
theorem PhiS_even (c : Dev nD) (n : ℕ) (hn : n ≤ cfg0.N) (h : n % 2 = 0) : PhiS m c n hn = Pipeline.ΦA spec0 c := dif_neg (by omega)

/-! ## The pipeline's proof data -/

/-- The arrays as the region finds them; after a point each input's buffer at its block, the outputs at what the run's
    pieces hold. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
    | ⟨9, _⟩ => statesAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t := by dsimp only [dats]
theorem after0_9 (c : Dev nD) (t : Fin cfg0.N) : (dats m 0 c).after 9 t = statesAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem flush_even : ∀ t : Fin cfg0.N, t.val % 2 = 0 → (cfg0.win 8).flush t = false := fun t h => by
  have e := flush0_8 t
  cases hf : (cfg0.win 8).flush t
  · rfl
  · have := e.mp hf; omega
theorem leaves_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]

theorem leaves_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]

theorem leaves_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]

theorem leaves_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]

theorem leaves_4 (c : Dev nD) (t : Fin cfg0.N) :
    (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]

theorem leaves_5 (c : Dev nD) (t : Fin cfg0.N) :
    (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_5 t], after0_5]

theorem leaves_6 (c : Dev nD) (t : Fin cfg0.N) :
    (dats m 0 c).leavesExact 6 t = owns (c : Thread nD τ) (ms0_6 t) fullShare (iblk m c 6 t) := by
  rw [show (dats m 0 c).leavesExact 6 t = owns (c : Thread nD τ) (ms0_6 t) fullShare ((dats m 0 c).after 6 t) from by
    unfold Dat.leavesExact; rw [liveAt0_6 t], after0_6]

theorem leaves_7 (c : Dev nD) (t : Fin cfg0.N) :
    (dats m 0 c).leavesExact 7 t = owns (c : Thread nD τ) (ms0_7 t) fullShare (iblk m c 7 t) := by
  rw [show (dats m 0 c).leavesExact 7 t = owns (c : Thread nD τ) (ms0_7 t) fullShare ((dats m 0 c).after 7 t) from by
    unfold Dat.leavesExact; rw [liveAt0_7 t], after0_7]

theorem leaves_9 (c : Dev nD) (t : Fin cfg0.N) :
    (dats m 0 c).leavesExact 9 t = owns (c : Thread nD τ) (ms0_9 t) fullShare (statesAt m c t) := by
  rw [show (dats m 0 c).leavesExact 9 t = owns (c : Thread nD τ) (ms0_9 t) fullShare ((dats m 0 c).after 9 t) from by
    unfold Dat.leavesExact; rw [live_states t], after0_9]

set_option maxHeartbeats 4000000 in
/-- The body at any point: a forward point keeps the output window as found and leaves its rows in the forward buffer; a
    backward one reads them there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_castSucc]
  rw [leaves_0, leaves_1, leaves_2, leaves_3, leaves_4, leaves_5, leaves_6, leaves_7, leaves_9]
  by_cases h : t.val % 2 = 0
  · rw [PhiS_odd m c (t.val + 1) _ (by omega), PhiS_even m c t.val _ h, PhiA0_eq,
      Dat.leavesExact_idle (dats m 0 c) 8 t (idle_even t h) (flush_even t h), statesAt_even m c t h]
    rw [show rowsAt m c ⟨t.val + 1 - 1, by omega⟩ = View.canon (runA m c t h).1.2 from rowsAt_even m c t h]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA m c t h).2 Set.univ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    iintro ⟨H0, H1, H2, H3, H4, H5, H6, H7, H8, ⟨%e9, H9⟩, HS0, ⟨%es, HS1⟩⟩
    isplitl [HS0 HS1 Hg]
    · isplitl [HS0 HS1]
      · isplitl [HS0]; · iexact HS0
        unfold owns; iexists _; isplitr
        swap; · iexact HS1
        ipureintro; exact View.read_writes_eq_canon _ _ _ (coverA_rows m c t h)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    unfold owns; iexists _; isplitr
    swap; · iexact H9
    ipureintro; exact View.read_writes_eq_canon _ _ _ (coverA_states m c t h)
  · have h : t.val % 2 = 1 := by omega
    rw [PhiS_even m c (t.val + 1) _ (by omega), PhiS_odd m c t.val _ h, PhiA0_eq,
      show (dats m 0 c).leavesExact 8 t = owns (c : Thread nD τ) (ms0_8 t) fullShare ((dats m 0 c).after 8 t) from by
        unfold Dat.leavesExact; rw [live_odd t h], after0_8, outAt_odd m c t h, statesAt_odd m c t h]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB m c t h (rowsAt m c (before t))).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    iintro ⟨H0, H1, H2, H3, H4, H5, H6, H7, ⟨%e8, H8⟩, ⟨%e9, H9⟩, HS0, HS1⟩
    isplitl [HS0 HS1 Hg]
    · isplitl [HS0 HS1]
      · isplitl [HS0]; · iexact HS0
        iexists _; iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_eq_canon _ _ _ (coverB_rows m c t h _)
    unfold owns; iexists _; isplitr
    swap; · iexact H9
    ipureintro; exact View.read_writes_eq_canon _ _ _ (coverB_states m c t h _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_even m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_even m c cfg0.N _ (by rw [show cfg0.N = 128 from N_0])]
  try exact Idealize.SL.BI.Entails.refl _

/-! ## The run and the frame -/

set_option backward.isDefEq.respectTransparency.types false in
/-- Every run ends, the arrays at what the points leave and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.KernelIdeal.Gla

end
-- ==== Proof.RefIter.lean ====
module

public import proofs.«01_k».proof.Proof.Gen.ReferenceIdeal.Run
public import proofs.«01_k».proof.Proof.Gen.ReferenceIdeal.Step

@[expose] public section

noncomputable section

/-! The reference's loop over the chunks as the step of `Step.lean` iterated: at a valuation that holds a state, every
    value of one trip is that module's, so one trip keeps holding with `step` applied, and the run's results are the
    fields of `step` iterated from `init`. -/

namespace Cert.ReferenceIdeal.Iter

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v68_6) = s.main_v68_6
  f_7 : V0 (Proc.devRef .tc main_v68_7) = s.main_v68_7
  f_0 : V0 (Proc.devRef .tc main_v68_0) = s.main_v68_0
  f_1 : V0 (Proc.devRef .tc main_v68_1) = s.main_v68_1
  f_2 : V0 (Proc.devRef .tc main_v68_2) = s.main_v68_2
  f_3 : V0 (Proc.devRef .tc main_v68_3) = s.main_v68_3
  n_5 : V0 (Proc.devRef .tc main_v68_5) = constantI S_ 32 (BitVec.ofNat 32 j)
  k_4 : V0 (Proc.devRef .tc main_v68_4) = Cert.ReferenceIdeal.Step.K_main_v58 (F := F)

variable {V0 s j}

set_option maxRecDepth 8192 in
theorem al_0 (h : Holds V0 s j) : (constantI S_ 32 0#32 : (Proc.devRef .tc main_while0b_call4_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call4_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call4_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call4_c_2 : DevRef τ sig).ty.Contents (Elt F)) = Cert.ReferenceIdeal.Step.b3 j s := by
  unfold Cert.ReferenceIdeal.Step.b3
  rfl
set_option maxRecDepth 8192 in
theorem al_4 (h : Holds V0 s j) : (constantI S_ 32 0#32 : (Proc.devRef .tc main_while0b_call4_c_3 : DevRef τ sig).ty.Contents (Elt F)) = Cert.ReferenceIdeal.Step.b4 j s := by
  unfold Cert.ReferenceIdeal.Step.b4
  rfl
set_option maxRecDepth 8192 in
theorem al_5 (h : Holds V0 s j) : (Host.dynamicSlice S1x2x16x4x64x512 (V0 (Proc.devRef .tc main_v68_0)) (fun k => (((![V0 (Proc.devRef .tc main_v68_5), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S4x2x16x4x64x512_S1x2x16x4x64x512 : (Proc.devRef .tc main_while0b_call4_v0 : DevRef τ sig).ty.Contents (Elt F)) = Cert.ReferenceIdeal.Step.b5 j s := by
  unfold Cert.ReferenceIdeal.Step.b5
  rw [← al_0 h, ← al_1 h, ← al_2 h, ← al_3 h, ← al_4 h, h.f_0, h.n_5]
  try rfl
set_option maxRecDepth 8192 in
theorem al_6 (h : Holds V0 s j) : (shapeCast S2x16x4x64x512 (Host.dynamicSlice S1x2x16x4x64x512 (V0 (Proc.devRef .tc main_v68_0)) (fun k => (((![V0 (Proc.devRef .tc main_v68_5), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S4x2x16x4x64x512_S1x2x16x4x64x512) shapeCasts_S1x2x16x4x64x512_S2x16x4x64x512 : (Proc.devRef .tc main_while0b_v118 : DevRef τ sig).ty.Contents (Elt F)) = Cert.ReferenceIdeal.Step.b6 j s := by
  unfold Cert.ReferenceIdeal.Step.b6
  rw [← al_5 h]
  try rfl
set_option maxRecDepth 8192 in
theorem al_7 (h : Holds V0 s j) : (constantI S_ 32 0#32 : (Proc.devRef .tc main_while0b_call5_c : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call5_c_0 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call5_c_1 : DevRef τ sig).ty.Contents (Elt F)) = Cert.ReferenceIdeal.Step.b9 j s := by
  unfold Cert.ReferenceIdeal.Step.b9
  rfl
set_option maxRecDepth 8192 in
theorem al_10 (h : Holds V0 s j) : (constantI S_ 32 0#32 : (Proc.devRef .tc main_while0b_call5_c_2 : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call5_c_3 : DevRef τ sig).ty.Contents (Elt F)) = Cert.ReferenceIdeal.Step.b11 j s := by
  unfold Cert.ReferenceIdeal.Step.b11
  rfl
set_option maxRecDepth 8192 in
theorem al_12 (h : Holds V0 s j) : (Host.dynamicSlice S1x2x16x4x64x512 (V0 (Proc.devRef .tc main_v68_1)) (fun k => (((![V0 (Proc.devRef .tc main_v68_5), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S4x2x16x4x64x512_S1x2x16x4x64x512 : (Proc.devRef .tc main_while0b_call5_v0 : DevRef τ sig).ty.Contents (Elt F)) = Cert.ReferenceIdeal.Step.b12 j s := by
  unfold Cert.ReferenceIdeal.Step.b12
  rw [← al_7 h, ← al_8 h, ← al_9 h, ← al_10 h, ← al_11 h, h.f_1, h.n_5]
  try rfl
set_option maxRecDepth 8192 in
theorem al_13 (h : Holds V0 s j) : (res_main_while0b_v119 V0 : (Proc.devRef .tc main_while0b_v119 : DevRef τ sig).ty.Contents (Elt F)) = Cert.ReferenceIdeal.Step.b13 j s := by
  unfold res_main_while0b_v119 Cert.ReferenceIdeal.Step.b13
  rw [← al_12 h]
  try rfl
set_option maxRecDepth 8192 in
theorem al_14 (h : Holds V0 s j) : (constantI S_ 32 0#32 : (Proc.devRef .tc main_while0b_call6_c : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call6_c_0 : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call6_c_1 : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call6_c_2 : DevRef τ sig).ty.Contents (Elt F)) = Cert.ReferenceIdeal.Step.b17 j s := by
  unfold Cert.ReferenceIdeal.Step.b17
  rfl
set_option maxRecDepth 8192 in
theorem al_18 (h : Holds V0 s j) : (constantI S_ 32 0#32 : (Proc.devRef .tc main_while0b_call6_c_3 : DevRef τ sig).ty.Contents (Elt F)) = Cert.ReferenceIdeal.Step.b18 j s := by
  unfold Cert.ReferenceIdeal.Step.b18
  rfl
set_option maxRecDepth 8192 in
theorem al_19 (h : Holds V0 s j) : (Host.dynamicSlice S1x2x16x4x64x1024 (V0 (Proc.devRef .tc main_v68_2)) (fun k => (((![V0 (Proc.devRef .tc main_v68_5), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S4x2x16x4x64x1024_S1x2x16x4x64x1024 : (Proc.devRef .tc main_while0b_call6_v0 : DevRef τ sig).ty.Contents (Elt F)) = Cert.ReferenceIdeal.Step.b19 j s := by
  unfold Cert.ReferenceIdeal.Step.b19
  rw [← al_14 h, ← al_15 h, ← al_16 h, ← al_17 h, ← al_18 h, h.f_2, h.n_5]
  try rfl
set_option maxRecDepth 8192 in
theorem al_20 (h : Holds V0 s j) : (res_main_while0b_v120 V0 : (Proc.devRef .tc main_while0b_v120 : DevRef τ sig).ty.Contents (Elt F)) = Cert.ReferenceIdeal.Step.b20 j s := by
  unfold res_main_while0b_v120 Cert.ReferenceIdeal.Step.b20
  rw [← al_19 h]
  try rfl
set_option maxRecDepth 8192 in
theorem al_21 (h : Holds V0 s j) : (constantI S_ 32 0#32 : (Proc.devRef .tc main_while0b_call7_c : DevRef τ sig).ty.Contents (Elt F)) = Cert.ReferenceIdeal.Step.b21 j s := by
  unfold Cert.ReferenceIdeal.Step.b21
  rfl
set_option maxRecDepth 8192 in
theorem al_22 (h : Holds V0 s j) : (constantI S_ 32 0#32 : (Proc.devRef .tc main_while0b_call7_c_0 : DevRef τ sig).ty.Contents (Elt F)) = Cert.ReferenceIdeal.Step.b22 j s := by
  unfold Cert.ReferenceIdeal.Step.b22
  rfl
set_option maxRecDepth 8192 in
theorem al_23 (h : Holds V0 s j) : (constantI S_ 32 0#32 : (Proc.devRef .tc main_while0b_call7_c_1 : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call7_c_2 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call7_c_3 : DevRef τ sig).ty.Contents (Elt F)) = Cert.ReferenceIdeal.Step.b25 j s := by
  unfold Cert.ReferenceIdeal.Step.b25
  rfl
set_option maxRecDepth 8192 in
theorem al_26 (h : Holds V0 s j) : (Host.dynamicSlice S1x2x16x4x64x512 (V0 (Proc.devRef .tc main_v68_3)) (fun k => (((![V0 (Proc.devRef .tc main_v68_5), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S4x2x16x4x64x512_S1x2x16x4x64x512 : (Proc.devRef .tc main_while0b_call7_v0 : DevRef τ sig).ty.Contents (Elt F)) = Cert.ReferenceIdeal.Step.b26 j s := by
  unfold Cert.ReferenceIdeal.Step.b26
  rw [← al_21 h, ← al_22 h, ← al_23 h, ← al_24 h, ← al_25 h, h.f_3, h.n_5]
  try rfl
set_option maxRecDepth 8192 in
theorem al_27 (h : Holds V0 s j) : (shapeCast S2x16x4x64x512 (Host.dynamicSlice S1x2x16x4x64x512 (V0 (Proc.devRef .tc main_v68_3)) (fun k => (((![V0 (Proc.devRef .tc main_v68_5), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S4x2x16x4x64x512_S1x2x16x4x64x512) shapeCasts_S1x2x16x4x64x512_S2x16x4x64x512 : (Proc.devRef .tc main_while0b_v121 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (constant S_ .f32 0x00000000#32 : (Proc.devRef .tc main_while0b_call8_call0_cst : DevRef τ sig).ty.Contents (Elt F)) = Cert.ReferenceIdeal.Step.b28 j s := by
  unfold Cert.ReferenceIdeal.Step.b28
  rfl
set_option maxRecDepth 8192 in
theorem al_29 (h : Holds V0 s j) : (broadcastInDim S_ ![] bcast_S_S_ (constant S_ .f32 0x00000000#32) : (Proc.devRef .tc main_while0b_call8_call0_v0 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (res_main_while0b_v122 V0 : (Proc.devRef .tc main_while0b_v122 : DevRef τ sig).ty.Contents (Elt F)) = Cert.ReferenceIdeal.Step.b30 j s := by
  unfold res_main_while0b_v122 Cert.ReferenceIdeal.Step.b30
  rw [← al_27 h, ← al_29 h]
  try rfl
set_option maxRecDepth 8192 in
theorem al_31 (h : Holds V0 s j) : (res_main_while0b_v123 V0 : (Proc.devRef .tc main_while0b_v123 : DevRef τ sig).ty.Contents (Elt F)) = Cert.ReferenceIdeal.Step.b31 j s := by
  unfold res_main_while0b_v123 Cert.ReferenceIdeal.Step.b31
  rw [← al_30 h]
  try rfl
set_option maxRecDepth 8192 in
theorem al_32 (h : Holds V0 s j) : (Host.exp (res_main_while0b_v122 V0) : (Proc.devRef .tc main_while0b_v124 : DevRef τ sig).ty.Contents (Elt F)) = Cert.ReferenceIdeal.Step.b32 j s := by
  unfold Cert.ReferenceIdeal.Step.b32
  rw [← al_30 h]
  try rfl
set_option maxRecDepth 8192 in
theorem al_33 (h : Holds V0 s j) : (res_main_while0b_v125 V0 : (Proc.devRef .tc main_while0b_v125 : DevRef τ sig).ty.Contents (Elt F)) = Cert.ReferenceIdeal.Step.b33 j s := by
  unfold res_main_while0b_v125 Cert.ReferenceIdeal.Step.b33
  rw [← al_6 h, ← al_32 h]
  try rfl
set_option maxRecDepth 8192 in
theorem al_34 (h : Holds V0 s j) : (Host.negf (res_main_while0b_v122 V0) : (Proc.devRef .tc main_while0b_v126 : DevRef τ sig).ty.Contents (Elt F)) = Cert.ReferenceIdeal.Step.b34 j s := by
  unfold Cert.ReferenceIdeal.Step.b34
  rw [← al_30 h]
  try rfl
set_option maxRecDepth 8192 in
theorem al_35 (h : Holds V0 s j) : (Host.exp (Host.negf (res_main_while0b_v122 V0)) : (Proc.devRef .tc main_while0b_v127 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (mulf (res_main_while0b_v119 V0) (Host.exp (Host.negf (res_main_while0b_v122 V0))) : (Proc.devRef .tc main_while0b_v128 : DevRef τ sig).ty.Contents (Elt F)) = Cert.ReferenceIdeal.Step.b36 j s := by
  unfold Cert.ReferenceIdeal.Step.b36
  rw [← al_13 h, ← al_35 h]
  try rfl
set_option maxRecDepth 8192 in
theorem al_37 (h : Holds V0 s j) : (Host.dotGeneral dot_S2x16x4x64x512_S2x16x4x64x512_S2x16x4x64x64_4_4_3_3_012_012 none (res_main_while0b_v125 V0) (mulf (res_main_while0b_v119 V0) (Host.exp (Host.negf (res_main_while0b_v122 V0)))) : (Proc.devRef .tc main_while0b_v129 : DevRef τ sig).ty.Contents (Elt F)) = Cert.ReferenceIdeal.Step.b37 j s := by
  unfold Cert.ReferenceIdeal.Step.b37
  rw [← al_33 h, ← al_36 h]
  try rfl
set_option maxRecDepth 8192 in
theorem al_38 (h : Holds V0 s j) : (constant S_ .f32 0x00000000#32 : (Proc.devRef .tc main_while0b_cst_19 : DevRef τ sig).ty.Contents (Elt F)) = Cert.ReferenceIdeal.Step.b38 j s := by
  unfold Cert.ReferenceIdeal.Step.b38
  rfl
set_option maxRecDepth 8192 in
theorem al_39 (h : Holds V0 s j) : (id (constant S_ .f32 0x00000000#32) : (Proc.devRef .tc main_while0b_call9_v0 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (broadcastInDim S2x16x4x64x64 ![3, 4] bcast_S64x64_S2x16x4x64x64_3_4 (V0 (Proc.devRef .tc main_v68_4)) : (Proc.devRef .tc main_while0b_call9_v1 : DevRef τ sig).ty.Contents (Elt F)) = Cert.ReferenceIdeal.Step.b40 j s := by
  unfold Cert.ReferenceIdeal.Step.b40
  rw [h.k_4]
  try rfl
set_option maxRecDepth 8192 in
theorem al_41 (h : Holds V0 s j) : (broadcastInDim S2x16x4x64x64 ![] bcast_S_S2x16x4x64x64 (id (constant S_ .f32 0x00000000#32)) : (Proc.devRef .tc main_while0b_call9_v2 : DevRef τ sig).ty.Contents (Elt F)) = Cert.ReferenceIdeal.Step.b41 j s := by
  unfold Cert.ReferenceIdeal.Step.b41
  rw [← al_39 h]
  try rfl
set_option maxRecDepth 8192 in
theorem al_42 (h : Holds V0 s j) : (select (broadcastInDim S2x16x4x64x64 ![3, 4] bcast_S64x64_S2x16x4x64x64_3_4 (V0 (Proc.devRef .tc main_v68_4))) (Host.dotGeneral dot_S2x16x4x64x512_S2x16x4x64x512_S2x16x4x64x64_4_4_3_3_012_012 none (res_main_while0b_v125 V0) (mulf (res_main_while0b_v119 V0) (Host.exp (Host.negf (res_main_while0b_v122 V0))))) (broadcastInDim S2x16x4x64x64 ![] bcast_S_S2x16x4x64x64 (id (constant S_ .f32 0x00000000#32))) : (Proc.devRef .tc main_while0b_v130 : DevRef τ sig).ty.Contents (Elt F)) = Cert.ReferenceIdeal.Step.b42 j s := by
  unfold Cert.ReferenceIdeal.Step.b42
  rw [← al_40 h, ← al_37 h, ← al_41 h]
  try rfl
set_option maxRecDepth 8192 in
theorem al_43 (h : Holds V0 s j) : (Host.dotGeneral dot_S2x16x4x64x64_S2x16x4x64x1024_S2x16x4x64x1024_4_3_3_4_012_012 none (select (broadcastInDim S2x16x4x64x64 ![3, 4] bcast_S64x64_S2x16x4x64x64_3_4 (V0 (Proc.devRef .tc main_v68_4))) (Host.dotGeneral dot_S2x16x4x64x512_S2x16x4x64x512_S2x16x4x64x64_4_4_3_3_012_012 none (res_main_while0b_v125 V0) (mulf (res_main_while0b_v119 V0) (Host.exp (Host.negf (res_main_while0b_v122 V0))))) (broadcastInDim S2x16x4x64x64 ![] bcast_S_S2x16x4x64x64 (id (constant S_ .f32 0x00000000#32)))) (res_main_while0b_v120 V0) : (Proc.devRef .tc main_while0b_v131 : DevRef τ sig).ty.Contents (Elt F)) = Cert.ReferenceIdeal.Step.b43 j s := by
  unfold Cert.ReferenceIdeal.Step.b43
  rw [← al_42 h, ← al_20 h]
  try rfl
set_option maxRecDepth 8192 in
theorem al_44 (h : Holds V0 s j) : (Host.dotGeneral dot_S2x16x4x64x512_S2x16x4x512x1024_S2x16x4x64x1024_4_3_3_4_012_012 none (res_main_while0b_v125 V0) (V0 (Proc.devRef .tc main_v68_6)) : (Proc.devRef .tc main_while0b_v132 : DevRef τ sig).ty.Contents (Elt F)) = Cert.ReferenceIdeal.Step.b44 j s := by
  unfold Cert.ReferenceIdeal.Step.b44
  rw [← al_33 h, h.f_6]
  try rfl
set_option maxRecDepth 8192 in
theorem al_45 (h : Holds V0 s j) : (addf (Host.dotGeneral dot_S2x16x4x64x64_S2x16x4x64x1024_S2x16x4x64x1024_4_3_3_4_012_012 none (select (broadcastInDim S2x16x4x64x64 ![3, 4] bcast_S64x64_S2x16x4x64x64_3_4 (V0 (Proc.devRef .tc main_v68_4))) (Host.dotGeneral dot_S2x16x4x64x512_S2x16x4x64x512_S2x16x4x64x64_4_4_3_3_012_012 none (res_main_while0b_v125 V0) (mulf (res_main_while0b_v119 V0) (Host.exp (Host.negf (res_main_while0b_v122 V0))))) (broadcastInDim S2x16x4x64x64 ![] bcast_S_S2x16x4x64x64 (id (constant S_ .f32 0x00000000#32)))) (res_main_while0b_v120 V0)) (Host.dotGeneral dot_S2x16x4x64x512_S2x16x4x512x1024_S2x16x4x64x1024_4_3_3_4_012_012 none (res_main_while0b_v125 V0) (V0 (Proc.devRef .tc main_v68_6))) : (Proc.devRef .tc main_while0b_v133 : DevRef τ sig).ty.Contents (Elt F)) = Cert.ReferenceIdeal.Step.b45 j s := by
  unfold Cert.ReferenceIdeal.Step.b45
  rw [← al_43 h, ← al_44 h]
  try rfl
set_option maxRecDepth 8192 in
theorem al_46 (h : Holds V0 s j) : (broadcastInDim S2x16x4x64x512 ![0, 1, 2, 3, 4] bcast_S2x16x4x1x512_S2x16x4x64x512_0_1_2_3_4 (res_main_while0b_v123 V0) : (Proc.devRef .tc main_while0b_v134 : DevRef τ sig).ty.Contents (Elt F)) = Cert.ReferenceIdeal.Step.b46 j s := by
  unfold Cert.ReferenceIdeal.Step.b46
  rw [← al_31 h]
  try rfl
set_option maxRecDepth 8192 in
theorem al_47 (h : Holds V0 s j) : (subf (broadcastInDim S2x16x4x64x512 ![0, 1, 2, 3, 4] bcast_S2x16x4x1x512_S2x16x4x64x512_0_1_2_3_4 (res_main_while0b_v123 V0)) (res_main_while0b_v122 V0) : (Proc.devRef .tc main_while0b_v135 : DevRef τ sig).ty.Contents (Elt F)) = Cert.ReferenceIdeal.Step.b47 j s := by
  unfold Cert.ReferenceIdeal.Step.b47
  rw [← al_46 h, ← al_30 h]
  try rfl
set_option maxRecDepth 8192 in
theorem al_48 (h : Holds V0 s j) : (Host.exp (subf (broadcastInDim S2x16x4x64x512 ![0, 1, 2, 3, 4] bcast_S2x16x4x1x512_S2x16x4x64x512_0_1_2_3_4 (res_main_while0b_v123 V0)) (res_main_while0b_v122 V0)) : (Proc.devRef .tc main_while0b_v136 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (mulf (res_main_while0b_v119 V0) (Host.exp (subf (broadcastInDim S2x16x4x64x512 ![0, 1, 2, 3, 4] bcast_S2x16x4x1x512_S2x16x4x64x512_0_1_2_3_4 (res_main_while0b_v123 V0)) (res_main_while0b_v122 V0))) : (Proc.devRef .tc main_while0b_v137 : DevRef τ sig).ty.Contents (Elt F)) = Cert.ReferenceIdeal.Step.b49 j s := by
  unfold Cert.ReferenceIdeal.Step.b49
  rw [← al_13 h, ← al_48 h]
  try rfl
set_option maxRecDepth 8192 in
theorem al_50 (h : Holds V0 s j) : (shapeCast S2x16x4x512 (res_main_while0b_v123 V0) shapeCasts_S2x16x4x1x512_S2x16x4x512 : (Proc.devRef .tc main_while0b_v138 : DevRef τ sig).ty.Contents (Elt F)) = Cert.ReferenceIdeal.Step.b50 j s := by
  unfold Cert.ReferenceIdeal.Step.b50
  rw [← al_31 h]
  try rfl
set_option maxRecDepth 8192 in
theorem al_51 (h : Holds V0 s j) : (Host.exp (shapeCast S2x16x4x512 (res_main_while0b_v123 V0) shapeCasts_S2x16x4x1x512_S2x16x4x512) : (Proc.devRef .tc main_while0b_v139 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (broadcastInDim S2x16x4x512x1 ![0, 1, 2, 3] bcast_S2x16x4x512_S2x16x4x512x1_0_1_2_3 (Host.exp (shapeCast S2x16x4x512 (res_main_while0b_v123 V0) shapeCasts_S2x16x4x1x512_S2x16x4x512)) : (Proc.devRef .tc main_while0b_v140 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (broadcastInDim S2x16x4x512x1024 ![0, 1, 2, 3, 4] bcast_S2x16x4x512x1_S2x16x4x512x1024_0_1_2_3_4 (broadcastInDim S2x16x4x512x1 ![0, 1, 2, 3] bcast_S2x16x4x512_S2x16x4x512x1_0_1_2_3 (Host.exp (shapeCast S2x16x4x512 (res_main_while0b_v123 V0) shapeCasts_S2x16x4x1x512_S2x16x4x512))) : (Proc.devRef .tc main_while0b_v141 : DevRef τ sig).ty.Contents (Elt F)) = Cert.ReferenceIdeal.Step.b53 j s := by
  unfold Cert.ReferenceIdeal.Step.b53
  rw [← al_52 h]
  try rfl
set_option maxRecDepth 8192 in
theorem al_54 (h : Holds V0 s j) : (mulf (V0 (Proc.devRef .tc main_v68_6)) (broadcastInDim S2x16x4x512x1024 ![0, 1, 2, 3, 4] bcast_S2x16x4x512x1_S2x16x4x512x1024_0_1_2_3_4 (broadcastInDim S2x16x4x512x1 ![0, 1, 2, 3] bcast_S2x16x4x512_S2x16x4x512x1_0_1_2_3 (Host.exp (shapeCast S2x16x4x512 (res_main_while0b_v123 V0) shapeCasts_S2x16x4x1x512_S2x16x4x512)))) : (Proc.devRef .tc main_while0b_v142 : DevRef τ sig).ty.Contents (Elt F)) = Cert.ReferenceIdeal.Step.b54 j s := by
  unfold Cert.ReferenceIdeal.Step.b54
  rw [← al_53 h, h.f_6]
  try rfl
set_option maxRecDepth 8192 in
theorem al_55 (h : Holds V0 s j) : (Host.dotGeneral dot_S2x16x4x64x512_S2x16x4x64x1024_S2x16x4x512x1024_3_3_4_4_012_012 none (mulf (res_main_while0b_v119 V0) (Host.exp (subf (broadcastInDim S2x16x4x64x512 ![0, 1, 2, 3, 4] bcast_S2x16x4x1x512_S2x16x4x64x512_0_1_2_3_4 (res_main_while0b_v123 V0)) (res_main_while0b_v122 V0)))) (res_main_while0b_v120 V0) : (Proc.devRef .tc main_while0b_v143 : DevRef τ sig).ty.Contents (Elt F)) = Cert.ReferenceIdeal.Step.b55 j s := by
  unfold Cert.ReferenceIdeal.Step.b55
  rw [← al_49 h, ← al_20 h]
  try rfl
set_option maxRecDepth 8192 in
theorem al_56 (h : Holds V0 s j) : (addf (mulf (V0 (Proc.devRef .tc main_v68_6)) (broadcastInDim S2x16x4x512x1024 ![0, 1, 2, 3, 4] bcast_S2x16x4x512x1_S2x16x4x512x1024_0_1_2_3_4 (broadcastInDim S2x16x4x512x1 ![0, 1, 2, 3] bcast_S2x16x4x512_S2x16x4x512x1_0_1_2_3 (Host.exp (shapeCast S2x16x4x512 (res_main_while0b_v123 V0) shapeCasts_S2x16x4x1x512_S2x16x4x512))))) (Host.dotGeneral dot_S2x16x4x64x512_S2x16x4x64x1024_S2x16x4x512x1024_3_3_4_4_012_012 none (mulf (res_main_while0b_v119 V0) (Host.exp (subf (broadcastInDim S2x16x4x64x512 ![0, 1, 2, 3, 4] bcast_S2x16x4x1x512_S2x16x4x64x512_0_1_2_3_4 (res_main_while0b_v123 V0)) (res_main_while0b_v122 V0)))) (res_main_while0b_v120 V0)) : (Proc.devRef .tc main_while0b_v144 : DevRef τ sig).ty.Contents (Elt F)) = Cert.ReferenceIdeal.Step.b56 j s := by
  unfold Cert.ReferenceIdeal.Step.b56
  rw [← al_54 h, ← al_55 h]
  try rfl
set_option maxRecDepth 8192 in
theorem al_57 (h : Holds V0 s j) : (broadcastInDim S1x2x16x4x64x1024 ![1, 2, 3, 4, 5] bcast_S2x16x4x64x1024_S1x2x16x4x64x1024_1_2_3_4_5 (addf (Host.dotGeneral dot_S2x16x4x64x64_S2x16x4x64x1024_S2x16x4x64x1024_4_3_3_4_012_012 none (select (broadcastInDim S2x16x4x64x64 ![3, 4] bcast_S64x64_S2x16x4x64x64_3_4 (V0 (Proc.devRef .tc main_v68_4))) (Host.dotGeneral dot_S2x16x4x64x512_S2x16x4x64x512_S2x16x4x64x64_4_4_3_3_012_012 none (res_main_while0b_v125 V0) (mulf (res_main_while0b_v119 V0) (Host.exp (Host.negf (res_main_while0b_v122 V0))))) (broadcastInDim S2x16x4x64x64 ![] bcast_S_S2x16x4x64x64 (id (constant S_ .f32 0x00000000#32)))) (res_main_while0b_v120 V0)) (Host.dotGeneral dot_S2x16x4x64x512_S2x16x4x512x1024_S2x16x4x64x1024_4_3_3_4_012_012 none (res_main_while0b_v125 V0) (V0 (Proc.devRef .tc main_v68_6)))) : (Proc.devRef .tc main_while0b_call10_v0 : DevRef τ sig).ty.Contents (Elt F)) = Cert.ReferenceIdeal.Step.b57 j s := by
  unfold Cert.ReferenceIdeal.Step.b57
  rw [← al_45 h]
  try rfl
set_option maxRecDepth 8192 in
theorem al_58 (h : Holds V0 s j) : (constantI S_ 32 0#32 : (Proc.devRef .tc main_while0b_call10_c : DevRef τ sig).ty.Contents (Elt F)) = Cert.ReferenceIdeal.Step.b58 j s := by
  unfold Cert.ReferenceIdeal.Step.b58
  rfl
set_option maxRecDepth 8192 in
theorem al_59 (h : Holds V0 s j) : (constantI S_ 32 0#32 : (Proc.devRef .tc main_while0b_call10_c_0 : DevRef τ sig).ty.Contents (Elt F)) = Cert.ReferenceIdeal.Step.b59 j s := by
  unfold Cert.ReferenceIdeal.Step.b59
  rfl
set_option maxRecDepth 8192 in
theorem al_60 (h : Holds V0 s j) : (constantI S_ 32 0#32 : (Proc.devRef .tc main_while0b_call10_c_1 : DevRef τ sig).ty.Contents (Elt F)) = Cert.ReferenceIdeal.Step.b60 j s := by
  unfold Cert.ReferenceIdeal.Step.b60
  rfl
set_option maxRecDepth 8192 in
theorem al_61 (h : Holds V0 s j) : (constantI S_ 32 0#32 : (Proc.devRef .tc main_while0b_call10_c_2 : DevRef τ sig).ty.Contents (Elt F)) = Cert.ReferenceIdeal.Step.b61 j s := by
  unfold Cert.ReferenceIdeal.Step.b61
  rfl
set_option maxRecDepth 8192 in
theorem al_62 (h : Holds V0 s j) : (constantI S_ 32 0#32 : (Proc.devRef .tc main_while0b_call10_c_3 : DevRef τ sig).ty.Contents (Elt F)) = Cert.ReferenceIdeal.Step.b62 j s := by
  unfold Cert.ReferenceIdeal.Step.b62
  rfl
set_option maxRecDepth 8192 in
theorem al_63 (h : Holds V0 s j) : (Host.dynamicUpdateSlice (V0 (Proc.devRef .tc main_v68_7)) (broadcastInDim S1x2x16x4x64x1024 ![1, 2, 3, 4, 5] bcast_S2x16x4x64x1024_S1x2x16x4x64x1024_1_2_3_4_5 (addf (Host.dotGeneral dot_S2x16x4x64x64_S2x16x4x64x1024_S2x16x4x64x1024_4_3_3_4_012_012 none (select (broadcastInDim S2x16x4x64x64 ![3, 4] bcast_S64x64_S2x16x4x64x64_3_4 (V0 (Proc.devRef .tc main_v68_4))) (Host.dotGeneral dot_S2x16x4x64x512_S2x16x4x64x512_S2x16x4x64x64_4_4_3_3_012_012 none (res_main_while0b_v125 V0) (mulf (res_main_while0b_v119 V0) (Host.exp (Host.negf (res_main_while0b_v122 V0))))) (broadcastInDim S2x16x4x64x64 ![] bcast_S_S2x16x4x64x64 (id (constant S_ .f32 0x00000000#32)))) (res_main_while0b_v120 V0)) (Host.dotGeneral dot_S2x16x4x64x512_S2x16x4x512x1024_S2x16x4x64x1024_4_3_3_4_012_012 none (res_main_while0b_v125 V0) (V0 (Proc.devRef .tc main_v68_6))))) (fun k => (((![V0 (Proc.devRef .tc main_v68_5), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) updateFits_S4x2x16x4x64x1024_S1x2x16x4x64x1024 : (Proc.devRef .tc main_while0b_v145 : DevRef τ sig).ty.Contents (Elt F)) = Cert.ReferenceIdeal.Step.b63 j s := by
  unfold Cert.ReferenceIdeal.Step.b63
  rw [← al_57 h, ← al_58 h, ← al_59 h, ← al_60 h, ← al_61 h, ← al_62 h, h.f_7, h.n_5]
  try rfl

/-! One trip's step of the carried values is `step`, field by field; a counter steps to the next number. -/

theorem step_6 (h : Holds V0 s j) : step_main_v68_6 V0 = (step j s).main_v68_6 := by
  unfold step_main_v68_6 Cert.ReferenceIdeal.Step.step
  show id (addf (mulf (V0 (Proc.devRef .tc main_v68_6)) (broadcastInDim S2x16x4x512x1024 ![0, 1, 2, 3, 4] bcast_S2x16x4x512x1_S2x16x4x512x1024_0_1_2_3_4 (broadcastInDim S2x16x4x512x1 ![0, 1, 2, 3] bcast_S2x16x4x512_S2x16x4x512x1_0_1_2_3 (Host.exp (shapeCast S2x16x4x512 (res_main_while0b_v123 V0) shapeCasts_S2x16x4x1x512_S2x16x4x512))))) (Host.dotGeneral dot_S2x16x4x64x512_S2x16x4x64x1024_S2x16x4x512x1024_3_3_4_4_012_012 none (mulf (res_main_while0b_v119 V0) (Host.exp (subf (broadcastInDim S2x16x4x64x512 ![0, 1, 2, 3, 4] bcast_S2x16x4x1x512_S2x16x4x64x512_0_1_2_3_4 (res_main_while0b_v123 V0)) (res_main_while0b_v122 V0)))) (res_main_while0b_v120 V0))) = _
  rw [al_56 h]
  try rfl
set_option maxRecDepth 8192 in
theorem step_7 (h : Holds V0 s j) : step_main_v68_7 V0 = (step j s).main_v68_7 := by
  unfold step_main_v68_7 Cert.ReferenceIdeal.Step.step
  exact al_63 h
theorem step_5 (h : Holds V0 s j) : step_main_v68_5 V0 = constantI S_ 32 (BitVec.ofNat 32 (j + 1)) := by
  unfold step_main_v68_5
  rw [h.n_5]
  funext i
  show BitVec.ofNat 32 j + 1#32 = BitVec.ofNat 32 (j + 1)
  simp only [BitVec.ofNat_add]

set_option maxRecDepth 8192 in
theorem out_main_v117_holds (h : Holds V0 s j) {x_main_arg0 : (⟨S20480x12288, .bf16⟩ : BufTy).Contents (Elt F)} (h_main_arg0 : V0 (Proc.devRef .tc main_arg0) = x_main_arg0) {x_main_arg4 : (⟨S4096, .f32⟩ : BufTy).Contents (Elt F)} (h_main_arg4 : V0 (Proc.devRef .tc main_arg4) = x_main_arg4) : out_main_v117 V0 = Cert.ReferenceIdeal.Step.R_main_v117 s x_main_arg0 x_main_arg4 := by
  unfold out_main_v117 Cert.ReferenceIdeal.Step.R_main_v117
  rw [h.f_7, h_main_arg0, h_main_arg4]
  try rfl

set_option maxRecDepth 8192 in
theorem out_main_v115_holds (h : Holds V0 s j) : out_main_v115 V0 = Cert.ReferenceIdeal.Step.R_main_v115 s := by
  unfold out_main_v115 Cert.ReferenceIdeal.Step.R_main_v115
  rw [h.f_6]
  try rfl

/-- One trip keeps the valuation holding: `step` of the state, the same set-up values, the next number. -/
theorem holds_step (h : Holds V0 s j) : Holds (STEP V0) (step j s) (j + 1) where
  f_6 := (STEP_main_v68_6 V0).trans (step_6 h)
  f_7 := (STEP_main_v68_7 V0).trans (step_7 h)
  n_5 := (STEP_main_v68_5 V0).trans (step_5 h)
  k_4 := (STEP_main_v68_4 V0).trans h.k_4
  f_0 := (STEP_main_v68_0 V0).trans h.f_0
  f_1 := (STEP_main_v68_1 V0).trans h.f_1
  f_2 := (STEP_main_v68_2 V0).trans h.f_2
  f_3 := (STEP_main_v68_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 4 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v117) = Cert.ReferenceIdeal.Step.R_main_v117 (it c 4) (m ((c.tc : Thread nD τ).loc main_arg0)) (m ((c.tc : Thread nD τ).loc main_arg4))
      ∧ r.2.mem ((c.tc : Thread nD τ).loc main_v115) = Cert.ReferenceIdeal.Step.R_main_v115 (it c 4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    have hk := holds_iter m c (it c) (h0 c) (hs c) 4
    ⟨(h c).1.trans (out_main_v117_holds hk (iter_main_arg0 m c 4) (iter_main_arg4 m c 4)), (h c).2.1.trans (out_main_v115_holds hk), (h c).2.2.1, (h c).2.2.2.1, (h c).2.2.2.2.1, (h c).2.2.2.2.2.1, (h c).2.2.2.2.2.2⟩) (Value.run m ρ)

end Cert.ReferenceIdeal.Iter

end
-- ==== Proof.GlaFun.lean ====
module

public import proofs.«01_k».proof.Proof.GlaRun

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! The scan's arithmetic on one chunk of 64 rows, as the body spells it: the running decay, the chunk's outputs, the state
    after it, and the rows' normalisation and gate. Then the four chunks one after the other, forwards and backwards. -/

/-- Which columns of a chunk a row sees: those up to its own, going forwards, -/
def maskF : IVec S64x64 1 := cmpi .sle (iota .tc S64x64 32 [1] iota_S64x64_d1_w32) (iota .tc S64x64 32 [0] iota_S64x64_d0_w32)
/-- and from its own on, going backwards. -/
def maskB : IVec S64x64 1 := cmpi .sge (iota .tc S64x64 32 [1] iota_S64x64_d1_w32) (iota .tc S64x64 32 [0] iota_S64x64_d0_w32)

/-- The mask as a matrix of zeros and ones. -/
def tri (v18 : IVec S64x64 1) : FVec F S64x64 .bf16 :=
  truncf .bf16 (sitofp .f32 (extui 32 v18 natLt_1_32)) bitsLt_bf16_f32

/-- The log of the decay of each row and column of a chunk. -/
def logA (v101 : Vec F S64x128 .f32) (v103 : Vec F S1x128x512 .bf16) (v106 : Vec F S1x1x512 .f32) : FVec F S64x512 .f32 :=
  have v242 : FVec F S64x128 .bf16 := truncf .bf16 v101 bitsLt_bf16_f32
  have v244 : FVec F S128x512 .bf16 := shapeCast S128x512 v103 shapeCasts_S1x128x512_S128x512
  have cst_104 : FVec F S64x512 .f32 := constant S64x512 .f32 0x00000000#32
  have v245 : FVec F S64x512 .f32 := matmul dot_S64x128_S128x512_S64x512_1_0_0_1_n_n none v242 v244 cst_104
  have v247 : FVec F S1x512 .f32 := shapeCast S1x512 v106 shapeCasts_S1x1x512_S1x512
  have v248 : FVec F S64x512 .f32 := broadcastTo S64x512 v247 broadcasts_S1x512_S64x512
  have v249 : FVec F S64x512 .f32 := addf v245 v248
  have cst_108 : F .f32 := Scalar.ofBits .f32 0x00000000#32
  have v250 : FVec F S64x512 .f32 := broadcast S64x512 cst_108
  have v251 : FVec F S64x512 .f32 := minimumf v249 v250
  have v252 : FVec F S64x512 .f32 := absf v249
  have cst_109 : F .f32 := Scalar.ofBits .f32 0x00000000#32
  have v253 : FVec F S64x512 .f32 := broadcast S64x512 cst_109
  have v254 : FVec F S64x512 .f32 := subf v253 v252
  have v255 : FVec F S64x512 .f32 := exp v254
  have cst_110 : F .f32 := Scalar.ofBits .f32 0x3F800000#32
  have v256 : FVec F S64x512 .f32 := broadcast S64x512 cst_110
  have v257 : FVec F S64x512 .f32 := addf v256 v255
  have v258 : FVec F S64x512 .f32 := log v257
  have v259 : FVec F S64x512 .f32 := subf v251 v258
  have cst_111 : F .f32 := Scalar.ofBits .f32 0x3D800000#32
  have v260 : FVec F S64x512 .f32 := broadcast S64x512 cst_111
  have v261 : FVec F S64x512 .f32 := mulf v259 v260
  v261

/-- Its running sum over the rows a row sees, in three parts. -/
def cumv (v22 : FVec F S64x64 .bf16) (v261 : FVec F S64x512 .f32) : FVec F S64x512 .f32 :=
  have v262 : FVec F S64x512 .bf16 := truncf .bf16 v261 bitsLt_bf16_f32
  have v263 : FVec F S64x512 .f32 := extf .f32 v262 bitsLt_bf16_f32
  have v264 : FVec F S64x512 .f32 := subf v261 v263
  have v265 : FVec F S64x512 .bf16 := truncf .bf16 v264 bitsLt_bf16_f32
  have v266 : FVec F S64x512 .f32 := extf .f32 v265 bitsLt_bf16_f32
  have v267 : FVec F S64x512 .f32 := subf v264 v266
  have v268 : FVec F S64x512 .bf16 := truncf .bf16 v267 bitsLt_bf16_f32
  have cst_112 : FVec F S64x512 .f32 := constant S64x512 .f32 0x00000000#32
  have v269 : FVec F S64x512 .f32 := matmul dot_S64x64_S64x512_S64x512_1_0_0_1_n_n none v22 v262 cst_112
  have cst_113 : FVec F S64x512 .f32 := constant S64x512 .f32 0x00000000#32
  have v270 : FVec F S64x512 .f32 := matmul dot_S64x64_S64x512_S64x512_1_0_0_1_n_n none v22 v265 cst_113
  have v271 : FVec F S64x512 .f32 := addf v269 v270
  have cst_114 : FVec F S64x512 .f32 := constant S64x512 .f32 0x00000000#32
  have v272 : FVec F S64x512 .f32 := matmul dot_S64x64_S64x512_S64x512_1_0_0_1_n_n none v22 v268 cst_114
  have v273 : FVec F S64x512 .f32 := addf v271 v272
  v273

def totF (v : FVec F S64x512 .f32) : FVec F S1x512 .f32 := extractStridedSlice S1x512 ![63, 0] v slices_S64x512_o63_0_S1x512
def totB (v : FVec F S64x512 .f32) : FVec F S1x512 .f32 := extractStridedSlice S1x512 ![0, 0] v slices_S64x512_o0_0_S1x512

/-- The state after a chunk. -/
def stv (v133 : FVec F S64x512 .f32) (v134 : FVec F S1x512 .f32) (k : Vec F S64x512 .bf16) (v139 : Vec F S64x1024 .bf16) (v159 : Vec F S512x1024 .f32) : FVec F S512x1024 .f32 :=
  have v138 : FVec F S64x512 .f32 := extf .f32 k bitsLt_bf16_f32
  have v150 : FVec F S64x512 .f32 := broadcastTo S64x512 v134 broadcasts_S1x512_S64x512
  have v151 : FVec F S64x512 .f32 := subf v150 v133
  have v152 : FVec F S64x512 .f32 := exp v151
  have v153 : FVec F S64x512 .f32 := mulf v138 v152
  have v154 : FVec F S64x512 .bf16 := truncf .bf16 v153 bitsLt_bf16_f32
  have cst_70 : FVec F S512x1024 .f32 := constant S512x1024 .f32 0x00000000#32
  have v164 : FVec F S512x1024 .f32 := matmul dot_S64x512_S64x1024_S512x1024_0_0_1_1_n_n none v154 v139 cst_70
  have v165 : FVec F S1x512 .f32 := exp v134
  have v166 : FVec F S512x1 .f32 := transpose S512x1 [1, 0] v165 transposes_S1x512_p1_0_S512x1
  have v167 : FVec F S512x1024 .f32 := broadcastTo S512x1024 v166 broadcasts_S512x1_S512x1024
  have v168 : FVec F S512x1024 .f32 := mulf v159 v167
  have v169 : FVec F S512x1024 .f32 := addf v168 v164
  have v172 : FVec F S512x1024 .f32 := shapeCast S512x1024 v169 shapeCasts_S512x1024_S512x1024
  v172

/-- The outputs of a chunk. -/
def outv (v18 : IVec S64x64 1) (v133 : FVec F S64x512 .f32) (q : Vec F S64x512 .bf16) (k : Vec F S64x512 .bf16) (v139 : Vec F S64x1024 .bf16) (v159 : Vec F S512x1024 .f32) : FVec F S64x1024 .f32 :=
  have v136 : FVec F S64x512 .f32 := extf .f32 q bitsLt_bf16_f32
  have v138 : FVec F S64x512 .f32 := extf .f32 k bitsLt_bf16_f32
  have v140 : FVec F S64x512 .f32 := exp v133
  have v141 : FVec F S64x512 .f32 := mulf v136 v140
  have cst_62 : F .f32 := Scalar.ofBits .f32 0x3D3504F3#32
  have v142 : FVec F S64x512 .f32 := broadcast S64x512 cst_62
  have v143 : FVec F S64x512 .f32 := mulf v141 v142
  have v144 : FVec F S64x512 .bf16 := truncf .bf16 v143 bitsLt_bf16_f32
  have cst_63 : F .f32 := Scalar.ofBits .f32 0x00000000#32
  have v145 : FVec F S64x512 .f32 := broadcast S64x512 cst_63
  have v146 : FVec F S64x512 .f32 := subf v145 v133
  have v147 : FVec F S64x512 .f32 := exp v146
  have v148 : FVec F S64x512 .f32 := mulf v138 v147
  have v149 : FVec F S64x512 .bf16 := truncf .bf16 v148 bitsLt_bf16_f32
  have cst_64 : FVec F S64x64 .f32 := constant S64x64 .f32 0x00000000#32
  have v155 : FVec F S64x64 .f32 := matmul dot_S64x512_S64x512_S64x64_1_1_0_0_n_n none v144 v149 cst_64
  have cst_65 : F .f32 := Scalar.ofBits .f32 0x00000000#32
  have v156 : FVec F S64x64 .f32 := broadcast S64x64 cst_65
  have v157 : FVec F S64x64 .f32 := select v18 v155 v156
  have v158 : FVec F S64x64 .bf16 := truncf .bf16 v157 bitsLt_bf16_f32
  have cst_68 : FVec F S64x1024 .f32 := constant S64x1024 .f32 0x00000000#32
  have v160 : FVec F S64x1024 .f32 := matmul dot_S64x64_S64x1024_S64x1024_1_0_0_1_n_n none v158 v139 cst_68
  have v161 : FVec F S512x1024 .bf16 := truncf .bf16 v159 bitsLt_bf16_f32
  have cst_69 : FVec F S64x1024 .f32 := constant S64x1024 .f32 0x00000000#32
  have v162 : FVec F S64x1024 .f32 := matmul dot_S64x512_S512x1024_S64x1024_1_0_0_1_n_n none v144 v161 cst_69
  have v163 : FVec F S64x1024 .f32 := addf v160 v162
  v163

/-- The rows normalised, scaled and gated. -/
def normv (v412 : FVec F S64x1024 .f32) (v426 : Vec F S64x1024 .f32) (v444 : Vec F S1x1024 .f32) (v448 : Vec F S64x1024 .bf16) : FVec F S64x1024 .bf16 :=
  have v427 : FVec F S64x1024 .f32 := addf v426 v412
  have v428 : FVec F S64 .f32 := multiReduction .add [1] S64 v427 0x00000000#32 reduces_S64x1024_S64 (.inl rfl) rfl
  have v429 : FVec F S64x1 .f32 := shapeCast S64x1 v428 shapeCasts_S64_S64x1
  have cst_184 : F .f32 := Scalar.ofBits .f32 0x44800000#32
  have v430 : FVec F S64x1 .f32 := broadcast S64x1 cst_184
  have v431 : FVec F S64x1 .f32 := divf v429 v430
  have v432 : FVec F S64x1024 .f32 := broadcastTo S64x1024 v431 broadcasts_S64x1_S64x1024
  have v433 : FVec F S64x1024 .f32 := subf v427 v432
  have v434 : FVec F S64x1024 .f32 := mulf v433 v433
  have v435 : FVec F S64 .f32 := multiReduction .add [1] S64 v434 0x00000000#32 reduces_S64x1024_S64 (.inl rfl) rfl
  have v436 : FVec F S64x1 .f32 := shapeCast S64x1 v435 shapeCasts_S64_S64x1
  have cst_186 : F .f32 := Scalar.ofBits .f32 0x44800000#32
  have v437 : FVec F S64x1 .f32 := broadcast S64x1 cst_186
  have v438 : FVec F S64x1 .f32 := divf v436 v437
  have cst_187 : F .f32 := Scalar.ofBits .f32 0x3727C5AC#32
  have v439 : FVec F S64x1 .f32 := broadcast S64x1 cst_187
  have v440 : FVec F S64x1 .f32 := addf v438 v439
  have v441 : FVec F S64x1 .f32 := rsqrt v440
  have v442 : FVec F S64x1024 .f32 := broadcastTo S64x1024 v441 broadcasts_S64x1_S64x1024
  have v443 : FVec F S64x1024 .f32 := mulf v433 v442
  have v445 : FVec F S1x1024 .f32 := shapeCast S1x1024 v444 shapeCasts_S1x1024_S1x1024
  have v446 : FVec F S64x1024 .f32 := broadcastTo S64x1024 v445 broadcasts_S1x1024_S64x1024
  have v447 : FVec F S64x1024 .f32 := mulf v443 v446
  have v449 : FVec F S64x1024 .f32 := extf .f32 v448 bitsLt_bf16_f32
  have cst_192 : F .f32 := Scalar.ofBits .f32 0x00000000#32
  have v450 : FVec F S64x1024 .f32 := broadcast S64x1024 cst_192
  have v451 : FVec F S64x1024 .f32 := subf v450 v449
  have v452 : FVec F S64x1024 .f32 := exp v451
  have cst_193 : F .f32 := Scalar.ofBits .f32 0x3F800000#32
  have v453 : FVec F S64x1024 .f32 := broadcast S64x1024 cst_193
  have v454 : FVec F S64x1024 .f32 := addf v453 v452
  have v455 : FVec F S64x1024 .f32 := divf v449 v454
  have v456 : FVec F S64x1024 .f32 := mulf v447 v455
  have v457 : FVec F S64x1024 .bf16 := truncf .bf16 v456 bitsLt_bf16_f32
  v457

/-! ## The rows of a chunk -/

theorem inb128 (k : Fin 4) : ∀ a, (![64 * k.val, 0] : Fin 2 → Nat) a + S64x128.size a ≤ S256x128.size a := by revert k; decide
theorem inb512 (k : Fin 4) : ∀ a, (![64 * k.val, 0] : Fin 2 → Nat) a + S64x512.size a ≤ S256x512.size a := by revert k; decide
theorem inb1024 (k : Fin 4) : ∀ a, (![64 * k.val, 0] : Fin 2 → Nat) a + S64x1024.size a ≤ S256x1024.size a := by revert k; decide

def rows128 {e : EltTy} (x : Vec F S256x128 e) (k : Fin 4) : Vec F S64x128 e := fun j => x ((Rect.unit (s := S256x128) ![64 * k.val, 0] S64x128.size (inb128 k)).emb j)
def rows512 {e : EltTy} (x : Vec F S256x512 e) (k : Fin 4) : Vec F S64x512 e := fun j => x ((Rect.unit (s := S256x512) ![64 * k.val, 0] S64x512.size (inb512 k)).emb j)
def rows1024 {e : EltTy} (x : Vec F S256x1024 e) (k : Fin 4) : Vec F S64x1024 e := fun j => x ((Rect.unit (s := S256x1024) ![64 * k.val, 0] S64x1024.size (inb1024 k)).emb j)
def allW (x : Vec F S1x128x512 .bf16) : Vec F S1x128x512 .bf16 := fun j => x ((Rect.unit (s := S1x128x512) ![0, 0, 0] S1x128x512.size inb_S1x128x512_S1x128x512_0_0_0).emb j)
def allB (x : Vec F S1x1x512 .f32) : Vec F S1x1x512 .f32 := fun j => x ((Rect.unit (s := S1x1x512) ![0, 0, 0] S1x1x512.size inb_S1x1x512_S1x1x512_0_0_0).emb j)
def allG (x : Vec F S1x1024 .f32) : Vec F S1x1024 .f32 := fun j => x ((Rect.unit (s := S1x1024) ![0, 0] S1x1024.size inb_S1x1024_S1x1024_0_0).emb j)

/-! ## The chunks in turn -/

section
variable (x0 x1 : Vec F S256x512 .bf16) (x2 : Vec F S256x1024 .bf16) (x3 : Vec F S256x1024 .bf16) (x4 : Vec F S256x128 .f32) (x5 : Vec F S1x128x512 .bf16) (x6 : Vec F S1x1x512 .f32) (x7 : Vec F S1x1024 .f32)

/-- Chunk `k`'s running decay, by the rows a row sees. -/
def cumC (msk : IVec S64x64 1) (k : Fin 4) : FVec F S64x512 .f32 := cumv (tri msk) (logA (rows128 x4 k) (allW x5) (allB x6))

/-- The state before the forward chunk `k`. -/
def stF : ℕ → FVec F S512x1024 .f32
  | 0 => k0_pay1
  | n + 1 => stv (cumC x4 x5 x6 maskF (Fin.ofNat 4 n)) (totF (cumC x4 x5 x6 maskF (Fin.ofNat 4 n))) (rows512 x1 (Fin.ofNat 4 n)) (rows1024 x2 (Fin.ofNat 4 n)) (stF n)

/-- The outputs of the forward chunk `k`. -/
def outF (n : ℕ) : FVec F S64x1024 .f32 :=
  outv maskF (cumC x4 x5 x6 maskF (Fin.ofNat 4 n)) (rows512 x0 (Fin.ofNat 4 n)) (rows512 x1 (Fin.ofNat 4 n)) (rows1024 x2 (Fin.ofNat 4 n)) (stF x1 x2 x4 x5 x6 n)

/-- The state before the backward chunk number `n`, rows `192 - 64 n` on. -/
def stB : ℕ → FVec F S512x1024 .f32
  | 0 => k0_pay1
  | n + 1 => stv (cumC x4 x5 x6 maskB (Fin.ofNat 4 (3 - n))) (totB (cumC x4 x5 x6 maskB (Fin.ofNat 4 (3 - n)))) (rows512 x1 (Fin.ofNat 4 (3 - n))) (rows1024 x2 (Fin.ofNat 4 (3 - n))) (stB n)

/-- The outputs of the backward chunk number `n`. -/
def outB (n : ℕ) : FVec F S64x1024 .f32 :=
  outv maskB (cumC x4 x5 x6 maskB (Fin.ofNat 4 (3 - n))) (rows512 x0 (Fin.ofNat 4 (3 - n))) (rows512 x1 (Fin.ofNat 4 (3 - n))) (rows1024 x2 (Fin.ofNat 4 (3 - n))) (stB x1 x2 x4 x5 x6 n)

/-- The final rows of that chunk, from the forward rows `xs`. -/
def rowsB (xs : Vec F S256x1024 .f32) (n : ℕ) : FVec F S64x1024 .bf16 :=
  normv (outB x0 x1 x2 x4 x5 x6 n) (rows1024 xs (Fin.ofNat 4 (3 - n))) (allG x7) (rows1024 x3 (Fin.ofNat 4 (3 - n)))
end

end Cert.KernelIdeal.Gla

end
-- ==== Proof.Spec.lean ====
module

public import Idealize.ShloMosaic.Lib.Pointwise

@[expose] public section

noncomputable section

namespace Cert.Scan

open Idealize.ShloMosaic

/-! The gated linear attention over the extended reals, written by coordinates: what a chunk of 64 rows does to a state, the
    rows it gives, and the chunks one after the other. Nothing here speaks of the kernel or of the reference. -/

/-- The scale of the queries. -/
abbrev scale : EReal := Ideal.ofBits .f32 1026884851#32

/-- The log of a decay, from the gate `g`. -/
def logDecay (g : EReal) : EReal :=
  Ideal.div (-(max (-g) 0 + Ideal.log1p (Ideal.exp (-(FloatOps.absf (F := Ideal) (φ := .f32) g))))) (Ideal.ofBits .f32 1098907648#32)

section Chunk
variable (la q k : Fin 64 → Fin 512 → EReal) (v : Fin 64 → Fin 1024 → EReal) (st : Fin 512 → Fin 1024 → EReal)

/-- The running decay: the sum of the logs up to a row. -/
def cumS (i : Fin 64) (d : Fin 512) : EReal := ∑ j, if j ≤ i then la j d else 0

/-- The state after the chunk. -/
def stS (d : Fin 512) (e : Fin 1024) : EReal :=
  st d e * Ideal.exp (cumS la 63 d) + ∑ j, k j d * Ideal.exp (cumS la 63 d - cumS la j d) * v j e

/-- A row the chunk gives (`q` already scaled). -/
def outS (i : Fin 64) (e : Fin 1024) : EReal :=
  ∑ j, (if j ≤ i then ∑ d, q i d * Ideal.exp (cumS la i d) * (k j d * Ideal.exp (-cumS la j d)) else 0) * v j e
    + ∑ d, q i d * Ideal.exp (cumS la i d) * st d e
end Chunk

section Chunks
variable (la q k : Fin 4 → Fin 64 → Fin 512 → EReal) (v : Fin 4 → Fin 64 → Fin 1024 → EReal)

/-- The state before chunk `n`. -/
def states : ℕ → Fin 512 → Fin 1024 → EReal
  | 0 => fun _ _ => 0
  | n + 1 => stS (la (Fin.ofNat 4 n)) (k (Fin.ofNat 4 n)) (v (Fin.ofNat 4 n)) (states n)

/-- The rows of chunk `n`. -/
def rows (n : Fin 4) : Fin 64 → Fin 1024 → EReal := outS (la n) (q n) (k n) (v n) (states la k v n.val)
end Chunks

/-- Rows normalised, scaled and gated. -/
def normS (o : Fin 1024 → EReal) (g r : Fin 1024 → EReal) (e : Fin 1024) : EReal :=
  (o e - Ideal.div (∑ x, o x) (Ideal.ofBits .f32 1149239296#32))
    * Ideal.rsqrt (Ideal.div (∑ x, (o x - Ideal.div (∑ x, o x) (Ideal.ofBits .f32 1149239296#32))
        * (o x - Ideal.div (∑ x, o x) (Ideal.ofBits .f32 1149239296#32))) (Ideal.ofBits .f32 1149239296#32) + Ideal.ofBits .f32 925353388#32)
    * g e * Ideal.div (r e) (1 + Ideal.exp (-r e))

/-! ## The two forms of the gate -/

theorem exp_nonneg (x : EReal) : 0 ≤ Ideal.exp x := by
  induction x with
  | bot => simp
  | top => simp
  | coe r => simpa using (Real.exp_pos r).le

theorem gate_eq (r : EReal) : r * Ideal.div 1 (1 + Ideal.exp (-r)) = Ideal.div r (1 + Ideal.exp (-r)) := by
  have h : (1 : EReal) + Ideal.exp (-r) ≠ 0 := by
    have := add_le_add (le_refl (1 : EReal)) (exp_nonneg (-r))
    rw [add_zero] at this
    exact (lt_of_lt_of_le zero_lt_one this).ne'
  unfold Ideal.div
  rw [if_neg h, if_neg h, one_mul]

/-! ## The two forms of the log of a decay -/

theorem log_nonneg (x : EReal) : 0 ≤ Ideal.log (1 + Ideal.exp x) := by
  have key : ∀ r : ℝ, 0 ≤ r → (0 : EReal) ≤ Ideal.log (1 + (r : EReal)) := fun r hr => by
    have : (1 : EReal) + (r : EReal) = ((1 + r : ℝ) : EReal) := by norm_cast
    rw [this, Ideal.log_coe, if_neg (by linarith)]
    exact_mod_cast Real.log_nonneg (by linarith)
  induction x with
  | bot => simpa using key 0 le_rfl
  | top =>
    rw [Ideal.exp_top, show (1 : EReal) + ⊤ = ⊤ from EReal.coe_add_top 1, Ideal.log_top]
    exact le_top
  | coe r => simpa using key _ (Real.exp_pos r).le

theorem sixteen : Ideal.ofBits .f32 1098907648#32 = ((16 : ℝ) : EReal) := by
  simp [Ideal.ofBits, Ideal.ieee, -EReal.coe_mul]; norm_num
theorem sixteenth : Ideal.ofBits .f32 1031798784#32 = ((1 / 16 : ℝ) : EReal) := by
  simp [Ideal.ofBits, Ideal.ieee, -EReal.coe_mul]; norm_num

theorem min_zero (g : EReal) : min g 0 = -max (-g) 0 := by
  rcases le_total g 0 with h | h
  · rw [min_eq_left h, max_eq_left (by simpa using h), neg_neg]
  · rw [min_eq_right h, max_eq_right (by simpa using h), neg_zero]

theorem logDecay_eq (g : EReal) :
    (min g 0 - Ideal.log (1 + Ideal.exp (0 - FloatOps.absf (F := Ideal) (φ := .f32) g))) * Ideal.ofBits .f32 1031798784#32 = logDecay g := by
  unfold logDecay Ideal.log1p
  rw [sixteen, sixteenth, Ideal.div_coe (by norm_num), zero_sub, min_zero]
  congr 1
  have h1 : (0 : EReal) ≤ max (-g) 0 := le_max_right _ _
  have h2 := log_nonneg (-(FloatOps.absf (F := Ideal) (φ := .f32) g))
  rw [EReal.neg_add (.inl (ne_of_gt (lt_of_lt_of_le (by simp) h1))) (.inr (ne_of_gt (lt_of_lt_of_le (by simp) h2)))]

theorem logDecay_ne_top (g : EReal) : logDecay g ≠ ⊤ := by
  unfold logDecay Ideal.log1p
  rw [sixteen, Ideal.div_coe (by norm_num)]
  have h1 : (0 : EReal) ≤ max (-g) 0 := le_max_right _ _
  have h2 := log_nonneg (-(FloatOps.absf (F := Ideal) (φ := .f32) g))
  have h3 : -(max (-g) 0 + Ideal.log (1 + Ideal.exp (-(FloatOps.absf (F := Ideal) (φ := .f32) g)))) ≤ 0 := by
    rw [EReal.neg_le, neg_zero]; exact add_nonneg h1 h2
  have h4 : -(max (-g) 0 + Ideal.log (1 + Ideal.exp (-(FloatOps.absf (F := Ideal) (φ := .f32) g)))) * ((1 / 16 : ℝ) : EReal) ≤ 0 := by
    refine EReal.mul_nonpos_iff.mpr (.inr ⟨h3, ?_⟩)
    exact_mod_cast (by norm_num : (0 : ℝ) ≤ 1 / 16)
  exact ne_of_lt (lt_of_le_of_lt h4 (by simp))

/-! ## A running sum in three parts -/

/-- A sum of numbers none of which is infinite upwards, together with the sums of the two remainders the splitting leaves, is
    that sum: a remainder is zero, or its number is infinite downwards and so is the sum. -/
theorem sum_three {n : ℕ} (p : Fin n → Prop) [DecidablePred p] (x : Fin n → EReal) (hx : ∀ j, x j ≠ ⊤) :
    ((∑ j, if p j then x j else 0) + ∑ j, if p j then x j - x j else 0)
      + (∑ j, if p j then (x j - x j) - (x j - x j) else 0) = ∑ j, if p j then x j else 0 := by
  by_cases hb : ∃ j, p j ∧ x j = ⊥
  · obtain ⟨j, hj, hjb⟩ := hb
    have : (∑ j, if p j then x j else 0) = ⊥ := by
      rw [← Finset.add_sum_erase _ _ (Finset.mem_univ j), if_pos hj, hjb, EReal.bot_add]
    rw [this, EReal.bot_add, EReal.bot_add]
  · have h0 : ∀ j, p j → x j - x j = 0 := fun j hj => by
      have hjb : x j ≠ ⊥ := fun h => hb ⟨j, hj, h⟩
      exact EReal.sub_self (hx j) hjb
    have e1 : (∑ j, if p j then x j - x j else 0) = 0 :=
      Finset.sum_eq_zero fun j _ => by split <;> simp_all
    have e2 : (∑ j, if p j then (x j - x j) - (x j - x j) else 0) = 0 :=
      Finset.sum_eq_zero fun j _ => by split <;> simp_all
    rw [e1, e2, add_zero, add_zero]

/-! ## A running sum as a sum over padded windows -/

/-- The window of 64 that ends at a row, padded with zeros in front, holds the rows up to it. -/
theorem sum_window (f : Fin 64 → EReal) (i : Fin 64) :
    (∑ w : Fin 64, if h : 63 ≤ i.val + w.val ∧ i.val + w.val - 63 < 64 then f ⟨i.val + w.val - 63, h.2⟩ else 0)
      = ∑ j, if j ≤ i then f j else 0 := by
  refine Fintype.sum_equiv (Equiv.addRight (i + 1)) _ _ fun w => ?_
  have e : ((Equiv.addRight (i + 1)) w).val = (w.val + (i.val + 1)) % 64 := by
    have h1 : ((1 : Fin 64)).val = 1 := rfl
    simp only [Equiv.coe_addRight, Fin.val_add, h1]
    omega
  have hw := w.isLt
  have hi := i.isLt
  by_cases h : 63 ≤ i.val + w.val ∧ i.val + w.val - 63 < 64
  · rw [dif_pos h, if_pos (by rw [Fin.le_def, e]; omega)]
    congr 1; apply Fin.ext; rw [e]; show _ = _; simp only []; omega
  · rw [dif_neg h, if_neg (by rw [Fin.le_def, e]; omega)]

/-! ## The masks as words -/

theorem word_le : ∀ i j : Fin 64, IntOp.cmpi .sle (BitVec.ofNat 32 j.val) (BitVec.ofNat 32 i.val) = if j ≤ i then 1#1 else 0#1 := by
  decide +kernel

theorem word_ge : ∀ i j : Fin 64, IntOp.cmpi .sge (BitVec.ofNat 32 j.val) (BitVec.ofNat 32 i.val) = if j.rev ≤ i.rev then 1#1 else 0#1 := by
  decide +kernel

theorem select_word (p : Prop) [Decidable p] (x y : EReal) : Scalar.select (if p then 1#1 else 0#1) x y = if p then x else y := by
  by_cases h : p
  · rw [if_pos h, if_pos h]; rfl
  · rw [if_neg h, if_neg h]; rfl

theorem weight_word (p : Prop) [Decidable p] (x : EReal) :
    FloatOps.sitofp (F := Ideal) FTy.f32 (BitVec.setWidth 32 (if p then 1#1 else 0#1)) * x = if p then x else 0 := by
  by_cases h : p
  · rw [if_pos h, if_pos h]
    have : FloatOps.sitofp (F := Ideal) FTy.f32 (BitVec.setWidth 32 1#1) = (1 : EReal) := by
      show (((BitVec.setWidth 32 1#1).toInt : ℝ) : EReal) = 1
      rw [show (BitVec.setWidth 32 1#1).toInt = 1 from by decide]; norm_num
    rw [this, one_mul]
  · rw [if_neg h, if_neg h]
    have : FloatOps.sitofp (F := Ideal) FTy.f32 (BitVec.setWidth 32 0#1) = (0 : EReal) := by
      show (((BitVec.setWidth 32 0#1).toInt : ℝ) : EReal) = 0
      rw [show (BitVec.setWidth 32 0#1).toInt = 0 from by decide]; norm_num
    rw [this, zero_mul]

end Cert.Scan

end
-- ==== Proof.GlaPoint.lean ====
module

public import proofs.«01_k».proof.Proof.GlaFun
public import proofs.«01_k».proof.Proof.Spec
public import Idealize.ShloMosaic.Lib.VecWindow

@[expose] public section

set_option maxRecDepth 16384

noncomputable section

namespace Cert.KernelIdeal.Gla

open Cert.KernelIdeal Cert.KernelIdeal.Gen
open Idealize.ShloMosaic

/-! The body's arithmetic on one chunk, by coordinates. A backward chunk is a forward one with its rows turned round: `ρ` is
    the order of the rows, the identity or that turn. -/

section
variable (ρ : Equiv.Perm (Fin 64)) (msk : IVec S64x64 1) (hm : ∀ i j, msk (ix2 i j) = if ρ j ≤ ρ i then 1#1 else 0#1)

include hm in
/-- The running decay. -/
theorem cumv_eq (la : FVec Ideal S64x512 .f32) (hla : ∀ i d, la (ix2 i d) ≠ (⊤ : EReal)) (i : Fin 64) (d : Fin 512) :
    cumv (F := Ideal) (tri msk) la (ix2 i d) = Scan.cumS (fun j d => la (ix2 (ρ.symm j) d)) (ρ i) d := by
  pointwise [cumv, tri]
  simp only [hm, Scan.weight_word]
  refine (Scan.sum_three (fun j => ρ j ≤ ρ i) (fun j => la (ix2 j d)) (fun j => hla j d)).trans ?_
  unfold Scan.cumS
  refine Fintype.sum_equiv ρ _ _ fun x => ?_
  beta_reduce
  rw [Equiv.symm_apply_apply]

/-- The state after a chunk. -/
theorem stv_eq (la : Fin 64 → Fin 512 → EReal) (cum tot k v st) (hc : ∀ i d, cum (ix2 i d) = Scan.cumS la (ρ i) d)
    (ht : ∀ d, tot (ix2 0 d) = Scan.cumS la 63 d) (d : Fin 512) (e : Fin 1024) :
    stv (F := Ideal) cum tot k v st (ix2 d e)
      = Scan.stS la (fun j d => k (ix2 (ρ.symm j) d)) (fun j e => v (ix2 (ρ.symm j) e)) (fun d e => st (ix2 d e)) d e := by
  unfold Scan.stS
  pointwise [stv]
  rw [ht]
  congr 1
  refine Fintype.sum_equiv ρ _ _ fun x => ?_
  rw [Equiv.symm_apply_apply, hc]

include hm in
/-- The rows of a chunk. -/
theorem outv_eq (la : Fin 64 → Fin 512 → EReal) (cum q k v st) (hc : ∀ i d, cum (ix2 i d) = Scan.cumS la (ρ i) d) (i : Fin 64) (e : Fin 1024) :
    outv (F := Ideal) msk cum q k v st (ix2 i e)
      = Scan.outS la (fun j d => q (ix2 (ρ.symm j) d) * Scan.scale) (fun j d => k (ix2 (ρ.symm j) d)) (fun j e => v (ix2 (ρ.symm j) e))
          (fun d e => st (ix2 d e)) (ρ i) e := by
  unfold Scan.outS
  pointwise [outv]
  congr 1
  · refine Fintype.sum_equiv ρ _ _ fun x => ?_
    rw [hm, Scan.select_word, ite_mul, zero_mul]
    by_cases hj : ρ x ≤ ρ i
    swap
    · rw [if_neg hj, if_neg hj]
    rw [if_pos hj, if_pos hj]
    simp only [Equiv.symm_apply_apply]
    refine congrArg (fun y : EReal => y * (v (ix2 x e) : EReal)) ?_
    refine Finset.sum_congr rfl fun d _ => ?_
    rw [hc, hc, zero_sub, mul_right_comm (q _) _ Scan.scale]
  · refine Finset.sum_congr rfl fun d _ => ?_
    rw [Equiv.symm_apply_apply, hc, mul_right_comm (q _) _ Scan.scale]
end

/-- The log of the decay. -/
theorem logA_eq (z : Vec Ideal S64x128 .f32) (w : Vec Ideal S1x128x512 .bf16) (b : Vec Ideal S1x1x512 .f32) (i : Fin 64) (d : Fin 512) :
    logA (F := Ideal) z w b (ix2 i d) = Scan.logDecay ((∑ x : Fin 128, w (ix3 0 x d) * z (ix2 i x) : EReal) + b (ix3 0 0 d)) := by
  have e : ((∑ x : Fin 128, w (ix3 0 x d) * z (ix2 i x) : EReal) + b (ix3 0 0 d)) = ((∑ x : Fin 128, z (ix2 i x) * w (ix3 0 x d) : EReal) + b (ix3 0 0 d)) := by
    congr 1; exact Finset.sum_congr rfl fun x _ => mul_comm _ _
  rw [e, ← Scan.logDecay_eq]
  pointwise [logA]

/-- The rows normalised, scaled and gated. -/
theorem normv_eq (o f g r) (i : Fin 64) (e : Fin 1024) : normv (F := Ideal) o f g r (ix2 i e)
    = Scan.normS (fun x => f (ix2 i x) + o (ix2 i x)) (fun x => g (ix2 0 x)) (fun x => r (ix2 i x)) e := by
  unfold Scan.normS
  rw [← zero_sub (r (ix2 i e))]
  pointwise [normv]

/-! ## Masks, rows and totals -/

theorem maskF_eq (i j : Fin 64) : maskF (ix2 i j) = if (Equiv.refl (Fin 64)) j ≤ (Equiv.refl (Fin 64)) i then 1#1 else 0#1 := by
  rw [show (if (Equiv.refl (Fin 64)) j ≤ (Equiv.refl (Fin 64)) i then 1#1 else 0#1 : BitVec 1) = _ from (Scan.word_le i j).symm]
  pointwise [maskF]

theorem maskB_eq (i j : Fin 64) : maskB (ix2 i j) = if Fin.revPerm j ≤ Fin.revPerm i then 1#1 else 0#1 := by
  rw [show (if Fin.revPerm j ≤ Fin.revPerm i then 1#1 else 0#1 : BitVec 1) = _ from (Scan.word_ge i j).symm]
  pointwise [maskB]

theorem totF_eq (x) (d : Fin 512) : totF (F := Ideal) x (ix2 0 d) = x (ix2 63 d) := by pointwise [totF]
theorem totB_eq (x) (d : Fin 512) : totB (F := Ideal) x (ix2 0 d) = x (ix2 0 d) := by pointwise [totB]

/-- Row `64 k + i` of a block. -/
abbrev at64 (k : Fin 4) (i : Fin 64) : Fin 256 := ⟨64 * k.val + i.val, by omega⟩

theorem rows128_eq (x : Vec Ideal S256x128 .f32) (k : Fin 4) (i : Fin 64) (d : Fin 128) : rows128 x k (ix2 i d) = x (ix2 (at64 k i) d) := by
  unfold rows128
  congr 1; funext a; apply Fin.ext
  fin_cases a
  · show 64 * k.val + 1 * i.val = 64 * k.val + i.val; omega
  · show 0 + 1 * d.val = d.val; omega
theorem rows512_eq {t : EltTy} (x : Vec Ideal S256x512 t) (k : Fin 4) (i : Fin 64) (d : Fin 512) : rows512 x k (ix2 i d) = x (ix2 (at64 k i) d) := by
  unfold rows512
  congr 1; funext a; apply Fin.ext
  fin_cases a
  · show 64 * k.val + 1 * i.val = 64 * k.val + i.val; omega
  · show 0 + 1 * d.val = d.val; omega
theorem rows1024_eq {t : EltTy} (x : Vec Ideal S256x1024 t) (k : Fin 4) (i : Fin 64) (d : Fin 1024) : rows1024 x k (ix2 i d) = x (ix2 (at64 k i) d) := by
  unfold rows1024
  congr 1; funext a; apply Fin.ext
  fin_cases a
  · show 64 * k.val + 1 * i.val = 64 * k.val + i.val; omega
  · show 0 + 1 * d.val = d.val; omega
theorem allW_eq (x) : allW (F := Ideal) x = x := by
  unfold allW
  funext j
  exact congrArg x (Rect.emb_unit_full _ _)
theorem allB_eq (x) : allB (F := Ideal) x = x := by
  unfold allB
  funext j
  exact congrArg x (Rect.emb_unit_full _ _)
theorem allG_eq (x) : allG (F := Ideal) x = x := by
  unfold allG
  funext j
  exact congrArg x (Rect.emb_unit_full _ _)

end Cert.KernelIdeal.Gla

end
-- ==== Proof.SpecArgs.lean ====
module

public import proofs.«01_k».proof.Proof.Spec

@[expose] public section

noncomputable section

namespace Cert.Scan

open Idealize.ShloMosaic

/-! The scan of the arguments: which entries of the projections a chunk of a batch, a head and a direction has. -/

/-- Row `i` of chunk `n`: the backward direction counts from the end. -/
def rowOf (δ : Fin 2) (n : Fin 4) (i : Fin 64) : Fin 256 :=
  if δ.val < 1 then ⟨n.val * 64 + i.val, by omega⟩ else ⟨255 - (n.val * 64 + i.val), by omega⟩

abbrev Proj : Type := (⟨2, ![20480, 12288]⟩ : Shape).Idx → EReal
abbrev Low : Type := (⟨2, ![20480, 128]⟩ : Shape).Idx → EReal
abbrev Up : Type := (⟨3, ![2, 128, 2048]⟩ : Shape).Idx → EReal
abbrev Bias : Type := (⟨2, ![2, 2048]⟩ : Shape).Idx → EReal
abbrev Gain : Type := (⟨1, ![4096]⟩ : Shape).Idx → EReal

/-- Row `r` of batch `b`. -/
abbrev rowAt (b : Fin 16) (r : Fin 256) : Fin 20480 := ⟨b.val * 256 + r.val, by omega⟩
abbrev colQ (h : Fin 4) (d : Fin 512) : Fin 12288 := ⟨h.val * 512 + d.val, by omega⟩
abbrev colK (h : Fin 4) (d : Fin 512) : Fin 12288 := ⟨2048 + (h.val * 512 + d.val), by omega⟩
abbrev colV (h : Fin 4) (e : Fin 1024) : Fin 12288 := ⟨4096 + (h.val * 1024 + e.val), by omega⟩
abbrev colR (h : Fin 4) (e : Fin 1024) : Fin 12288 := ⟨8192 + (h.val * 1024 + e.val), by omega⟩
abbrev colH (h : Fin 4) (d : Fin 512) : Fin 2048 := ⟨h.val * 512 + d.val, by omega⟩
abbrev colG (h : Fin 4) (e : Fin 1024) : Fin 4096 := ⟨h.val * 1024 + e.val, by omega⟩

variable (a0 : Proj) (a1 : Low) (a2 : Up) (a3 : Bias) (a4 : Gain) (δ : Fin 2) (b : Fin 16) (h : Fin 4)

def argQ (n : Fin 4) (i : Fin 64) (d : Fin 512) : EReal := a0 (ix2 (rowAt b (rowOf δ n i)) (colQ h d)) * scale
def argK (n : Fin 4) (i : Fin 64) (d : Fin 512) : EReal := a0 (ix2 (rowAt b (rowOf δ n i)) (colK h d))
def argV (n : Fin 4) (i : Fin 64) (e : Fin 1024) : EReal := a0 (ix2 (rowAt b (rowOf δ n i)) (colV h e))
def argLa (n : Fin 4) (i : Fin 64) (d : Fin 512) : EReal :=
  logDecay ((∑ x : Fin 128, a2 (ix3 δ x (colH h d)) * a1 (ix2 (rowAt b (rowOf δ n i)) x)) + a3 (ix2 δ (colH h d)))

/-- The state before chunk `n` of a direction, -/
def argStates (n : ℕ) : Fin 512 → Fin 1024 → EReal := states (argLa a1 a2 a3 δ b h) (argK a0 δ b h) (argV a0 δ b h) n
/-- and the rows of chunk `n`. -/
def argRows (n : Fin 4) : Fin 64 → Fin 1024 → EReal :=
  rows (argLa a1 a2 a3 δ b h) (argQ a0 δ b h) (argK a0 δ b h) (argV a0 δ b h) n

/-- The direction's output at row `r` of the batch: chunk and place are counted in the direction. -/
def argRow (r : Fin 256) : Fin 1024 → EReal :=
  argRows a0 a1 a2 a3 δ b h
    (if δ.val < 1 then ⟨r.val / 64, by omega⟩ else ⟨(255 - r.val) / 64, by omega⟩)
    (if δ.val < 1 then ⟨r.val % 64, by omega⟩ else ⟨(255 - r.val) % 64, by omega⟩)

/-- The layer's rows: both directions together, normalised, scaled and gated. -/
def outRow (r : Fin 256) : Fin 1024 → EReal :=
  normS (fun e => argRow a0 a1 a2 a3 0 b h r e + argRow a0 a1 a2 a3 1 b h r e) (fun e => a4 (ix1 (colG h e)))
    (fun e => a0 (ix2 (rowAt b r) (colR h e)))

end Cert.Scan

end
-- ==== Proof.GlaChunks.lean ====
module

public import proofs.«01_k».proof.Proof.GlaPoint
public import proofs.«01_k».proof.Proof.SpecArgs

@[expose] public section

set_option maxRecDepth 16384

noncomputable section

namespace Cert.KernelIdeal.Gla

open Cert.KernelIdeal Cert.KernelIdeal.Gen
open Idealize.ShloMosaic

/-! The four chunks of a grid point, by coordinates: the states and rows of the scan of the point's blocks. -/

variable (x0 x1 : Vec Ideal S256x512 .bf16) (x2 x3 : Vec Ideal S256x1024 .bf16) (x4 : Vec Ideal S256x128 .f32)
  (x5 : Vec Ideal S1x128x512 .bf16) (x6 : Vec Ideal S1x1x512 .f32) (x7 : Vec Ideal S1x1024 .f32)

def blkQ (δ : Fin 2) (n : Fin 4) (i : Fin 64) (d : Fin 512) : EReal := x0 (ix2 (Scan.rowOf δ n i) d) * Scan.scale
def blkK (δ : Fin 2) (n : Fin 4) (i : Fin 64) (d : Fin 512) : EReal := x1 (ix2 (Scan.rowOf δ n i) d)
def blkV (δ : Fin 2) (n : Fin 4) (i : Fin 64) (e : Fin 1024) : EReal := x2 (ix2 (Scan.rowOf δ n i) e)
def blkLa (δ : Fin 2) (n : Fin 4) (i : Fin 64) (d : Fin 512) : EReal :=
  Scan.logDecay ((∑ x : Fin 128, x5 (ix3 0 x d) * x4 (ix2 (Scan.rowOf δ n i) x) : EReal) + x6 (ix3 0 0 d))

theorem rowF (n : Fin 4) (i : Fin 64) : at64 n ((Equiv.refl (Fin 64)).symm i) = Scan.rowOf 0 n i := by
  unfold Scan.rowOf
  rw [if_pos (by decide)]
  exact Fin.ext (show 64 * n.val + i.val = n.val * 64 + i.val by omega)
theorem rowB (n : Fin 4) (i : Fin 64) : at64 n.rev (Fin.revPerm.symm i) = Scan.rowOf 1 n i := by
  unfold Scan.rowOf
  rw [if_neg (by decide)]
  refine Fin.ext ?_
  show 64 * n.rev.val + i.rev.val = 255 - (n.val * 64 + i.val)
  rw [Fin.val_rev, Fin.val_rev]
  omega
theorem fin3 (n : ℕ) (hn : n < 4) : Fin.ofNat 4 (3 - n) = (Fin.ofNat 4 n).rev := by
  refine Fin.ext ?_
  rw [Fin.val_rev]
  show (3 - n) % 4 = 4 - (n % 4 + 1)
  omega

/-- The log of a chunk's decay is below infinity. -/
theorem la_ne_top (k : Fin 4) (i : Fin 64) (d : Fin 512) : logA (F := Ideal) (rows128 x4 k) (allW x5) (allB x6) (ix2 i d) ≠ (⊤ : EReal) := by
  rw [logA_eq]
  exact Scan.logDecay_ne_top _

theorem cumF_eq (n : Fin 4) (i : Fin 64) (d : Fin 512) :
    cumC (F := Ideal) x4 x5 x6 maskF n (ix2 i d) = Scan.cumS (blkLa x4 x5 x6 0 n) (Equiv.refl (Fin 64) i) d := by
  unfold cumC
  rw [cumv_eq (Equiv.refl (Fin 64)) maskF maskF_eq _ (la_ne_top x4 x5 x6 n)]
  congr 1
  funext j d
  rw [logA_eq, allW_eq, allB_eq]
  simp only [rows128_eq, rowF]
  rfl
theorem cumB_eq (n : Fin 4) (i : Fin 64) (d : Fin 512) :
    cumC (F := Ideal) x4 x5 x6 maskB n.rev (ix2 i d) = Scan.cumS (blkLa x4 x5 x6 1 n) (Fin.revPerm i) d := by
  unfold cumC
  rw [cumv_eq Fin.revPerm maskB maskB_eq _ (la_ne_top x4 x5 x6 n.rev)]
  congr 1
  funext j d
  rw [logA_eq, allW_eq, allB_eq]
  simp only [rows128_eq, rowB]
  rfl

/-- The states going forwards. -/
theorem stF_eq (n : ℕ) (d : Fin 512) (e : Fin 1024) :
    stF (F := Ideal) x1 x2 x4 x5 x6 n (ix2 d e) = Scan.states (blkLa x4 x5 x6 0) (blkK x1 0) (blkV x2 0) n d e := by
  induction n generalizing d e with
  | zero =>
    show k0_pay1 (F := Ideal) (ix2 d e) = 0
    pointwise [k0_pay1]
  | succ n ih =>
    rw [stF, stv_eq (Equiv.refl (Fin 64)) (blkLa x4 x5 x6 0 (Fin.ofNat 4 n)) _ _ _ _ _ (cumF_eq x4 x5 x6 (Fin.ofNat 4 n))
      (fun d => by rw [totF_eq, cumF_eq]; rfl), Scan.states]
    congr 1
    · funext j d; rw [rows512_eq, rowF]; rfl
    · funext j e; rw [rows1024_eq, rowF]; rfl
    · funext d e; exact ih d e

/-- The states going backwards. -/
theorem stB_eq (n : ℕ) (hn : n ≤ 4) (d : Fin 512) (e : Fin 1024) :
    stB (F := Ideal) x1 x2 x4 x5 x6 n (ix2 d e) = Scan.states (blkLa x4 x5 x6 1) (blkK x1 1) (blkV x2 1) n d e := by
  induction n generalizing d e with
  | zero =>
    show k0_pay1 (F := Ideal) (ix2 d e) = 0
    pointwise [k0_pay1]
  | succ n ih =>
    rw [stB, fin3 n (by omega), stv_eq Fin.revPerm (blkLa x4 x5 x6 1 (Fin.ofNat 4 n)) _ _ _ _ _ (cumB_eq x4 x5 x6 (Fin.ofNat 4 n))
      (fun d => by rw [totB_eq, cumB_eq]; rfl), Scan.states]
    congr 1
    · funext j d; rw [rows512_eq, rowB]; rfl
    · funext j e; rw [rows1024_eq, rowB]; rfl
    · funext d e; exact ih (by omega) d e

/-- The rows going forwards. -/
theorem outF_eq (n : Fin 4) (i : Fin 64) (e : Fin 1024) : outF (F := Ideal) x0 x1 x2 x4 x5 x6 n.val (ix2 i e)
    = Scan.rows (blkLa x4 x5 x6 0) (blkQ x0 0) (blkK x1 0) (blkV x2 0) n i e := by
  have hn : Fin.ofNat 4 n.val = n := Fin.ext (Nat.mod_eq_of_lt n.isLt)
  unfold outF Scan.rows
  rw [hn, outv_eq (Equiv.refl (Fin 64)) maskF maskF_eq (blkLa x4 x5 x6 0 n) _ _ _ _ _ (cumF_eq x4 x5 x6 n)]
  congr 1
  · funext j d; rw [rows512_eq, rowF]; rfl
  · funext j d; rw [rows512_eq, rowF]; rfl
  · funext j e; rw [rows1024_eq, rowF]; rfl
  · funext d e; exact stF_eq x1 x2 x4 x5 x6 n.val d e

/-- The rows going backwards. -/
theorem outB_eq (n : Fin 4) (i : Fin 64) (e : Fin 1024) : outB (F := Ideal) x0 x1 x2 x4 x5 x6 n.val (ix2 i e)
    = Scan.rows (blkLa x4 x5 x6 1) (blkQ x0 1) (blkK x1 1) (blkV x2 1) n i.rev e := by
  have hn : Fin.ofNat 4 n.val = n := Fin.ext (Nat.mod_eq_of_lt n.isLt)
  unfold outB Scan.rows
  rw [fin3 n.val n.isLt, hn, outv_eq Fin.revPerm maskB maskB_eq (blkLa x4 x5 x6 1 n) _ _ _ _ _ (cumB_eq x4 x5 x6 n)]
  show Scan.outS _ _ _ _ _ i.rev e = _
  congr 1
  · funext j d; rw [rows512_eq, rowB]; rfl
  · funext j d; rw [rows512_eq, rowB]; rfl
  · funext j e; rw [rows1024_eq, rowB]; rfl
  · funext d e; exact stB_eq x1 x2 x4 x5 x6 n.val n.isLt.le d e

/-- The final rows. -/
theorem rowsB_eq (xs : Vec Ideal S256x1024 .f32) (n : Fin 4) (i : Fin 64) (e : Fin 1024) :
    rowsB (F := Ideal) x0 x1 x2 x3 x4 x5 x6 x7 xs n.val (ix2 i e)
      = Scan.normS (fun y => xs (ix2 (at64 n.rev i) y) + Scan.rows (blkLa x4 x5 x6 1) (blkQ x0 1) (blkK x1 1) (blkV x2 1) n i.rev y)
          (fun y => x7 (ix2 0 y)) (fun y => x3 (ix2 (at64 n.rev i) y)) e := by
  have hn : Fin.ofNat 4 n.val = n := Fin.ext (Nat.mod_eq_of_lt n.isLt)
  unfold rowsB
  rw [normv_eq, fin3 n.val n.isLt, hn, allG_eq]
  simp only [rows1024_eq, outB_eq]

end Cert.KernelIdeal.Gla

end
-- ==== Proof.GlaBlocks.lean ====
module

public import proofs.«01_k».proof.Proof.GlaChunks
public import Idealize.ShloMosaic.Lib.Pipeline.ValueKit

@[expose] public section

set_option maxRecDepth 16384

noncomputable section

namespace Cert.KernelIdeal.Gla

open Cert.KernelIdeal Cert.KernelIdeal.Gen
open Idealize.ShloMosaic Idealize.ShloMosaic.TcCoe Idealize.SL.Sem
open Idealize.ShloMosaic.Pipeline (Dat)

/-! The blocks of a grid point, of the arguments: the point's batch, head and direction. -/

variable (m : (ℓ : Loc nD τ sig) → Buf (Elt Ideal) ℓ) (c : Dev nD) (t : Fin cfg0.N)

/-- The batch, the head and the direction of a point. -/
def batchOf (t : Fin cfg0.N) : Fin 16 := Fin.ofNat 16 (t.val / 8)
def headOf (t : Fin cfg0.N) : Fin 4 := Fin.ofNat 4 (t.val / 2)
def dirOf (t : Fin cfg0.N) : Fin 2 := Fin.ofNat 2 t.val

theorem idx0 : ∀ t : Fin cfg0.N, win0_0.index t = ![(batchOf t).val, (headOf t).val] := (by decide +kernel : ∀ t : Fin grid0.N, _)
theorem idx1 : ∀ t : Fin cfg0.N, win0_1.index t = ![(batchOf t).val, 4 + (headOf t).val] := (by decide +kernel : ∀ t : Fin grid0.N, _)
theorem idx2 : ∀ t : Fin cfg0.N, win0_2.index t = ![(batchOf t).val, 4 + (headOf t).val] := (by decide +kernel : ∀ t : Fin grid0.N, _)
theorem idx3 : ∀ t : Fin cfg0.N, win0_3.index t = ![(batchOf t).val, 8 + (headOf t).val] := (by decide +kernel : ∀ t : Fin grid0.N, _)
theorem idx4 : ∀ t : Fin cfg0.N, win0_4.index t = ![(batchOf t).val, 0] := (by decide +kernel : ∀ t : Fin grid0.N, _)
theorem idx5 : ∀ t : Fin cfg0.N, win0_5.index t = ![(dirOf t).val, 0, (headOf t).val] := (by decide +kernel : ∀ t : Fin grid0.N, _)
theorem idx6 : ∀ t : Fin cfg0.N, win0_6.index t = ![(dirOf t).val, 0, (headOf t).val] := (by decide +kernel : ∀ t : Fin grid0.N, _)
theorem idx7 : ∀ t : Fin cfg0.N, win0_7.index t = ![0, (headOf t).val] := (by decide +kernel : ∀ t : Fin grid0.N, _)
theorem idx8 : ∀ t : Fin cfg0.N, win0_8.index t = ![(batchOf t).val, (headOf t).val] := (by decide +kernel : ∀ t : Fin grid0.N, _)
theorem idx9 : ∀ t : Fin cfg0.N, win0_9.index t = ![(batchOf t).val, 0, (dirOf t).val, (headOf t).val, 0, 0] := (by decide +kernel : ∀ t : Fin grid0.N, _)

abbrev A0 : Scan.Proj := m ((c.tc : Thread nD τ).loc main_arg0)
abbrev A1 : Scan.Low := m ((c.tc : Thread nD τ).loc main_arg1)
abbrev A2 : Scan.Up := m ((c.tc : Thread nD τ).loc main_arg2)
abbrev A3 : Scan.Bias := m ((c.tc : Thread nD τ).loc main_arg3)
abbrev A4 : Scan.Gain := m ((c.tc : Thread nD τ).loc main_arg4)

theorem blk0 (r : Fin 256) (d : Fin 512) : iblk m c 0 t (ix2 r d) = A0 m c (ix2 (Scan.rowAt (batchOf t) r) (Scan.colQ (headOf t) d)) := by
  blk_ext! [iblk, V, idx0 t]
theorem blk1 (r : Fin 256) (d : Fin 512) : iblk m c 1 t (ix2 r d) = A0 m c (ix2 (Scan.rowAt (batchOf t) r) (Scan.colK (headOf t) d)) := by
  blk_ext! [iblk, V, idx1 t]
theorem blk2 (r : Fin 256) (e : Fin 1024) : iblk m c 2 t (ix2 r e) = A0 m c (ix2 (Scan.rowAt (batchOf t) r) (Scan.colV (headOf t) e)) := by
  blk_ext! [iblk, V, idx2 t]
theorem blk3 (r : Fin 256) (e : Fin 1024) : iblk m c 3 t (ix2 r e) = A0 m c (ix2 (Scan.rowAt (batchOf t) r) (Scan.colR (headOf t) e)) := by
  blk_ext! [iblk, V, idx3 t]
theorem blk4 (r : Fin 256) (x : Fin 128) : iblk m c 4 t (ix2 r x) = A1 m c (ix2 (Scan.rowAt (batchOf t) r) x) := by
  blk_ext! [iblk, V, idx4 t]
theorem blk5 (x : Fin 128) (d : Fin 512) : iblk m c 5 t (ix3 0 x d) = A2 m c (ix3 (dirOf t) x (Scan.colH (headOf t) d)) := by
  blk_ext! [iblk, V, idx5 t]
theorem blk6 (d : Fin 512) : iblk m c 6 t (ix3 0 0 d) = A3 m c (ix2 (dirOf t) (Scan.colH (headOf t) d)) := by
  blk_ext! [iblk, V, idx6 t]
theorem blk7 (e : Fin 1024) : iblk m c 7 t (ix2 0 e) = A4 m c (ix1 (Scan.colG (headOf t) e)) := by
  blk_ext! [iblk, V, idx7 t]

end Cert.KernelIdeal.Gla

end
-- ==== Proof.GlaRead.lean ====
module

public import proofs.«01_k».proof.Proof.GlaRun
public import Idealize.ShloMosaic.Lib.WholeRead

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! Reading what a piece holds, and what was stored last. -/

theorem readAt_block {s : Shape} {e : EltTy} {M : Memref sig .tc .vmem s e} (h : M.IsWhole) (X : s.Idx → Elt F e) (r : Rect s) :
    View.readAt (Elt F) M.view r.toLoadRect (h.unread X) = fun j => X (r.emb j) :=
  funext fun j => h.readAt_unread X _ j

theorem readCov_last (M : Memref sig .tc .vmem S512x1024 .f32) (r : Rect S512x1024) (w : r.shape.Idx → Elt F .f32)
    (L : List (View.Piece (Elt F) S512x1024 .f32)) : M.view.readCov (⟨r, w⟩ :: L) r.toLoadRect = w :=
  View.readCov_cons_toLoadRect _ r w L

end Cert.KernelIdeal.Gla

end
-- ==== Proof.GlaStateA.lean ====
module

public import proofs.«01_k».proof.Proof.GlaFun
public import proofs.«01_k».proof.Proof.GlaRead

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! The state the forward point holds after each chunk. -/

variable (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x128 .f32) (harg7 : arg7.IsWhole) (arg8 : Memref sig .tc .vmem S1x128x512 .bf16) (harg8 : arg8.IsWhole) (arg9 : Memref sig .tc .vmem S1x1x512 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S1x2x1x1x512x1024 .f32) (harg12 : arg12.IsWhole) (arg13 : Memref sig .tc .vmem S512x1024 .f32) (harg13 : arg13.IsWhole) (arg14 : Memref sig .tc .vmem S256x1024 .f32) (harg14 : arg14.IsWhole)
variable (x0 : Vec F S256x512 .bf16) (x1 : Vec F S256x512 .bf16) (x2 : Vec F S256x1024 .bf16) (x3 : Vec F S256x1024 .bf16) (x4 : Vec F S256x128 .f32) (x5 : Vec F S1x128x512 .bf16) (x6 : Vec F S1x1x512 .f32) (x7 : Vec F S1x1024 .f32)

theorem runA_st0 : kernelRunA.sl.v80 (F := F) c arg13 = stF x1 x2 x4 x5 x6 0 := readCov_last _ _ _ _

set_option maxHeartbeats 1000000 in
theorem runA_st1 : kernelRunA.sl.v159 c arg4 harg4 arg5 harg5 arg7 harg7 arg8 harg8 arg9 harg9 arg13 x1 x2 x4 x5 x6 = stF x1 x2 x4 x5 x6 1 := by
  unfold kernelRunA.sl.v159 kernelRunA.sl.HS0_2
  refine (readCov_last _ _ _ _).trans ?_
  rw [runA_st0 c arg13 x1 x2 x4 x5 x6]
  simp only [kernelRunA.sl.r_2, kernelRunA.sl.r_3, readAt_block]
  rfl

set_option maxHeartbeats 1000000 in
theorem runA_st2 : kernelRunA.sl.v238 c arg4 harg4 arg5 harg5 arg7 harg7 arg8 harg8 arg9 harg9 arg13 x1 x2 x4 x5 x6 = stF x1 x2 x4 x5 x6 2 := by
  unfold kernelRunA.sl.v238 kernelRunA.sl.HS0_3
  refine (readCov_last _ _ _ _).trans ?_
  rw [runA_st1 c arg4 harg4 arg5 harg5 arg7 harg7 arg8 harg8 arg9 harg9 arg13 x1 x2 x4 x5 x6]
  simp only [kernelRunA.sl.r_6, kernelRunA.sl.r_7, kernelRunA.sl.r_9, kernelRunA.sl.r_1, readAt_block]
  rfl

set_option maxHeartbeats 1000000 in
theorem runA_st3 : kernelRunA.sl.v317 c arg4 harg4 arg5 harg5 arg7 harg7 arg8 harg8 arg9 harg9 arg13 x1 x2 x4 x5 x6 = stF x1 x2 x4 x5 x6 3 := by
  unfold kernelRunA.sl.v317 kernelRunA.sl.HS0_4
  refine (readCov_last _ _ _ _).trans ?_
  rw [runA_st2 c arg4 harg4 arg5 harg5 arg7 harg7 arg8 harg8 arg9 harg9 arg13 x1 x2 x4 x5 x6]
  simp only [kernelRunA.sl.r_10, kernelRunA.sl.r_11, kernelRunA.sl.r_13, kernelRunA.sl.r_14, kernelRunA.sl.r_1, readAt_block]
  rfl

set_option maxHeartbeats 1000000 in
theorem runA_st4 : kernelRunA.sl.v18 c arg4 harg4 arg5 harg5 arg7 harg7 arg8 harg8 arg9 harg9 arg13 x1 x2 x4 x5 x6 = stF x1 x2 x4 x5 x6 4 := by
  unfold kernelRunA.sl.v18 kernelRunA.sl.HS0_5
  refine (readCov_last _ _ _ _).trans ?_
  rw [runA_st3 c arg4 harg4 arg5 harg5 arg7 harg7 arg8 harg8 arg9 harg9 arg13 x1 x2 x4 x5 x6]
  simp only [kernelRunA.sl.r_17, kernelRunA.sl.r_18, kernelRunA.sl.r_19, kernelRunA.sl.r_20, kernelRunA.sl.r_16, kernelRunA.sl.r_1, readAt_block]
  rfl

end Cert.KernelIdeal.Gla

end
-- ==== Proof.GlaPieceA.lean ====
module

public import proofs.«01_k».proof.Proof.GlaStateA

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! The pieces the forward point stores. -/

variable (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x128 .f32) (harg7 : arg7.IsWhole) (arg8 : Memref sig .tc .vmem S1x128x512 .bf16) (harg8 : arg8.IsWhole) (arg9 : Memref sig .tc .vmem S1x1x512 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S1x2x1x1x512x1024 .f32) (harg12 : arg12.IsWhole) (arg13 : Memref sig .tc .vmem S512x1024 .f32) (harg13 : arg13.IsWhole) (arg14 : Memref sig .tc .vmem S256x1024 .f32) (harg14 : arg14.IsWhole)
variable (x0 : Vec F S256x512 .bf16) (x1 : Vec F S256x512 .bf16) (x2 : Vec F S256x1024 .bf16) (x3 : Vec F S256x1024 .bf16) (x4 : Vec F S256x128 .f32) (x5 : Vec F S1x128x512 .bf16) (x6 : Vec F S1x1x512 .f32) (x7 : Vec F S1x1024 .f32)

set_option maxHeartbeats 1000000 in
theorem kernelRunA_states (hc0 : cond0_0 i) (hc1 : cond0_1 i) (hc2 : ¬cond0_2 i) (hc3 : cond0_3 i) : (kernelRunA c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7).1.1 =
    [⟨Rect.unit (s := S1x2x1x1x512x1024) ![0, 1, 0, 0, 0, 0] ![1, 1, 1, 1, 512, 1024] inb_S1x2x1x1x512x1024_S1x1x1x1x512x1024_0_1_0_0_0_0, k0_pay6⟩,
     ⟨Rect.unit (s := S1x2x1x1x512x1024) ![0, 0, 0, 0, 0, 0] ![1, 1, 1, 1, 512, 1024] inb_S1x2x1x1x512x1024_S1x1x1x1x512x1024_0_0_0_0_0_0,
       k0_pay5 (stF x1 x2 x4 x5 x6 4)⟩] := by
  unfold kernelRunA
  dsimp only
  rw [runA_st4 c arg4 harg4 arg5 harg5 arg7 harg7 arg8 harg8 arg9 harg9 arg13 x1 x2 x4 x5 x6]

set_option maxHeartbeats 1000000 in
theorem kernelRunA_rows (hc0 : cond0_0 i) (hc1 : cond0_1 i) (hc2 : ¬cond0_2 i) (hc3 : cond0_3 i) : (kernelRunA c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7).1.2 =
    [⟨Rect.unit (s := S256x1024) (k0_off1 i 192#32) S64x1024.size (k0_off1_inb i hc1 3), shapeCast S64x1024 (outF x0 x1 x2 x4 x5 x6 3) shapeCasts_S64x1024_S64x1024⟩,
     ⟨Rect.unit (s := S256x1024) (k0_off1 i 128#32) S64x1024.size (k0_off1_inb i hc1 2), shapeCast S64x1024 (outF x0 x1 x2 x4 x5 x6 2) shapeCasts_S64x1024_S64x1024⟩,
     ⟨Rect.unit (s := S256x1024) (k0_off1 i 64#32) S64x1024.size (k0_off1_inb i hc1 1), shapeCast S64x1024 (outF x0 x1 x2 x4 x5 x6 1) shapeCasts_S64x1024_S64x1024⟩,
     ⟨Rect.unit (s := S256x1024) (k0_off1 i 0#32) S64x1024.size (k0_off1_inb i hc1 0), shapeCast S64x1024 (outF x0 x1 x2 x4 x5 x6 0) shapeCasts_S64x1024_S64x1024⟩] := by
  unfold kernelRunA
  dsimp only
  simp only [kernelRunA.sl.r_5, kernelRunA.sl.r_8, kernelRunA.sl.r_9, kernelRunA.sl.r_13, kernelRunA.sl.r_14, kernelRunA.sl.r_12, kernelRunA.sl.r_15, kernelRunA.sl.r_16, kernelRunA.sl.r_19, kernelRunA.sl.r_20, kernelRunA.sl.r_21, kernelRunA.sl.r_2, kernelRunA.sl.r_4, kernelRunA.sl.r_6, kernelRunA.sl.r_10, kernelRunA.sl.r_17, kernelRunA.sl.r, kernelRunA.sl.r_1, readAt_block]
  rw [runA_st0 c arg13 x1 x2 x4 x5 x6, runA_st1 c arg4 harg4 arg5 harg5 arg7 harg7 arg8 harg8 arg9 harg9 arg13 x1 x2 x4 x5 x6, runA_st2 c arg4 harg4 arg5 harg5 arg7 harg7 arg8 harg8 arg9 harg9 arg13 x1 x2 x4 x5 x6, runA_st3 c arg4 harg4 arg5 harg5 arg7 harg7 arg8 harg8 arg9 harg9 arg13 x1 x2 x4 x5 x6]
  rfl

end Cert.KernelIdeal.Gla

end
-- ==== Proof.GlaStateB.lean ====
module

public import proofs.«01_k».proof.Proof.GlaFun
public import proofs.«01_k».proof.Proof.GlaRead

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! The state the backward point holds after each chunk. -/

variable (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x128 .f32) (harg7 : arg7.IsWhole) (arg8 : Memref sig .tc .vmem S1x128x512 .bf16) (harg8 : arg8.IsWhole) (arg9 : Memref sig .tc .vmem S1x1x512 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S1x2x1x1x512x1024 .f32) (harg12 : arg12.IsWhole) (arg13 : Memref sig .tc .vmem S512x1024 .f32) (harg13 : arg13.IsWhole) (arg14 : Memref sig .tc .vmem S256x1024 .f32) (harg14 : arg14.IsWhole)
variable (x0 : Vec F S256x512 .bf16) (x1 : Vec F S256x512 .bf16) (x2 : Vec F S256x1024 .bf16) (x3 : Vec F S256x1024 .bf16) (x4 : Vec F S256x128 .f32) (x5 : Vec F S1x128x512 .bf16) (x6 : Vec F S1x1x512 .f32) (x7 : Vec F S1x1024 .f32)

theorem runB_st0 : kernelRunB.sl.v81 (F := F) c arg13 = stB x1 x2 x4 x5 x6 0 := readCov_last _ _ _ _

set_option maxHeartbeats 1000000 in
theorem runB_st1 : kernelRunB.sl.v190 c arg4 harg4 arg5 harg5 arg7 harg7 arg8 harg8 arg9 harg9 arg13 x1 x2 x4 x5 x6 = stB x1 x2 x4 x5 x6 1 := by
  unfold kernelRunB.sl.v190 kernelRunB.sl.HS0_2
  refine (readCov_last _ _ _ _).trans ?_
  rw [runB_st0 c arg13 x1 x2 x4 x5 x6]
  simp only [kernelRunB.sl.r_2, kernelRunB.sl.r_3, readAt_block]
  rfl

set_option maxHeartbeats 1000000 in
theorem runB_st2 : kernelRunB.sl.v299 c arg4 harg4 arg5 harg5 arg7 harg7 arg8 harg8 arg9 harg9 arg13 x1 x2 x4 x5 x6 = stB x1 x2 x4 x5 x6 2 := by
  unfold kernelRunB.sl.v299 kernelRunB.sl.HS0_3
  refine (readCov_last _ _ _ _).trans ?_
  rw [runB_st1 c arg4 harg4 arg5 harg5 arg7 harg7 arg8 harg8 arg9 harg9 arg13 x1 x2 x4 x5 x6]
  simp only [kernelRunB.sl.r_8, kernelRunB.sl.r_9, kernelRunB.sl.r_10, kernelRunB.sl.r_11, kernelRunB.sl.r_14, kernelRunB.sl.r_7, kernelRunB.sl.r_1, readAt_block]
  rfl

set_option maxHeartbeats 1000000 in
theorem runB_st3 : kernelRunB.sl.v408 c arg4 harg4 arg5 harg5 arg7 harg7 arg8 harg8 arg9 harg9 arg13 x1 x2 x4 x5 x6 = stB x1 x2 x4 x5 x6 3 := by
  unfold kernelRunB.sl.v408 kernelRunB.sl.HS0_4
  refine (readCov_last _ _ _ _).trans ?_
  rw [runB_st2 c arg4 harg4 arg5 harg5 arg7 harg7 arg8 harg8 arg9 harg9 arg13 x1 x2 x4 x5 x6]
  simp only [kernelRunB.sl.r_18, kernelRunB.sl.r_19, kernelRunB.sl.r_20, kernelRunB.sl.r_17, kernelRunB.sl.r_1, kernelRunB.sl.cst_129, readAt_block]
  rfl

set_option maxHeartbeats 1000000 in
theorem runB_st4 : kernelRunB.sl.v18_1 c arg4 harg4 arg5 harg5 arg7 harg7 arg8 harg8 arg9 harg9 arg13 x1 x2 x4 x5 x6 = stB x1 x2 x4 x5 x6 4 := by
  unfold kernelRunB.sl.v18_1 kernelRunB.sl.HS0_5
  refine (readCov_last _ _ _ _).trans ?_
  rw [runB_st3 c arg4 harg4 arg5 harg5 arg7 harg7 arg8 harg8 arg9 harg9 arg13 x1 x2 x4 x5 x6]
  simp only [kernelRunB.sl.r_24, kernelRunB.sl.r_25, kernelRunB.sl.r_1, readAt_block]
  rfl

end Cert.KernelIdeal.Gla

end
-- ==== Proof.GlaPieceB.lean ====
module

public import proofs.«01_k».proof.Proof.GlaStateB

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! The pieces the backward point stores. -/

variable (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x128 .f32) (harg7 : arg7.IsWhole) (arg8 : Memref sig .tc .vmem S1x128x512 .bf16) (harg8 : arg8.IsWhole) (arg9 : Memref sig .tc .vmem S1x1x512 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S1x2x1x1x512x1024 .f32) (harg12 : arg12.IsWhole) (arg13 : Memref sig .tc .vmem S512x1024 .f32) (harg13 : arg13.IsWhole) (arg14 : Memref sig .tc .vmem S256x1024 .f32) (harg14 : arg14.IsWhole)
variable (x0 : Vec F S256x512 .bf16) (x1 : Vec F S256x512 .bf16) (x2 : Vec F S256x1024 .bf16) (x3 : Vec F S256x1024 .bf16) (x4 : Vec F S256x128 .f32) (x5 : Vec F S1x128x512 .bf16) (x6 : Vec F S1x1x512 .f32) (x7 : Vec F S1x1024 .f32)

set_option maxHeartbeats 1000000 in
theorem kernelRunB_states (hc0 : cond0_0 i) (hc1 : ¬cond0_1 i) (hc2 : cond0_2 i) (hc3 : cond0_3 i) (xs : Vec F S256x1024 .f32) : (kernelRunB c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs).1.2 =
    [⟨Rect.unit (s := S1x2x1x1x512x1024) ![0, 1, 0, 0, 0, 0] ![1, 1, 1, 1, 512, 1024] inb_S1x2x1x1x512x1024_S1x1x1x1x512x1024_0_1_0_0_0_0, k0_pay6⟩,
     ⟨Rect.unit (s := S1x2x1x1x512x1024) ![0, 0, 0, 0, 0, 0] ![1, 1, 1, 1, 512, 1024] inb_S1x2x1x1x512x1024_S1x1x1x1x512x1024_0_0_0_0_0_0,
       k0_pay5 (stB x1 x2 x4 x5 x6 4)⟩] := by
  unfold kernelRunB
  dsimp only
  rw [runB_st4 c arg4 harg4 arg5 harg5 arg7 harg7 arg8 harg8 arg9 harg9 arg13 x1 x2 x4 x5 x6]

omit [FloatOps F] in
theorem rows_at {e : EltTy} (xs : Vec F S256x1024 e) (k : Fin 4) (off : Fin 2 → Nat) (h : off = ![64 * k.val, 0]) (inb : ∀ a, off a + S64x1024.size a ≤ S256x1024.size a) :
    (fun j => xs ((Rect.unit (s := S256x1024) off S64x1024.size inb).emb j)) = rows1024 xs k := by subst h; rfl

set_option maxHeartbeats 1000000 in
theorem kernelRunB_rows (hc0 : cond0_0 i) (hc1 : ¬cond0_1 i) (hc2 : cond0_2 i) (hc3 : cond0_3 i) (xs : Vec F S256x1024 .f32) (o0 : k0_off2 i 0#32 = ![0, 0]) (o1 : k0_off2 i 64#32 = ![64, 0]) (o2 : k0_off2 i 128#32 = ![128, 0]) (o3 : k0_off2 i 192#32 = ![192, 0]) : (kernelRunB c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xs).1.1 =
    [⟨Rect.unit (s := S256x1024) ![0, 0] ![64, 1024] inb_S256x1024_S64x1024_0_0, rowsB x0 x1 x2 x3 x4 x5 x6 x7 xs 3⟩,
     ⟨Rect.unit (s := S256x1024) ![64, 0] S64x1024.size inb_S256x1024_S64x1024_64_0, rowsB x0 x1 x2 x3 x4 x5 x6 x7 xs 2⟩,
     ⟨Rect.unit (s := S256x1024) ![128, 0] S64x1024.size inb_S256x1024_S64x1024_128_0, rowsB x0 x1 x2 x3 x4 x5 x6 x7 xs 1⟩,
     ⟨Rect.unit (s := S256x1024) ![192, 0] S64x1024.size inb_S256x1024_S64x1024_192_0, rowsB x0 x1 x2 x3 x4 x5 x6 x7 xs 0⟩] := by
  unfold kernelRunB
  dsimp only
  simp only [kernelRunB.sl.r_2, kernelRunB.sl.r_4, kernelRunB.sl.r_5, kernelRunB.sl.r_6, kernelRunB.sl.r_7, kernelRunB.sl.r_8, kernelRunB.sl.r_10, kernelRunB.sl.r_11, kernelRunB.sl.r_12, kernelRunB.sl.r_13, kernelRunB.sl.r_15, kernelRunB.sl.r_16, kernelRunB.sl.r_17, kernelRunB.sl.r_18, kernelRunB.sl.r_19, kernelRunB.sl.r_21, kernelRunB.sl.r_22, kernelRunB.sl.r_23, kernelRunB.sl.r_24, kernelRunB.sl.r_26, kernelRunB.sl.r_27, kernelRunB.sl.r_28, kernelRunB.sl.r, kernelRunB.sl.r_1, readAt_block]
  rw [runB_st0 c arg13 x1 x2 x4 x5 x6, runB_st1 c arg4 harg4 arg5 harg5 arg7 harg7 arg8 harg8 arg9 harg9 arg13 x1 x2 x4 x5 x6, runB_st2 c arg4 harg4 arg5 harg5 arg7 harg7 arg8 harg8 arg9 harg9 arg13 x1 x2 x4 x5 x6, runB_st3 c arg4 harg4 arg5 harg5 arg7 harg7 arg8 harg8 arg9 harg9 arg13 x1 x2 x4 x5 x6,
    rows_at xs 0 _ o0, rows_at xs 1 _ o1, rows_at xs 2 _ o2, rows_at xs 3 _ o3]
  rfl

end Cert.KernelIdeal.Gla

end
-- ==== Proof.GlaLeaves.lean ====
module

public import proofs.«01_k».proof.Proof.GlaBlocks
public import proofs.«01_k».proof.Proof.GlaPieceA
public import proofs.«01_k».proof.Proof.GlaPieceB

@[expose] public section

set_option maxRecDepth 16384

noncomputable section

namespace Cert.KernelIdeal.Gla

open Cert.KernelIdeal Cert.KernelIdeal.Gen
open Idealize.ShloMosaic Idealize.ShloMosaic.TcCoe Idealize.SL.Sem
open Idealize.ShloMosaic.Pipeline (Dat)

/-! What a grid point leaves in its outputs, of the arguments. -/

/-! ## Stores of blocks of rows and of the two layers -/

theorem emb_rows (o : Fin 2 → ℕ) (k : Fin 4) (ho : o = ![64 * k.val, 0]) (inb : ∀ a, o a + S64x1024.size a ≤ S256x1024.size a) (i : Fin 64) (j : Fin 1024) :
    (Rect.unit (s := S256x1024) o S64x1024.size inb).emb (ix2 i j) = ix2 (at64 k i) j := by
  subst ho
  funext a; apply Fin.ext
  fin_cases a
  · show 64 * k.val + 1 * i.val = 64 * k.val + i.val; omega
  · show 0 + 1 * j.val = j.val; omega

theorem canon_block {e : EltTy} (o : Fin 2 → ℕ) (k : Fin 4) (ho : o = ![64 * k.val, 0]) (inb : ∀ a, o a + S64x1024.size a ≤ S256x1024.size a)
    (w : Vec Ideal S64x1024 e) (L : List (View.Piece (Elt Ideal) S256x1024 e)) (k' : Fin 4) (i : Fin 64) (j : Fin 1024) :
    View.canon ((⟨Rect.unit (s := S256x1024) o S64x1024.size inb, w⟩ : View.Piece (Elt Ideal) S256x1024 e) :: L) (ix2 (at64 k' i) j)
      = if k' = k then w (ix2 i j) else View.canon L (ix2 (at64 k' i) j) := by
  by_cases hk : k' = k
  · subst hk
    rw [if_pos rfl]
    have key := View.canon_cons_emb (Val := Elt Ideal) (e := e) (Rect.unit (s := S256x1024) o S64x1024.size inb) w L (ix2 i j)
    exact (congrArg (View.canon _) (emb_rows o k' ho inb i j).symm).trans key
  · rw [if_neg hk]
    refine View.canon_cons_of_not_mem _ L ?_
    intro hm
    have hm0 := ((Rect.mem_set_unit (inb := inb)).mp hm) 0
    rw [ho] at hm0
    have h1 : 64 * k.val ≤ 64 * k'.val + i.val := hm0.1
    have h2 : 64 * k'.val + i.val < 64 * k.val + 64 := hm0.2
    exact hk (Fin.ext (by omega))

theorem canon_four {e : EltTy} {o3 o2 o1 o0 : Fin 2 → ℕ} (k3 k2 k1 k0 : Fin 4) (h3 : o3 = ![64 * k3.val, 0]) (h2 : o2 = ![64 * k2.val, 0])
    (h1 : o1 = ![64 * k1.val, 0]) (h0 : o0 = ![64 * k0.val, 0])
    (i3 : ∀ a, o3 a + S64x1024.size a ≤ S256x1024.size a) (i2 : ∀ a, o2 a + S64x1024.size a ≤ S256x1024.size a)
    (i1 : ∀ a, o1 a + S64x1024.size a ≤ S256x1024.size a) (i0 : ∀ a, o0 a + S64x1024.size a ≤ S256x1024.size a)
    (w3 w2 w1 w0 : Vec Ideal S64x1024 e) (k' : Fin 4) (i : Fin 64) (j : Fin 1024) :
    View.canon ([⟨Rect.unit (s := S256x1024) o3 S64x1024.size i3, w3⟩, ⟨Rect.unit (s := S256x1024) o2 S64x1024.size i2, w2⟩,
        ⟨Rect.unit (s := S256x1024) o1 S64x1024.size i1, w1⟩, ⟨Rect.unit (s := S256x1024) o0 S64x1024.size i0, w0⟩] : List (View.Piece (Elt Ideal) S256x1024 e)) (ix2 (at64 k' i) j)
      = if k' = k3 then w3 (ix2 i j) else if k' = k2 then w2 (ix2 i j) else if k' = k1 then w1 (ix2 i j) else if k' = k0 then w0 (ix2 i j)
        else View.canon ([] : List (View.Piece (Elt Ideal) S256x1024 e)) (ix2 (at64 k' i) j) := by
  rw [canon_block o3 k3 h3, canon_block o2 k2 h2, canon_block o1 k1 h1, canon_block o0 k0 h0]

theorem emb_layer (o : Fin 6 → ℕ) (k : Fin 2) (ho : o = ![0, k.val, 0, 0, 0, 0]) (inb : ∀ a, o a + S1x1x1x1x512x1024.size a ≤ S1x2x1x1x512x1024.size a) (d : Fin 512) (e : Fin 1024) :
    (Rect.unit (s := S1x2x1x1x512x1024) o S1x1x1x1x512x1024.size inb).emb (ix6 0 0 0 0 d e) = ix6 0 k 0 0 d e := by
  subst ho
  funext a; apply Fin.ext
  fin_cases a
  · rfl
  · rfl
  · rfl
  · rfl
  · show 0 + 1 * d.val = d.val; omega
  · show 0 + 1 * e.val = e.val; omega

theorem canon_layer (o : Fin 6 → ℕ) (k : Fin 2) (ho : o = ![0, k.val, 0, 0, 0, 0]) (inb : ∀ a, o a + S1x1x1x1x512x1024.size a ≤ S1x2x1x1x512x1024.size a)
    (w : Vec Ideal S1x1x1x1x512x1024 .f32) (L : List (View.Piece (Elt Ideal) S1x2x1x1x512x1024 .f32)) (l : Fin 2) (d : Fin 512) (e : Fin 1024) :
    View.canon ((⟨Rect.unit (s := S1x2x1x1x512x1024) o S1x1x1x1x512x1024.size inb, w⟩ : View.Piece (Elt Ideal) S1x2x1x1x512x1024 .f32) :: L) (ix6 0 l 0 0 d e)
      = if l = k then w (ix6 0 0 0 0 d e) else View.canon L (ix6 0 l 0 0 d e) := by
  by_cases hk : l = k
  · subst hk
    rw [if_pos rfl]
    have key := View.canon_cons_emb (Val := Elt Ideal) (e := .f32) (Rect.unit (s := S1x2x1x1x512x1024) o S1x1x1x1x512x1024.size inb) w L (ix6 0 0 0 0 d e)
    exact (congrArg (View.canon _) (emb_layer o l ho inb d e).symm).trans key
  · rw [if_neg hk]
    refine View.canon_cons_of_not_mem _ L ?_
    intro hm
    have hm1 := ((Rect.mem_set_unit (inb := inb)).mp hm) 1
    rw [ho] at hm1
    have h1 : k.val ≤ l.val := hm1.1
    have h2 : l.val < k.val + 1 := hm1.2
    exact hk (Fin.ext (by omega))

theorem canon_layers {o1 o0 : Fin 6 → ℕ} (h1 : o1 = ![0, (1 : Fin 2).val, 0, 0, 0, 0]) (h0 : o0 = ![0, (0 : Fin 2).val, 0, 0, 0, 0])
    (i1 : ∀ a, o1 a + S1x1x1x1x512x1024.size a ≤ S1x2x1x1x512x1024.size a) (i0 : ∀ a, o0 a + S1x1x1x1x512x1024.size a ≤ S1x2x1x1x512x1024.size a)
    (w1 w0 : Vec Ideal S1x1x1x1x512x1024 .f32) (l : Fin 2) (d : Fin 512) (e : Fin 1024) :
    View.canon ([⟨Rect.unit (s := S1x2x1x1x512x1024) o1 S1x1x1x1x512x1024.size i1, w1⟩,
        ⟨Rect.unit (s := S1x2x1x1x512x1024) o0 S1x1x1x1x512x1024.size i0, w0⟩] : List (View.Piece (Elt Ideal) S1x2x1x1x512x1024 .f32))
      (ix6 0 l 0 0 d e) = if l.val < 1 then w0 (ix6 0 0 0 0 d e) else w1 (ix6 0 0 0 0 d e) := by
  rw [canon_layer o1 1 h1, canon_layer o0 0 h0]
  fin_cases l
  · rfl
  · rfl

theorem pay5_eq (x) (d : Fin 512) (e : Fin 1024) : k0_pay5 (F := Ideal) x (ix6 0 0 0 0 d e) = x (ix2 d e) := by pointwise [k0_pay5]
theorem pay6_eq (d : Fin 512) (e : Fin 1024) : k0_pay6 (F := Ideal) (ix6 0 0 0 0 d e) = 0 := by pointwise [k0_pay6]

/-! ## The point's sequences are the arguments' -/

variable (m : (ℓ : Loc nD τ sig) → Buf (Elt Ideal) ℓ) (c : Dev nD) (t : Fin cfg0.N)

theorem blkQ_eq (δ : Fin 2) : blkQ (iblk m c 0 t) δ = Scan.argQ (A0 m c) δ (batchOf t) (headOf t) := by
  funext n i d; unfold blkQ Scan.argQ; rw [blk0]
theorem blkK_eq (δ : Fin 2) : blkK (iblk m c 1 t) δ = Scan.argK (A0 m c) δ (batchOf t) (headOf t) := by
  funext n i d; unfold blkK Scan.argK; rw [blk1]
theorem blkV_eq (δ : Fin 2) : blkV (iblk m c 2 t) δ = Scan.argV (A0 m c) δ (batchOf t) (headOf t) := by
  funext n i d; unfold blkV Scan.argV; rw [blk2]
theorem blkLa_eq (δ : Fin 2) (hδ : dirOf t = δ) : blkLa (iblk m c 4 t) (iblk m c 5 t) (iblk m c 6 t) δ
    = Scan.argLa (A1 m c) (A2 m c) (A3 m c) δ (batchOf t) (headOf t) := by
  funext n i d; unfold blkLa Scan.argLa; simp only [blk4, blk5, blk6, hδ]

/-! ## The states -/

theorem dir_even (h : t.val % 2 = 0) : dirOf t = 0 := Fin.ext h
theorem dir_odd (h : t.val % 2 = 1) : dirOf t = 1 := Fin.ext h

theorem states_eq (l : Fin 2) (d : Fin 512) (e : Fin 1024) : statesAt m c t (ix6 0 l 0 0 d e)
    = if l.val < 1 then Scan.argStates (A0 m c) (A1 m c) (A2 m c) (A3 m c) (dirOf t) (batchOf t) (headOf t) 4 d e else 0 := by
  by_cases h : t.val % 2 = 0
  · rw [statesAt_even m c t h]
    unfold runA
    rw [kernelRunA_states]
    refine (canon_layers rfl rfl _ _ _ _ l d e).trans ?_
    rw [pay5_eq, pay6_eq, stF_eq, dir_even t h, blkLa_eq m c t 0 (dir_even t h), blkK_eq, blkV_eq]
    rfl
  · have h1 : t.val % 2 = 1 := by omega
    rw [statesAt_odd m c t h1]
    unfold runB
    rw [kernelRunB_states]
    refine (canon_layers rfl rfl _ _ _ _ l d e).trans ?_
    rw [pay5_eq, pay6_eq, stB_eq _ _ _ _ _ 4 le_rfl, dir_odd t h1, blkLa_eq m c t 1 (dir_odd t h1), blkK_eq, blkV_eq]
    rfl

/-! ## The rows -/

/-- The forward rows a forward point leaves. -/
theorem rowsAt_eq (h : t.val % 2 = 0) (k : Fin 4) (i : Fin 64) (e : Fin 1024) : rowsAt m c t (ix2 (at64 k i) e)
    = Scan.argRows (A0 m c) (A1 m c) (A2 m c) (A3 m c) 0 (batchOf t) (headOf t) k i e := by
  obtain ⟨o0, o1, o2, o3⟩ := off1_even t h
  have key : ∀ n : Fin 4, shapeCast S64x1024 (outF (F := Ideal) (iblk m c 0 t) (iblk m c 1 t) (iblk m c 2 t) (iblk m c 4 t) (iblk m c 5 t) (iblk m c 6 t) n.val)
      shapeCasts_S64x1024_S64x1024 (ix2 i e) = Scan.argRows (A0 m c) (A1 m c) (A2 m c) (A3 m c) 0 (batchOf t) (headOf t) n i e := fun n => by
    rw [shapeCast_self, outF_eq, blkLa_eq m c t 0 (dir_even t h), blkQ_eq, blkK_eq, blkV_eq]
    rfl
  rw [rowsAt_even m c t h]
  unfold runA
  rw [kernelRunA_rows]
  refine (canon_four 3 2 1 0 o3 o2 o1 o0 _ _ _ _ _ _ _ _ k i e).trans ?_
  fin_cases k
  · exact key 0
  · exact key 1
  · exact key 2
  · exact key 3

theorem batch_before (h : t.val % 2 = 1) : batchOf (before t) = batchOf t := Fin.ext (show (t.val - 1) / 8 % 16 = t.val / 8 % 16 by omega)
theorem head_before (h : t.val % 2 = 1) : headOf (before t) = headOf t := Fin.ext (show (t.val - 1) / 2 % 4 = t.val / 2 % 4 by omega)

/-- The rows a backward point leaves. -/
theorem outAt_block (h : t.val % 2 = 1) (k : Fin 4) (i : Fin 64) (e : Fin 1024) : outAt m c t (ix2 (at64 k i) e)
    = Scan.normS (fun y => Scan.argRows (A0 m c) (A1 m c) (A2 m c) (A3 m c) 0 (batchOf t) (headOf t) k i y
        + Scan.argRows (A0 m c) (A1 m c) (A2 m c) (A3 m c) 1 (batchOf t) (headOf t) k.rev i.rev y)
      (fun y => A4 m c (ix1 (Scan.colG (headOf t) y))) (fun y => A0 m c (ix2 (Scan.rowAt (batchOf t) (at64 k i)) (Scan.colR (headOf t) y))) e := by
  obtain ⟨o0, o1, o2, o3⟩ := off2_odd t h
  have hb : (before t).val % 2 = 0 := by show (t.val - 1) % 2 = 0; omega
  have key : ∀ n : Fin 4, rowsB (F := Ideal) (iblk m c 0 t) (iblk m c 1 t) (iblk m c 2 t) (iblk m c 3 t) (iblk m c 4 t) (iblk m c 5 t) (iblk m c 6 t) (iblk m c 7 t)
      (rowsAt m c (before t)) n.val (ix2 i e) = Scan.normS (fun y => Scan.argRows (A0 m c) (A1 m c) (A2 m c) (A3 m c) 0 (batchOf t) (headOf t) n.rev i y
        + Scan.argRows (A0 m c) (A1 m c) (A2 m c) (A3 m c) 1 (batchOf t) (headOf t) n i.rev y)
      (fun y => A4 m c (ix1 (Scan.colG (headOf t) y))) (fun y => A0 m c (ix2 (Scan.rowAt (batchOf t) (at64 n.rev i)) (Scan.colR (headOf t) y))) e := fun n => by
    rw [rowsB_eq, blkLa_eq m c t 1 (dir_odd t h), blkQ_eq, blkK_eq, blkV_eq]
    simp only [rowsAt_eq m c (before t) hb, batch_before t h, head_before t h, blk3, blk7]
    rfl
  rw [outAt_odd m c t h]
  unfold runB
  rw [kernelRunB_rows (o0 := o0) (o1 := o1) (o2 := o2) (o3 := o3)]
  refine (canon_four 0 1 2 3 rfl rfl rfl rfl _ _ _ _ _ _ _ _ k i e).trans ?_
  fin_cases k
  · exact key 3
  · exact key 2
  · exact key 1
  · exact key 0

theorem outAt_eq (h : t.val % 2 = 1) (r : Fin 256) (e : Fin 1024) : outAt m c t (ix2 r e)
    = Scan.outRow (A0 m c) (A1 m c) (A2 m c) (A3 m c) (A4 m c) (batchOf t) (headOf t) r e := by
  have hr : r = at64 ⟨r.val / 64, by omega⟩ ⟨r.val % 64, by omega⟩ := Fin.ext (show r.val = 64 * (r.val / 64) + r.val % 64 by omega)
  have h1 : (⟨r.val / 64, by omega⟩ : Fin 4).rev = ⟨(255 - r.val) / 64, by omega⟩ := Fin.ext (by rw [Fin.val_rev]; show 4 - (r.val / 64 + 1) = (255 - r.val) / 64; omega)
  have h2 : (⟨r.val % 64, by omega⟩ : Fin 64).rev = ⟨(255 - r.val) % 64, by omega⟩ := Fin.ext (by rw [Fin.val_rev]; show 64 - (r.val % 64 + 1) = (255 - r.val) % 64; omega)
  conv_lhs => rw [hr]
  rw [outAt_block m c t h, ← hr, h1, h2]
  rfl

end Cert.KernelIdeal.Gla

end
-- ==== Proof.GlaArray.lean ====
module

public import proofs.«01_k».proof.Proof.GlaLeaves

@[expose] public section

set_option maxRecDepth 16384

noncomputable section

namespace Cert.KernelIdeal.Gla

open Cert.KernelIdeal Cert.KernelIdeal.Gen
open Idealize.ShloMosaic Idealize.ShloMosaic.TcCoe Idealize.SL.Sem
open Idealize.ShloMosaic.Pipeline (Dat)

/-! The two result arrays of the kernel, of its arguments. -/

variable (m : (ℓ : Loc nD τ sig) → Buf (Elt Ideal) ℓ) (c : Dev nD) (t : Fin cfg0.N)

/-- The rows result at an index. -/
def rowsResult : Vec Ideal S4096x4096 .bf16 := fun j =>
  Scan.outRow (A0 m c) (A1 m c) (A2 m c) (A3 m c) (A4 m c) (Fin.ofNat 16 ((j 0).val / 256)) (Fin.ofNat 4 ((j 1).val / 1024)) (Fin.ofNat 256 (j 0).val) (Fin.ofNat 1024 (j 1).val)

/-- The states result at an index. -/
def statesResult : Vec Ideal S16x2x2x4x512x1024 .f32 := fun j =>
  if (j 1).val < 1 then Scan.argStates (A0 m c) (A1 m c) (A2 m c) (A3 m c) (j 2) (j 0) (j 3) 4 (j 4) (j 5) else 0

theorem rowsResult_at (b : Fin 16) (h : Fin 4) (r : Fin 256) (e : Fin 1024) (i0 i1 : Fin 4096) (h0 : i0.val = b.val * 256 + r.val) (h1 : i1.val = h.val * 1024 + e.val) :
    rowsResult m c (ix2 i0 i1) = Scan.outRow (A0 m c) (A1 m c) (A2 m c) (A3 m c) (A4 m c) b h r e := by
  unfold rowsResult
  have e0 : (Fin.ofNat 16 (i0.val / 256) : Fin 16) = b := Fin.ext (by show i0.val / 256 % 16 = b.val; omega)
  have e1 : (Fin.ofNat 4 (i1.val / 1024) : Fin 4) = h := Fin.ext (by show i1.val / 1024 % 4 = h.val; omega)
  have e2 : (Fin.ofNat 256 i0.val : Fin 256) = r := Fin.ext (by show i0.val % 256 = r.val; omega)
  have e3 : (Fin.ofNat 1024 i1.val : Fin 1024) = e := Fin.ext (by show i1.val % 1024 = e.val; omega)
  show Scan.outRow (A0 m c) (A1 m c) (A2 m c) (A3 m c) (A4 m c) (Fin.ofNat 16 (i0.val / 256)) (Fin.ofNat 4 (i1.val / 1024)) (Fin.ofNat 256 i0.val) (Fin.ofNat 1024 i1.val) = _
  rw [e0, e1, e2, e3]

theorem emb8 (r : Fin 256) (e : Fin 1024) : (win0_8.blk t).view.emb (ix2 r e)
    = ix2 ⟨(batchOf t).val * 256 + r.val, by omega⟩ ⟨(headOf t).val * 1024 + e.val, by omega⟩ := by
  blk_ext! [idx8 t]

theorem emb9 (l : Fin 2) (d : Fin 512) (e : Fin 1024) : (win0_9.blk t).view.emb (ix6 0 l 0 0 d e)
    = ix6 (batchOf t) l (dirOf t) (headOf t) d e := by
  blk_ext! [idx9 t]

theorem final8 : (dats m 0 c).arrAt 8 cfg0.N = rowsResult m c := by
  refine (dats m 0 c).arrAt_eq_of_covers 8 _ (by decide +kernel) fun t hf y => ?_
  have h1 : t.val % 2 = 1 := (flush0_8 t).mp hf
  blk_simp
  rw [after0_8]
  obtain ⟨r, e, rfl⟩ : ∃ (r : Fin 256) (e : Fin 1024), y = ix2 r e := ⟨y 0, y 1, by funext a; fin_cases a <;> rfl⟩
  rw [emb8, outAt_eq m c t h1]
  exact (rowsResult_at m c (batchOf t) (headOf t) r e _ _ rfl rfl).symm

theorem final9 : (dats m 0 c).arrAt 9 cfg0.N = statesResult m c := by
  refine (dats m 0 c).arrAt_eq_of_covers 9 _ (by decide +kernel) fun t hf y => ?_
  blk_simp
  rw [after0_9]
  obtain ⟨l, d, e, rfl⟩ : ∃ (l : Fin 2) (d : Fin 512) (e : Fin 1024), y = ix6 0 l 0 0 d e := ⟨y 1, y 4, y 5, by
    funext a; apply Fin.ext; fin_cases a
    · have h : (y 0).val < 1 := (y 0).isLt
      show (y 0).val = 0; omega
    · rfl
    · have h : (y 2).val < 1 := (y 2).isLt
      show (y 2).val = 0; omega
    · have h : (y 3).val < 1 := (y 3).isLt
      show (y 3).val = 0; omega
    · rfl
    · rfl⟩
  rw [emb9, states_eq]
  rfl

end Cert.KernelIdeal.Gla

end
-- ==== Proof.RefChunk.lean ====
module

public import proofs.«01_k».proof.Proof.RefIter
public import proofs.«01_k».proof.Proof.Spec
public import Idealize.ShloMosaic.Lib.DynamicIndex
public import Idealize.ShloMosaic.Lib.Pipeline.Value

@[expose] public section

set_option maxRecDepth 16384

noncomputable section

namespace Cert.ReferenceIdeal.Iter

open Cert.ReferenceIdeal Cert.ReferenceIdeal.Gen Cert.ReferenceIdeal.Step
open Idealize.ShloMosaic

/-! One trip of the reference's scan, by coordinates. -/

variable (s : State Ideal) (t : ℕ)
variable (n : Fin 4) (δ : Fin 2) (b : Fin 16) (h : Fin 4) (i j : Fin 64) (d : Fin 512) (e : Fin 1024)

/-- The trip's number, as the slices' first start. -/
theorem start0 (ht : t < 4) : (BitVec.ofNat 32 t).toInt = t := by
  have : t < 2 ^ 31 := by omega
  rw [BitVec.toInt_eq_toNat_cond, BitVec.toNat_ofNat]
  have e : t % 2 ^ 32 = t := Nat.mod_eq_of_lt (by omega)
  rw [e, if_pos (by omega)]

theorem first_starts (ht : t < 4) (x : Fin 6 → (⟨S_, .i32⟩ : BufTy).Contents (Elt Ideal))
    (h0 : x 0 = constantI S_ 32 (BitVec.ofNat 32 t)) (hr : ∀ k, k ≠ 0 → x k = constantI S_ 32 0#32) (k : Fin 6) :
    (x k (Shape.Idx.first h_S_)).toInt = if k = 0 then (t : ℤ) else 0 := by
  by_cases hk : k = 0
  · subst hk; rw [h0, if_pos rfl]; exact start0 t ht
  · rw [hr k hk, if_neg hk]; rfl

theorem b5_eq (ht : t < 4) : b5 t s (ix6 0 δ b h i d) = s.main_v68_0 (ix6 ⟨t, ht⟩ δ b h i d) := by
  have hs := first_starts t ht (![(constantI S_ 32 (BitVec.ofNat 32 t) : (⟨S_, .i32⟩ : BufTy).Contents (Elt Ideal)), (b0 t s), (b1 t s), (b2 t s), (b3 t s), (b4 t s)])
    rfl (fun k hk => by fin_cases k <;> first | exact absurd rfl hk | rfl)
  have hoff : S4x2x16x4x64x512.Slices ![t, 0, 0, 0, 0, 0] S1x2x16x4x64x512 :=
    ⟨rfl, fun a => by fin_cases a <;> first | (show t + 1 ≤ 4; omega) | exact Nat.le_of_eq rfl⟩
  have e := Host.dynamicSlice_eq_extractStridedSlice S1x2x16x4x64x512 s.main_v68_0 _ ![t, 0, 0, 0, 0, 0] sliceFits_S4x2x16x4x64x512_S1x2x16x4x64x512 hoff
    (fun a => (hs a).trans (by fin_cases a <;> rfl))
  refine (congrFun e _).trans ?_
  pointwise []

theorem b6_eq (ht : t < 4) : b6 t s (ix5 δ b h i d) = s.main_v68_0 (ix6 ⟨t, ht⟩ δ b h i d) := by
  rw [← b5_eq s t δ b h i d ht]
  pointwise [b6]

theorem b12_eq (ht : t < 4) : b12 t s (ix6 0 δ b h i d) = s.main_v68_1 (ix6 ⟨t, ht⟩ δ b h i d) := by
  have hs := first_starts t ht (![(constantI S_ 32 (BitVec.ofNat 32 t) : (⟨S_, .i32⟩ : BufTy).Contents (Elt Ideal)), (b7 t s), (b8 t s), (b9 t s), (b10 t s), (b11 t s)])
    rfl (fun k hk => by fin_cases k <;> first | exact absurd rfl hk | rfl)
  have hoff : S4x2x16x4x64x512.Slices ![t, 0, 0, 0, 0, 0] S1x2x16x4x64x512 :=
    ⟨rfl, fun a => by fin_cases a <;> first | (show t + 1 ≤ 4; omega) | exact Nat.le_of_eq rfl⟩
  have e := Host.dynamicSlice_eq_extractStridedSlice S1x2x16x4x64x512 s.main_v68_1 _ ![t, 0, 0, 0, 0, 0] sliceFits_S4x2x16x4x64x512_S1x2x16x4x64x512 hoff
    (fun a => (hs a).trans (by fin_cases a <;> rfl))
  refine (congrFun e _).trans ?_
  pointwise []

theorem b13_eq (ht : t < 4) : b13 t s (ix5 δ b h i d) = s.main_v68_1 (ix6 ⟨t, ht⟩ δ b h i d) := by
  rw [← b12_eq s t δ b h i d ht]
  pointwise [b13]

theorem b19_eq (ht : t < 4) : b19 t s (ix6 0 δ b h i e) = s.main_v68_2 (ix6 ⟨t, ht⟩ δ b h i e) := by
  have hs := first_starts t ht (![(constantI S_ 32 (BitVec.ofNat 32 t) : (⟨S_, .i32⟩ : BufTy).Contents (Elt Ideal)), (b14 t s), (b15 t s), (b16 t s), (b17 t s), (b18 t s)])
    rfl (fun k hk => by fin_cases k <;> first | exact absurd rfl hk | rfl)
  have hoff : S4x2x16x4x64x1024.Slices ![t, 0, 0, 0, 0, 0] S1x2x16x4x64x1024 :=
    ⟨rfl, fun a => by fin_cases a <;> first | (show t + 1 ≤ 4; omega) | exact Nat.le_of_eq rfl⟩
  have e := Host.dynamicSlice_eq_extractStridedSlice S1x2x16x4x64x1024 s.main_v68_2 _ ![t, 0, 0, 0, 0, 0] sliceFits_S4x2x16x4x64x1024_S1x2x16x4x64x1024 hoff
    (fun a => (hs a).trans (by fin_cases a <;> rfl))
  refine (congrFun e _).trans ?_
  pointwise []

theorem b20_eq (ht : t < 4) : b20 t s (ix5 δ b h i e) = s.main_v68_2 (ix6 ⟨t, ht⟩ δ b h i e) := by
  rw [← b19_eq s t δ b h i e ht]
  pointwise [b20]

theorem b26_eq (ht : t < 4) : b26 t s (ix6 0 δ b h i d) = s.main_v68_3 (ix6 ⟨t, ht⟩ δ b h i d) := by
  have hs := first_starts t ht (![(constantI S_ 32 (BitVec.ofNat 32 t) : (⟨S_, .i32⟩ : BufTy).Contents (Elt Ideal)), (b21 t s), (b22 t s), (b23 t s), (b24 t s), (b25 t s)])
    rfl (fun k hk => by fin_cases k <;> first | exact absurd rfl hk | rfl)
  have hoff : S4x2x16x4x64x512.Slices ![t, 0, 0, 0, 0, 0] S1x2x16x4x64x512 :=
    ⟨rfl, fun a => by fin_cases a <;> first | (show t + 1 ≤ 4; omega) | exact Nat.le_of_eq rfl⟩
  have e := Host.dynamicSlice_eq_extractStridedSlice S1x2x16x4x64x512 s.main_v68_3 _ ![t, 0, 0, 0, 0, 0] sliceFits_S4x2x16x4x64x512_S1x2x16x4x64x512 hoff
    (fun a => (hs a).trans (by fin_cases a <;> rfl))
  refine (congrFun e _).trans ?_
  pointwise []

theorem b27_eq (ht : t < 4) : b27 t s (ix5 δ b h i d) = s.main_v68_3 (ix6 ⟨t, ht⟩ δ b h i d) := by
  rw [← b26_eq s t δ b h i d ht]
  pointwise [b27]

/-- The new rows put in: the trip's own chunk, the others as they were. -/
theorem b63_eq (ht : t < 4) : b63 t s (ix6 n δ b h i e) = if n.val = t then b45 t s (ix5 δ b h i e) else s.main_v68_7 (ix6 n δ b h i e) := by
  have hs := first_starts t ht (![(constantI S_ 32 (BitVec.ofNat 32 t) : (⟨S_, .i32⟩ : BufTy).Contents (Elt Ideal)), (b58 t s), (b59 t s), (b60 t s), (b61 t s), (b62 t s)])
    rfl (fun k hk => by fin_cases k <;> first | exact absurd rfl hk | rfl)
  have hoff : S4x2x16x4x64x1024.Slices ![t, 0, 0, 0, 0, 0] S1x2x16x4x64x1024 :=
    ⟨rfl, fun a => by fin_cases a <;> first | (show t + 1 ≤ 4; omega) | exact Nat.le_of_eq rfl⟩
  have e := Host.dynamicUpdateSlice_eq_updateSlice s.main_v68_7 (b57 t s) (fun k => (((![(constantI S_ 32 (BitVec.ofNat 32 t) : (⟨S_, .i32⟩ : BufTy).Contents (Elt Ideal)), (b58 t s), (b59 t s), (b60 t s), (b61 t s), (b62 t s)] : Fin 6 → (⟨S_, .i32⟩ : BufTy).Contents (Elt Ideal))) k (Shape.Idx.first h_S_)).toInt) updateFits_S4x2x16x4x64x1024_S1x2x16x4x64x1024 ![t, 0, 0, 0, 0, 0]
    (fun a => by
      beta_reduce
      rw [hs a]
      fin_cases a
      · show (min (max (t : ℤ) 0) (3 : ℤ)).toNat = t
        omega
      all_goals rfl) hoff
  refine (congrFun e _).trans ?_
  pointwise [b57]
  have hn := n.isLt
  by_cases hnt : n.val = t
  · rw [if_pos hnt, dif_pos (by omega)]
  · rw [if_neg hnt, dif_neg (by omega)]

end Cert.ReferenceIdeal.Iter

end
-- ==== Proof.RefTrip.lean ====
module

public import proofs.«01_k».proof.Proof.RefChunk

@[expose] public section

set_option maxRecDepth 16384

noncomputable section

namespace Cert.ReferenceIdeal.Iter

open Cert.ReferenceIdeal Cert.ReferenceIdeal.Gen Cert.ReferenceIdeal.Step
open Idealize.ShloMosaic

/-! What a trip of the reference's scan does, as the chunk's arithmetic. -/

theorem foldl_sum {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

/-- A window sum, as a sum over the window's positions. -/
theorem window_sum {s t : Shape} (window strides lo hi : Fin s.rank → Nat) (x : s.Idx → EReal) (v : EReal)
    (h : s.ReduceWindows window strides lo hi t) (j : t.Idx) :
    Ideal.hostReduceWindowAdd window strides lo hi h x v j = v + ∑ w : (⟨s.rank, window⟩ : Shape).Idx,
      (if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else v) := by
  unfold Ideal.hostReduceWindowAdd Host.reduceWindow
  refine (foldl_sum _ _ _).trans ?_
  congr 1
  rw [← Fin.sum_univ_def]
  refine Fintype.sum_equiv (⟨s.rank, window⟩ : Shape).rowMajor.symm _ _ fun n => ?_
  by_cases hin : ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a
  · rw [dif_pos hin]; rw [dif_pos hin]
  · rw [dif_neg hin]; rw [dif_neg hin]

variable (s : State Ideal) (t : ℕ)
variable (n : Fin 4) (δ : Fin 2) (b : Fin 16) (h : Fin 4) (i j : Fin 64) (d : Fin 512) (e : Fin 1024)

/-- The running sum along the rows of a chunk. -/
theorem cumsum_eq (x : S2x16x4x64x512.Idx → EReal) : Ideal.hostReduceWindowAdd ![1, 1, 1, 64, 1] ![1, 1, 1, 1, 1] ![0, 0, 0, 63, 0] ![0, 0, 0, 0, 0]
      reduceWindows_S2x16x4x64x512_S2x16x4x64x512_w1s1p0_0_w1s1p0_0_w1s1p0_0_w64s1p63_0_w1s1p0_0 x 0 (ix5 δ b h i d)
    = Scan.cumS (fun j d => x (ix5 δ b h j d)) i d := by
  unfold Scan.cumS
  rw [window_sum, zero_add, ← Scan.sum_window]
  refine (sum_idx5 (n0 := 1) (n1 := 1) (n2 := 1) (n3 := 64) (n4 := 1) _).trans ?_
  simp only [Fin.sum_univ_one]
  refine Finset.sum_congr rfl fun w _ => ?_
  by_cases hc : 63 ≤ i.val + w.val ∧ i.val + w.val - 63 < 64
  · rw [dif_pos hc, dif_pos (fun a => by
      fin_cases a
      · exact ⟨Nat.zero_le _, show δ.val * 1 + 0 - 0 < 2 by omega⟩
      · exact ⟨Nat.zero_le _, show b.val * 1 + 0 - 0 < 16 by omega⟩
      · exact ⟨Nat.zero_le _, show h.val * 1 + 0 - 0 < 4 by omega⟩
      · exact ⟨show 63 ≤ i.val * 1 + w.val by omega, show i.val * 1 + w.val - 63 < 64 by omega⟩
      · exact ⟨Nat.zero_le _, show d.val * 1 + 0 - 0 < 512 by omega⟩)]
    congr 1
    funext a
    apply Fin.ext
    fin_cases a
    · show δ.val * 1 + 0 - 0 = δ.val; omega
    · show b.val * 1 + 0 - 0 = b.val; omega
    · show h.val * 1 + 0 - 0 = h.val; omega
    · show i.val * 1 + w.val - 63 = i.val + w.val - 63; omega
    · show d.val * 1 + 0 - 0 = d.val; omega
  · rw [dif_neg hc, dif_neg]
    intro hall
    have h3 := hall 3
    apply hc
    have h3a : 63 ≤ i.val * 1 + w.val := h3.1
    have h3b : i.val * 1 + w.val - 63 < 64 := h3.2
    exact ⟨by omega, by omega⟩

variable (ht : t < 4)

/-- The trip's running decay. -/
theorem b30_eq : b30 t s (ix5 δ b h i d) = Scan.cumS (fun j d => s.main_v68_3 (ix6 ⟨t, ht⟩ δ b h j d)) i d := by
  have hv : b29 t s (Shape.Idx.first h_S_) = (0 : EReal) := by pointwise [b29, b28]
  have e : b30 t s (ix5 δ b h i d) = Ideal.hostReduceWindowAdd ![1, 1, 1, 64, 1] ![1, 1, 1, 1, 1] ![0, 0, 0, 63, 0] ![0, 0, 0, 0, 0]
      reduceWindows_S2x16x4x64x512_S2x16x4x64x512_w1s1p0_0_w1s1p0_0_w1s1p0_0_w64s1p63_0_w1s1p0_0 (b27 t s) (b29 t s (Shape.Idx.first h_S_)) (ix5 δ b h i d) := rfl
  rw [e, hv, cumsum_eq]
  congr 1
  funext j d
  exact b27_eq s t δ b h j d ht

/-- The trip's queries, decayed. -/
theorem b33_eq : b33 t s (ix5 δ b h i d) = s.main_v68_0 (ix6 ⟨t, ht⟩ δ b h i d)
    * Ideal.exp (Scan.cumS (fun j d => s.main_v68_3 (ix6 ⟨t, ht⟩ δ b h j d)) i d) := by
  rw [← b6_eq s t δ b h i d ht, ← b30_eq s t δ b h i d ht]
  pointwise [b33, b32]

/-- The trip's masked scores. -/
theorem b42_eq : b42 t s (ix5 δ b h i j) = if j ≤ i then ∑ d, s.main_v68_0 (ix6 ⟨t, ht⟩ δ b h i d)
    * Ideal.exp (Scan.cumS (fun j d => s.main_v68_3 (ix6 ⟨t, ht⟩ δ b h j d)) i d)
      * (s.main_v68_1 (ix6 ⟨t, ht⟩ δ b h j d) * Ideal.exp (-Scan.cumS (fun j d => s.main_v68_3 (ix6 ⟨t, ht⟩ δ b h j d)) j d)) else 0 := by
  pointwise [b42, b41, b40, b39, b38, b37, b36, b35, b34, b33, b32, K_main_v58, K_main_v57, K_main_v56]
  rw [Scan.word_le, Scan.select_word]
  congr 1
  refine Finset.sum_congr rfl fun x _ => ?_
  rw [b6_eq s t δ b h i x ht, b13_eq s t δ b h j x ht, b30_eq s t δ b h i x ht, b30_eq s t δ b h j x ht]

/-- The trip's rows. -/
theorem b45_eq : b45 t s (ix5 δ b h i e) = Scan.outS (fun j d => s.main_v68_3 (ix6 ⟨t, ht⟩ δ b h j d)) (fun j d => s.main_v68_0 (ix6 ⟨t, ht⟩ δ b h j d))
    (fun j d => s.main_v68_1 (ix6 ⟨t, ht⟩ δ b h j d)) (fun j e => s.main_v68_2 (ix6 ⟨t, ht⟩ δ b h j e)) (fun d e => s.main_v68_6 (ix5 δ b h d e)) i e := by
  unfold Scan.outS
  pointwise [b45, b44, b43]
  congr 1
  · refine Finset.sum_congr rfl fun x _ => ?_
    rw [b42_eq s t δ b h i x ht, b20_eq s t δ b h x e ht]
  · refine Finset.sum_congr rfl fun x _ => ?_
    rw [b33_eq s t δ b h i x ht]

/-- The state the trip leaves. -/
theorem b56_eq : b56 t s (ix5 δ b h d e) = Scan.stS (fun j d => s.main_v68_3 (ix6 ⟨t, ht⟩ δ b h j d))
    (fun j d => s.main_v68_1 (ix6 ⟨t, ht⟩ δ b h j d)) (fun j e => s.main_v68_2 (ix6 ⟨t, ht⟩ δ b h j e)) (fun d e => s.main_v68_6 (ix5 δ b h d e)) d e := by
  unfold Scan.stS
  pointwise [b56, b55, b54, b53, b52, b51, b50, b49, b48, b47, b46, b31]
  rw [b30_eq s t δ b h 63 d ht]
  congr 1
  refine Finset.sum_congr rfl fun x _ => ?_
  rw [b13_eq s t δ b h x d ht, b20_eq s t δ b h x e ht, b30_eq s t δ b h x d ht]

end Cert.ReferenceIdeal.Iter

end
-- ==== Proof.RefInit.lean ====
module

public import proofs.«01_k».proof.Proof.RefTrip
public import proofs.«01_k».proof.Proof.SpecArgs

@[expose] public section

set_option maxRecDepth 16384

noncomputable section

namespace Cert.ReferenceIdeal.Iter

open Cert.ReferenceIdeal Cert.ReferenceIdeal.Gen Cert.ReferenceIdeal.Step
open Idealize.ShloMosaic

variable (a0 : Vec Ideal S20480x12288 .bf16) (a1 : Vec Ideal S20480x128 .f32) (a2 : Vec Ideal S2x128x2048 .bf16) (a3 : Vec Ideal S2x2048 .f32) (a4 : Vec Ideal S4096 .f32)
variable (s : State Ideal)
variable (n : Fin 4) (δ : Fin 2) (b : Fin 16) (h : Fin 4) (i : Fin 64) (r : Fin 256) (d : Fin 512) (e : Fin 1024)

/-! The state the reference's scan starts from, by coordinates. -/

/-- Place `n·64 + i` of a sequence. -/
abbrev place (n : Fin 4) (i : Fin 64) : Fin 256 := ⟨n.val * 64 + i.val, by omega⟩

theorem rowOf_eq : Scan.rowOf δ n i = if δ.val < 1 then place n i else (place n i).rev := by
  unfold Scan.rowOf
  split_ifs
  · rfl
  · exact Fin.ext (show 255 - (n.val * 64 + i.val) = 256 - (n.val * 64 + i.val + 1) by omega)

/-! ## Chunks of a sequence, and the direction turned round -/

theorem chunks512 (x : Vec Ideal S2x16x4x256x512 .f32) : transpose S4x2x16x4x64x512 [3, 0, 1, 2, 4, 5] (shapeCast S2x16x4x4x64x512 x shapeCasts_S2x16x4x256x512_S2x16x4x4x64x512)
    transposes_S2x16x4x4x64x512_S4x2x16x4x64x512_3_0_1_2_4_5 (ix6 n δ b h i d) = x (ix5 δ b h (place n i) d) := by
  pointwise
theorem chunks1024 (x : Vec Ideal S2x16x4x256x1024 .f32) : transpose S4x2x16x4x64x1024 [3, 0, 1, 2, 4, 5] (shapeCast S2x16x4x4x64x1024 x shapeCasts_S2x16x4x256x1024_S2x16x4x4x64x1024)
    transposes_S2x16x4x4x64x1024_S4x2x16x4x64x1024_3_0_1_2_4_5 (ix6 n δ b h i e) = x (ix5 δ b h (place n i) e) := by
  pointwise
theorem rev512 (x : Vec Ideal S16x4x256x512 .f32) : Host.reverse [2] x (ix4 b h r d) = x (ix4 b h r.rev d) := by
  pointwise
  rfl
theorem rev1024 (x : Vec Ideal S16x4x256x1024 .f32) : Host.reverse [2] x (ix4 b h r e) = x (ix4 b h r.rev e) := by
  pointwise
  rfl

/-! ## The four sequences -/

theorem q0_eq : A_main_v9 (F := Ideal) a0 a1 a2 a3 (ix4 b h r d) = a0 (ix2 (Scan.rowAt b r) (Scan.colQ h d)) * Scan.scale := by
  pointwise [A_main_v9, A_main_v7, A_main_v6, A_main_v3, A_main_v2, A_main_v1, A_main_v0, K_main_v8, K_main_cst]
theorem k0_eq : A_main_v11 (F := Ideal) a0 a1 a2 a3 (ix4 b h r d) = a0 (ix2 (Scan.rowAt b r) (Scan.colK h d)) := by
  pointwise [A_main_v11, A_main_v10, A_main_v4, A_main_v2, A_main_v1, A_main_v0]
theorem v0_eq : A_main_v13 (F := Ideal) a0 a1 a2 a3 (ix4 b h r e) = a0 (ix2 (Scan.rowAt b r) (Scan.colV h e)) := by
  pointwise [A_main_v13, A_main_v12, A_main_v5, A_main_v2, A_main_v1, A_main_v0]
theorem la0_eq : A_main_v32 (F := Ideal) a0 a1 a2 a3 (ix4 δ b r (Scan.colH h d))
    = Scan.logDecay ((∑ x : Fin 128, a2 (ix3 δ x (Scan.colH h d)) * a1 (ix2 (Scan.rowAt b r) x) : EReal) + a3 (ix2 δ (Scan.colH h d))) := by
  unfold Scan.logDecay
  have e : A_main_v21 (F := Ideal) a0 a1 a2 a3 (ix4 δ b r (Scan.colH h d)) = ((∑ x : Fin 128, a2 (ix3 δ x (Scan.colH h d)) * a1 (ix2 (Scan.rowAt b r) x) : EReal) + a3 (ix2 δ (Scan.colH h d))) := by
    pointwise [A_main_v21, A_main_v18, A_main_v17, A_main_v16, A_main_v15, A_main_v14, A_main_v20, A_main_v19]
  rw [← e]
  pointwise [A_main_v32, A_main_v30, A_main_v29, A_main_v28, A_main_v27, A_main_v26, A_main_v25, A_main_v24, A_main_v22, K_main_v23, K_main_cst_0, K_main_v31, K_main_cst_1]
theorem la1_eq : A_main_v34 (F := Ideal) a0 a1 a2 a3 (ix5 δ b h r d) = A_main_v32 (F := Ideal) a0 a1 a2 a3 (ix4 δ b r (Scan.colH h d)) := by
  unfold A_main_v34 A_main_v33
  generalize A_main_v32 (F := Ideal) a0 a1 a2 a3 = x
  pointwise

/-! ## The directions side by side, in chunks -/

theorem q1_eq : A_main_v47 (F := Ideal) a0 a1 a2 a3 (ix5 δ b h r d) = if δ.val < 1 then A_main_v9 (F := Ideal) a0 a1 a2 a3 (ix4 b h r d) else A_main_v44 (F := Ideal) a0 a1 a2 a3 (ix4 b h r d) := by
  pointwise [A_main_v47, A_main_v46, A_main_v45]
  split_ifs <;> rfl
theorem q2_eq : A_main_v60 (F := Ideal) a0 a1 a2 a3 (ix6 n δ b h i d) = Scan.argQ a0 δ b h n i d := by
  unfold Scan.argQ
  rw [A_main_v60, A_main_v59, chunks512, q1_eq, A_main_v44, rev512, q0_eq, q0_eq, rowOf_eq]
  split_ifs <;> rfl
theorem k1_eq : A_main_v51 (F := Ideal) a0 a1 a2 a3 (ix5 δ b h r d) = if δ.val < 1 then A_main_v11 (F := Ideal) a0 a1 a2 a3 (ix4 b h r d) else A_main_v48 (F := Ideal) a0 a1 a2 a3 (ix4 b h r d) := by
  pointwise [A_main_v51, A_main_v50, A_main_v49]
  split_ifs <;> rfl
theorem k2_eq : A_main_v62 (F := Ideal) a0 a1 a2 a3 (ix6 n δ b h i d) = Scan.argK a0 δ b h n i d := by
  unfold Scan.argK
  rw [A_main_v62, A_main_v61, chunks512, k1_eq, A_main_v48, rev512, k0_eq, k0_eq, rowOf_eq]
  split_ifs <;> rfl
theorem v1_eq : A_main_v55 (F := Ideal) a0 a1 a2 a3 (ix5 δ b h r e) = if δ.val < 1 then A_main_v13 (F := Ideal) a0 a1 a2 a3 (ix4 b h r e) else A_main_v52 (F := Ideal) a0 a1 a2 a3 (ix4 b h r e) := by
  pointwise [A_main_v55, A_main_v54, A_main_v53]
  split_ifs <;> rfl
theorem v2_eq : A_main_v64 (F := Ideal) a0 a1 a2 a3 (ix6 n δ b h i e) = Scan.argV a0 δ b h n i e := by
  unfold Scan.argV
  rw [A_main_v64, A_main_v63, chunks1024, v1_eq, A_main_v52, rev1024, v0_eq, v0_eq, rowOf_eq]
  split_ifs <;> rfl
theorem laF_eq : A_main_v36 (F := Ideal) a0 a1 a2 a3 (ix4 b h r d) = A_main_v34 (F := Ideal) a0 a1 a2 a3 (ix5 0 b h r d) := by
  unfold A_main_v36 A_main_v35
  generalize A_main_v34 (F := Ideal) a0 a1 a2 a3 = x
  pointwise
theorem laB_eq : A_main_v38 (F := Ideal) a0 a1 a2 a3 (ix4 b h r d) = A_main_v34 (F := Ideal) a0 a1 a2 a3 (ix5 1 b h r d) := by
  unfold A_main_v38 A_main_v37
  generalize A_main_v34 (F := Ideal) a0 a1 a2 a3 = x
  pointwise
theorem la2_eq : A_main_v42 (F := Ideal) a0 a1 a2 a3 (ix5 δ b h r d) = if δ.val < 1 then A_main_v36 (F := Ideal) a0 a1 a2 a3 (ix4 b h r d) else A_main_v39 (F := Ideal) a0 a1 a2 a3 (ix4 b h r d) := by
  pointwise [A_main_v42, A_main_v41, A_main_v40]
  split_ifs <;> rfl
theorem la3_eq : A_main_v66 (F := Ideal) a0 a1 a2 a3 (ix6 n δ b h i d) = Scan.argLa a1 a2 a3 δ b h n i d := by
  unfold Scan.argLa
  rw [A_main_v66, A_main_v65, chunks512, la2_eq, A_main_v39, rev512, laF_eq, laB_eq, la1_eq, la1_eq, la0_eq, la0_eq, rowOf_eq]
  by_cases hδ : δ.val < 1
  · obtain rfl : δ = 0 := Fin.ext (by omega)
    rfl
  · obtain rfl : δ = 1 := Fin.ext (by have := δ.isLt; omega)
    rfl

end Cert.ReferenceIdeal.Iter

end
-- ==== Proof.RefOut.lean ====
module

public import proofs.«01_k».proof.Proof.RefTrip
public import proofs.«01_k».proof.Proof.SpecArgs

@[expose] public section

set_option maxRecDepth 16384

noncomputable section

namespace Cert.ReferenceIdeal.Iter

open Cert.ReferenceIdeal Cert.ReferenceIdeal.Gen Cert.ReferenceIdeal.Step
open Idealize.ShloMosaic

variable (a0 : Vec Ideal S20480x12288 .bf16) (a1 : Vec Ideal S20480x128 .f32) (a2 : Vec Ideal S2x128x2048 .bf16) (a3 : Vec Ideal S2x2048 .f32) (a4 : Vec Ideal S4096 .f32)
variable (s : State Ideal)
variable (n : Fin 4) (δ : Fin 2) (b : Fin 16) (h : Fin 4) (i : Fin 64) (r : Fin 256) (d : Fin 512) (e : Fin 1024)

/-! What the reference returns, of the state its scan ends with. -/

section
variable {F : FTy → Type} [FloatOps F] (s : State F)
/-- The two directions' rows together, the backward direction turned round. -/
def sumV : Vec F S16x4x256x1024 .f32 :=
  addf (shapeCast _ (extractStridedSlice S1x16x4x256x1024 ![0, 0, 0, 0, 0] (shapeCast _ (transpose S2x16x4x4x64x1024 [1, 2, 3, 0, 4, 5] (s.main_v68_7) transposes_S4x2x16x4x64x1024_S2x16x4x4x64x1024_1_2_3_0_4_5) shapeCasts_S2x16x4x4x64x1024_S2x16x4x256x1024) slices_S2x16x4x256x1024_S1x16x4x256x1024_0_0_0_0_0) shapeCasts_S1x16x4x256x1024_S16x4x256x1024) (Host.reverse [2] (shapeCast _ (extractStridedSlice S1x16x4x256x1024 ![1, 0, 0, 0, 0] (shapeCast _ (transpose S2x16x4x4x64x1024 [1, 2, 3, 0, 4, 5] (s.main_v68_7) transposes_S4x2x16x4x64x1024_S2x16x4x4x64x1024_1_2_3_0_4_5) shapeCasts_S2x16x4x4x64x1024_S2x16x4x256x1024) slices_S2x16x4x256x1024_S1x16x4x256x1024_1_0_0_0_0) shapeCasts_S1x16x4x256x1024_S16x4x256x1024))
/-- The means of its rows. -/
def meanV (x : Vec F S16x4x256x1024 .f32) : Vec F S16x4x256x1 .f32 :=
  Host.divf (broadcastInDim S16x4x256x1 ![0, 1, 2] bcast_S16x4x256_S16x4x256x1_0_1_2 (Host.reduceAdd x (constant S_ .f32 0x00000000#32) reducesTo_S16x4x256x1024_S16x4x256_d3 h_S_)) (broadcastInDim S16x4x256x1 ![] bcast_S_S16x4x256x1 (constant S_ .f32 0x44800000#32))
/-- Its rows less their means. -/
def subV (x : Vec F S16x4x256x1024 .f32) : Vec F S16x4x256x1024 .f32 := subf x (broadcastInDim S16x4x256x1024 ![0, 1, 2, 3] bcast_S16x4x256x1_S16x4x256x1024_0_1_2_3 (meanV x))
/-- The rows normalised. -/
def normV (x : Vec F S16x4x256x1024 .f32) : Vec F S16x4x256x1024 .f32 :=
  mulf (subV x) (broadcastInDim S16x4x256x1024 ![0, 1, 2, 3] bcast_S16x4x256x1_S16x4x256x1024_0_1_2_3 (Host.rsqrt (addf (meanV (mulf (subV x) (subV x))) (broadcastInDim S16x4x256x1 ![] bcast_S_S16x4x256x1 (constant S_ .f32 0x3727C5AC#32)))))
/-- The gate's argument. -/
def gateV (main_arg0 : Vec F S20480x12288 .bf16) : Vec F S16x256x4096 .f32 :=
  extf .f32 (shapeCast _ (extractStridedSlice S4096x4096 ![0, 8192] (main_arg0) slices_S20480x12288_S4096x4096_0_8192) shapeCasts_S4096x4096_S16x256x4096) bitsLt_bf16_f32
/-- The rows scaled and gated. -/
def outV (x : Vec F S16x4x256x1024 .f32) (g : Vec F S16x256x4096 .f32) (main_arg4 : Vec F S4096 .f32) : Vec F S4096x4096 .bf16 :=
  truncf .bf16 (shapeCast _ (mulf (mulf (shapeCast _ (transpose S16x256x4x1024 [0, 2, 1, 3] x transposes_S16x4x256x1024_S16x256x4x1024_0_2_1_3) shapeCasts_S16x256x4x1024_S16x256x4096) (broadcastInDim S16x256x4096 ![0, 1, 2] bcast_S1x1x4096_S16x256x4096_0_1_2 (broadcastInDim S1x1x4096 ![2] bcast_S4096_S1x1x4096_2 (main_arg4)))) (mulf g (Host.divf (broadcastInDim S16x256x4096 ![] bcast_S_S16x256x4096 (constant S_ .f32 0x3F800000#32)) (addf (broadcastInDim S16x256x4096 ![] bcast_S_S16x256x4096 (constant S_ .f32 0x3F800000#32)) (Host.exp (Host.negf g)))))) shapeCasts_S16x256x4096_S4096x4096) bitsLt_bf16_f32

theorem result_eq (p : Vec F S20480x12288 .bf16) (g : Vec F S4096 .f32) : R_main_v117 s p g = outV (normV (sumV s)) (gateV p) g := rfl
end

theorem sumV_eq : sumV s (ix4 b h r e) = s.main_v68_7 (ix6 ⟨r.val / 64, by omega⟩ 0 b h ⟨r.val % 64, by omega⟩ e)
    + s.main_v68_7 (ix6 ⟨r.rev.val / 64, by omega⟩ 1 b h ⟨r.rev.val % 64, by omega⟩ e) := by
  pointwise [sumV]
  rfl
theorem normV_eq (x : Vec Ideal S16x4x256x1024 .f32) : normV x (ix4 b h r e) =
    (x (ix4 b h r e) - Ideal.div (∑ y, x (ix4 b h r y)) (Ideal.ofBits .f32 1149239296#32))
      * Ideal.rsqrt (Ideal.div (∑ y, (x (ix4 b h r y) - Ideal.div (∑ y, x (ix4 b h r y)) (Ideal.ofBits .f32 1149239296#32))
          * (x (ix4 b h r y) - Ideal.div (∑ y, x (ix4 b h r y)) (Ideal.ofBits .f32 1149239296#32))) (Ideal.ofBits .f32 1149239296#32) + Ideal.ofBits .f32 925353388#32) := by
  pointwise [normV, subV, meanV]
theorem gateV_eq (c : Fin 4096) : gateV a0 (ix3 b r c) = a0 (ix2 (Scan.rowAt b r) ⟨8192 + c.val, by omega⟩) := by
  pointwise [gateV]
set_option backward.isDefEq.respectTransparency false in
theorem outV_eq (x : Vec Ideal S16x4x256x1024 .f32) (g : Vec Ideal S16x256x4096 .f32) :
    outV x g a4 (ix2 (⟨b.val * 256 + r.val, by omega⟩ : Fin 4096) (Scan.colG h e)) = x (ix4 b h r e) * a4 (ix1 (Scan.colG h e))
      * (g (ix3 b r (Scan.colG h e)) * Ideal.div 1 (1 + Ideal.exp (-g (ix3 b r (Scan.colG h e))))) := by
  have hh : (⟨(h.val * 1024 + e.val) / 1024, by omega⟩ : Fin 4) = h := Fin.ext (show (h.val * 1024 + e.val) / 1024 = h.val by omega)
  have he : (⟨(h.val * 1024 + e.val) % 1024, by omega⟩ : Fin 1024) = e := Fin.ext (show (h.val * 1024 + e.val) % 1024 = e.val by omega)
  pointwise [outV]
  rw [hh, he]

/-- The reference's rows. -/
theorem result_row : R_main_v117 s a0 a4 (ix2 (⟨b.val * 256 + r.val, by omega⟩ : Fin 4096) (Scan.colG h e))
    = Scan.normS (fun e => s.main_v68_7 (ix6 ⟨r.val / 64, by omega⟩ 0 b h ⟨r.val % 64, by omega⟩ e)
        + s.main_v68_7 (ix6 ⟨r.rev.val / 64, by omega⟩ 1 b h ⟨r.rev.val % 64, by omega⟩ e)) (fun e => a4 (ix1 (Scan.colG h e)))
      (fun e => a0 (ix2 (Scan.rowAt b r) (Scan.colR h e))) e := by
  unfold Scan.normS
  rw [result_eq, outV_eq, normV_eq, Scan.gate_eq, gateV_eq]
  simp only [sumV_eq]

/-- The states it returns: layer 0 the scan's, layer 1 zeros. -/
theorem result_state (l : Fin 2) : R_main_v115 s (ix6 b l δ h d e) = if l.val < 1 then s.main_v68_6 (ix5 δ b h d e) else 0 := by
  pointwise [R_main_v115]
  split_ifs <;> rfl

end Cert.ReferenceIdeal.Iter

end
-- ==== Proof.RefEnd.lean ====
module

public import proofs.«01_k».proof.Proof.RefTrip
public import proofs.«01_k».proof.Proof.RefInit
public import proofs.«01_k».proof.Proof.RefOut

@[expose] public section

set_option maxRecDepth 16384

noncomputable section

namespace Cert.ReferenceIdeal.Iter

open Cert.ReferenceIdeal Cert.ReferenceIdeal.Gen Cert.ReferenceIdeal.Step
open Idealize.ShloMosaic

variable (a0 : Vec Ideal S20480x12288 .bf16) (a1 : Vec Ideal S20480x128 .f32) (a2 : Vec Ideal S2x128x2048 .bf16) (a3 : Vec Ideal S2x2048 .f32) (a4 : Vec Ideal S4096 .f32)
variable (s : State Ideal)
variable (n : Fin 4) (δ : Fin 2) (b : Fin 16) (h : Fin 4) (i : Fin 64) (r : Fin 256) (d : Fin 512) (e : Fin 1024)

/-! The reference's scan run to its end: its states and rows are those of the arguments. -/

variable (it : ℕ → State Ideal) (h0 : it 0 = init a0 a1 a2 a3) (hs : ∀ n, it (n + 1) = step n (it n))

include h0 hs

/-- The sequences stay what they were. -/
theorem seq_eq (k : ℕ) : (it k).main_v68_0 = A_main_v60 a0 a1 a2 a3 ∧ (it k).main_v68_1 = A_main_v62 a0 a1 a2 a3
    ∧ (it k).main_v68_2 = A_main_v64 a0 a1 a2 a3 ∧ (it k).main_v68_3 = A_main_v66 a0 a1 a2 a3 := by
  induction k with
  | zero => rw [h0]; exact ⟨rfl, rfl, rfl, rfl⟩
  | succ k ih => rw [hs]; exact ih

theorem q_at (k : ℕ) : (it k).main_v68_0 (ix6 n δ b h i d) = Scan.argQ a0 δ b h n i d := by
  rw [(seq_eq a0 a1 a2 a3 it h0 hs k).1, q2_eq]
theorem k_at (k : ℕ) : (it k).main_v68_1 (ix6 n δ b h i d) = Scan.argK a0 δ b h n i d := by
  rw [(seq_eq a0 a1 a2 a3 it h0 hs k).2.1, k2_eq]
theorem v_at (k : ℕ) : (it k).main_v68_2 (ix6 n δ b h i e) = Scan.argV a0 δ b h n i e := by
  rw [(seq_eq a0 a1 a2 a3 it h0 hs k).2.2.1, v2_eq]
theorem la_at (k : ℕ) : (it k).main_v68_3 (ix6 n δ b h i d) = Scan.argLa a1 a2 a3 δ b h n i d := by
  rw [(seq_eq a0 a1 a2 a3 it h0 hs k).2.2.2, la3_eq]

/-- The state before trip `k`. -/
theorem state_at (k : ℕ) (hk : k ≤ 4) (d : Fin 512) (e : Fin 1024) :
    (it k).main_v68_6 (ix5 δ b h d e) = Scan.argStates a0 a1 a2 a3 δ b h k d e := by
  induction k generalizing d e with
  | zero =>
    rw [h0]
    show K_main_v43 (F := Ideal) (ix5 δ b h d e) = 0
    pointwise [K_main_v43, K_main_cst_2]
  | succ k ih =>
    have hk4 : k < 4 := by omega
    have hf : (Fin.ofNat 4 k) = ⟨k, hk4⟩ := Fin.ext (Nat.mod_eq_of_lt hk4)
    unfold Scan.argStates at ih ⊢
    rw [hs, step_main_v68_6, b56_eq (it k) k δ b h d e hk4, Scan.states, hf]
    congr 1
    · funext j d; exact la_at a0 a1 a2 a3 ⟨k, hk4⟩ δ b h j d it h0 hs k
    · funext j d; exact k_at a0 a1 a2 a3 ⟨k, hk4⟩ δ b h j d it h0 hs k
    · funext j e; exact v_at a0 a1 a2 a3 ⟨k, hk4⟩ δ b h j e it h0 hs k
    · funext d e; exact ih (by omega) d e

/-- The rows after trip `k`: those of the chunks before it. -/
theorem rows_at (k : ℕ) (hk : k ≤ 4) (hn : n.val < k) :
    (it k).main_v68_7 (ix6 n δ b h i e) = Scan.argRows a0 a1 a2 a3 δ b h n i e := by
  induction k with
  | zero => omega
  | succ k ih =>
    have hk4 : k < 4 := by omega
    rw [hs, step_main_v68_7, b63_eq (it k) k n δ b h i e hk4]
    by_cases hnk : n.val = k
    · obtain rfl : n = ⟨k, hk4⟩ := Fin.ext hnk
      rw [if_pos rfl, b45_eq (it k) k δ b h i e hk4]
      unfold Scan.argRows Scan.rows
      congr 1
      · funext j d; exact la_at a0 a1 a2 a3 ⟨k, hk4⟩ δ b h j d it h0 hs k
      · funext j d; exact q_at a0 a1 a2 a3 ⟨k, hk4⟩ δ b h j d it h0 hs k
      · funext j d; exact k_at a0 a1 a2 a3 ⟨k, hk4⟩ δ b h j d it h0 hs k
      · funext j e; exact v_at a0 a1 a2 a3 ⟨k, hk4⟩ δ b h j e it h0 hs k
      · funext d e; exact state_at a0 a1 a2 a3 δ b h it h0 hs k (by omega) d e
    · rw [if_neg hnk]
      exact ih (by omega) (by omega)

/-- The reference's rows, of the arguments. -/
theorem out_row : R_main_v117 (it 4) a0 a4 (ix2 (⟨b.val * 256 + r.val, by omega⟩ : Fin 4096) (Scan.colG h e))
    = Scan.outRow a0 a1 a2 a3 a4 b h r e := by
  rw [result_row]
  unfold Scan.outRow
  congr 1
  funext e
  rw [rows_at a0 a1 a2 a3 _ 0 b h _ e it h0 hs 4 le_rfl (Fin.isLt _), rows_at a0 a1 a2 a3 _ 1 b h _ e it h0 hs 4 le_rfl (Fin.isLt _)]
  unfold Scan.argRow
  congr 2 <;> exact Fin.ext (by simp [Fin.val_rev]; try omega)

/-- The reference's states, of the arguments. -/
theorem out_state (l : Fin 2) : R_main_v115 (it 4) (ix6 b l δ h d e) = if l.val < 1 then Scan.argStates a0 a1 a2 a3 δ b h 4 d e else 0 := by
  rw [result_state, state_at a0 a1 a2 a3 δ b h it h0 hs 4 le_rfl]

end Cert.ReferenceIdeal.Iter

end
-- ==== Proof.Equation.lean ====
module

public import proofs.«01_k».proof.Proof.GlaArray
public import proofs.«01_k».proof.Proof.RefEnd

@[expose] public section

set_option maxRecDepth 16384

noncomputable section

namespace Cert.Proof

open Idealize.ShloMosaic Idealize.ShloMosaic.TcCoe Idealize.SL.Sem

/-! The reference's result arrays are the kernel's, when the arguments are the same. -/

open Cert.KernelIdeal Cert.KernelIdeal.Gla in
variable (m : (ℓ : Loc nD τ sig) → Buf (Elt Ideal) ℓ) (c : Dev nD) in
theorem rows_same (it : ℕ → Cert.ReferenceIdeal.Step.State Ideal) (h0 : it 0 = Cert.ReferenceIdeal.Step.init (A0 m c) (A1 m c) (A2 m c) (A3 m c))
    (hs : ∀ n, it (n + 1) = Cert.ReferenceIdeal.Step.step n (it n)) :
    Cert.ReferenceIdeal.Step.R_main_v117 (it 4) (A0 m c) (A4 m c) = rowsResult m c := by
  funext j
  obtain ⟨i0, i1, rfl⟩ : ∃ (i0 i1 : Fin 4096), j = ix2 i0 i1 := ⟨j 0, j 1, by funext a; fin_cases a <;> rfl⟩
  obtain ⟨b, r, hb⟩ : ∃ (b : Fin 16) (r : Fin 256), i0 = ⟨b.val * 256 + r.val, by omega⟩ :=
    ⟨⟨i0.val / 256, by omega⟩, ⟨i0.val % 256, by omega⟩, Fin.ext (show i0.val = i0.val / 256 * 256 + i0.val % 256 by omega)⟩
  obtain ⟨h, e, he⟩ : ∃ (h : Fin 4) (e : Fin 1024), i1 = Scan.colG h e :=
    ⟨⟨i1.val / 1024, by omega⟩, ⟨i1.val % 1024, by omega⟩, Fin.ext (by simp only [Scan.colG]; omega)⟩
  subst hb he
  refine (Cert.ReferenceIdeal.Iter.out_row (A0 m c) (A1 m c) (A2 m c) (A3 m c) (A4 m c) b h r e it h0 hs).trans ?_
  exact (rowsResult_at m c b h r e _ _ rfl (by simp only [Scan.colG]; try omega)).symm

open Cert.KernelIdeal Cert.KernelIdeal.Gla in
variable (m : (ℓ : Loc nD τ sig) → Buf (Elt Ideal) ℓ) (c : Dev nD) in
theorem states_same (it : ℕ → Cert.ReferenceIdeal.Step.State Ideal) (h0 : it 0 = Cert.ReferenceIdeal.Step.init (A0 m c) (A1 m c) (A2 m c) (A3 m c))
    (hs : ∀ n, it (n + 1) = Cert.ReferenceIdeal.Step.step n (it n)) :
    Cert.ReferenceIdeal.Step.R_main_v115 (it 4) = statesResult m c := by
  funext j
  obtain ⟨b, l, δ, h, d, e, rfl⟩ : ∃ (b : Fin 16) (l δ : Fin 2) (h : Fin 4) (d : Fin 512) (e : Fin 1024), j = ix6 b l δ h d e :=
    ⟨j 0, j 1, j 2, j 3, j 4, j 5, by funext a; fin_cases a <;> rfl⟩
  refine (Cert.ReferenceIdeal.Iter.out_state (A0 m c) (A1 m c) (A2 m c) (A3 m c) δ b h d e it h0 hs l).trans ?_
  rfl

end Cert.Proof

end
-- ==== Proof.ProjIn.lean ====
module

public import proofs.«01_k».proof.Proof.Gen.KernelInIdeal.Frame
public import proofs.«01_k».proof.Proof.Gen.ReferenceInIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelInIdeal.Mm

open Cert.KernelInIdeal Cert.KernelInIdeal.Gen
open Idealize.ShloMosaic Idealize.ShloMosaic.TcCoe Idealize.SL.Sem
open Idealize.ShloMosaic.Pipeline (Dat)

/-! The product with the input projection: its array after the run, of its arguments. -/

variable (m : (ℓ : Loc nD τ sig) → Buf (Elt Ideal) ℓ) (c : Dev nD) (t : Fin cfg0.N)

/-- The block of rows and the block of columns of a grid point. -/
def rowOf (t : Fin cfg0.N) : Fin 40 := Fin.ofNat 40 t.val
def colOf (t : Fin cfg0.N) : Fin 24 := Fin.ofNat 24 (t.val / 40)

theorem idx0 : ∀ t : Fin cfg0.N, win0_0.index t = ![(rowOf t).val, 0] := (by decide +kernel : ∀ t : Fin grid0.N, _)
theorem idx1 : ∀ t : Fin cfg0.N, win0_1.index t = ![0, 0, (colOf t).val] := (by decide +kernel : ∀ t : Fin grid0.N, _)
theorem idx2 : ∀ t : Fin cfg0.N, win0_2.index t = ![(rowOf t).val, (colOf t).val] := (by decide +kernel : ∀ t : Fin grid0.N, _)

abbrev X : Vec Ideal S20480x4096 .bf16 := m ((c.tc : Thread nD τ).loc main_arg0)
abbrev W : Vec Ideal S2x4096x12288 .f32 := m ((c.tc : Thread nD τ).loc main_arg1)

theorem blk0 (i : Fin 512) (k : Fin 4096) : iblk m c 0 t (ix2 i k) = X m c (ix2 (⟨(rowOf t).val * 512 + i.val, by omega⟩ : Fin 20480) k) := by
  blk_ext! [iblk, V, idx0 t]
theorem blk1 (k : Fin 4096) (j : Fin 512) : iblk m c 1 t (ix3 0 k j) = W m c (ix3 0 k (⟨(colOf t).val * 512 + j.val, by omega⟩ : Fin 12288)) := by
  blk_ext! [iblk, V, idx1 t]

theorem pay1_eq (w) (k : Fin 4096) (j : Fin 512) : k0_pay1 (F := Ideal) w (ix2 k j) = w (ix3 0 k j) := by pointwise [k0_pay1]
theorem pay2_eq (x w) (i j : Fin 512) : k0_pay2 (F := Ideal) x w (ix2 i j) = ∑ k : Fin 4096, (x (ix2 i k) : EReal) * w (ix2 k j) := by
  pointwise [k0_pay2]

/-- The scratch holds the point's columns of the weights: stored at the first point of a block of columns, kept after. -/
theorem kept (n : ℕ) (hn : n < cfg0.N) (k : Fin 4096) (j : Fin 512) : (outsAt0 m c n hn).2 (ix2 k j) = iblk m c 1 ⟨n, hn⟩ (ix3 0 k j) := by
  induction n with
  | zero =>
    rw [outsAt0_A m c ⟨0, hn⟩ rfl]
    frame_out
    exact pay1_eq _ k j
  | succ n ih =>
    by_cases h : (n + 1) % 40 = 0
    · rw [outsAt0_A m c ⟨n + 1, hn⟩ h]
      frame_out
      exact pay1_eq _ k j
    · rw [outsAt0_B m c ⟨n + 1, hn⟩ h]
      show (outsAt0 m c n (Nat.lt_of_succ_lt hn)).2 (ix2 k j) = _
      rw [ih, blk1, blk1]
      have hc : colOf ⟨n, Nat.lt_of_succ_lt hn⟩ = colOf ⟨n + 1, hn⟩ := Fin.ext (show n / 40 % 24 = (n + 1) / 40 % 24 by omega)
      simp only [hc]

/-- What a point stores: its block of the product. -/
theorem stored (i j : Fin 512) : (outsAt0 m c t.val t.isLt).1 (ix2 i j)
    = ∑ k : Fin 4096, (show EReal from iblk m c 0 t (ix2 i k)) * (show EReal from iblk m c 1 t (ix3 0 k j)) := by
  by_cases h : t.val % 40 = 0
  · rw [outsAt0_A m c t h]
    frame_out
    rw [pay2_eq]
    simp only [pay1_eq]
  · have hn : t.val - 1 < cfg0.N := Nat.lt_of_le_of_lt (Nat.sub_le _ _) t.isLt
    have hk : ∀ k j, (outsAt0 m c (t.val - 1) hn).2 (ix2 k j) = iblk m c 1 t (ix3 0 k j) := fun k j => by
      rw [kept, blk1, blk1]
      have hc : colOf ⟨t.val - 1, hn⟩ = colOf t := Fin.ext (show (t.val - 1) / 40 % 24 = t.val / 40 % 24 by omega)
      simp only [hc]
    rw [outsAt0_B m c t h]
    frame_out
    rw [pay2_eq]
    simp only [read_unread_whole]
    simp only [hk]

/-- The product. -/
def product : Vec Ideal S20480x12288 .bf16 := fun j => ∑ k : Fin 4096, (X m c (ix2 (j 0) k) : EReal) * W m c (ix3 0 k (j 1))

theorem emb2 (i j : Fin 512) : (win0_2.blk t).view.emb (ix2 i j)
    = ix2 (⟨(rowOf t).val * 512 + i.val, by omega⟩ : Fin 20480) (⟨(colOf t).val * 512 + j.val, by omega⟩ : Fin 12288) := by
  blk_ext! [idx2 t]

/-- The result array is the product. -/
theorem final : (dats m 0 c).arrAt 2 cfg0.N = product m c := by
  refine (dats m 0 c).arrAt_eq_of_covers 2 _ (by decide +kernel) fun t hf y => ?_
  blk_simp
  rw [after0_2]
  obtain ⟨i, j, rfl⟩ : ∃ i j : Fin 512, y = ix2 i j := ⟨y 0, y 1, by funext a; fin_cases a <;> rfl⟩
  rw [emb2, stored]
  simp only [blk0, blk1]
  rfl

open Cert.ReferenceInIdeal.Read in
/-- The reference's product is the same. -/
theorem same : val_main_v4 (F := Ideal) (X m c) (W m c) = product m c := by
  funext j
  obtain ⟨i, e, rfl⟩ : ∃ (i : Fin 20480) (e : Fin 12288), j = ix2 i e := ⟨j 0, j 1, by funext a; fin_cases a <;> rfl⟩
  rw [val_main_v4_apply]
  refine (val_main_v3_apply (X m c) (W m c) (ix2 i e)).trans (Finset.sum_congr rfl fun k _ => ?_)
  rw [val_main_v0_apply, val_main_v2_apply, val_main_v1_apply]
  refine congrArg₂ (fun a b : EReal => a * b) (congrArg (X m c) ?_) (congrArg (W m c) ?_)
  · funext a; fin_cases a <;> rfl
  · funext a
    fin_cases a
    · rfl
    · exact Fin.ext (show (k.val * 12288 + e.val) / 12288 % 4096 = k.val by omega)
    · exact Fin.ext (show (k.val * 12288 + e.val) % 12288 = e.val by omega)

end Cert.KernelInIdeal.Mm

end
-- ==== Proof.ProjOut.lean ====
module

public import proofs.«01_k».proof.Proof.Gen.KernelOutIdeal.Frame
public import proofs.«01_k».proof.Proof.Gen.ReferenceOutIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelOutIdeal.Mm

open Cert.KernelOutIdeal Cert.KernelOutIdeal.Gen
open Idealize.ShloMosaic Idealize.ShloMosaic.TcCoe Idealize.SL.Sem
open Idealize.ShloMosaic.Pipeline (Dat)

/-! The product with the output projection of the rows of two arrays, one after the other: its array after the run, of its arguments. -/

variable (m : (ℓ : Loc nD τ sig) → Buf (Elt Ideal) ℓ) (c : Dev nD) (t : Fin cfg0.N)

/-- The block of rows and the block of columns of a grid point. -/
def rowOf (t : Fin cfg0.N) : Fin 40 := Fin.ofNat 40 t.val
def colOf (t : Fin cfg0.N) : Fin 8 := Fin.ofNat 8 (t.val / 40)

theorem idx0 : ∀ t : Fin cfg0.N, win0_0.index t = ![min (rowOf t).val 7, 0] := (by decide +kernel : ∀ t : Fin grid0.N, _)
theorem idx1 : ∀ t : Fin cfg0.N, win0_1.index t = ![(rowOf t).val - 8, 0] := (by decide +kernel : ∀ t : Fin grid0.N, _)
theorem idx2 : ∀ t : Fin cfg0.N, win0_2.index t = ![0, 0, (colOf t).val] := (by decide +kernel : ∀ t : Fin grid0.N, _)
theorem idx3 : ∀ t : Fin cfg0.N, win0_3.index t = ![(rowOf t).val, (colOf t).val] := (by decide +kernel : ∀ t : Fin grid0.N, _)
/-- Which of the two arrays a point reads its rows of. -/
theorem which : ∀ t : Fin cfg0.N, Scalar.cmpi .slt (BitVec.ofNat 32 (grid0.coords t 1).val) 8#32 = if (rowOf t).val < 8 then 1#1 else 0#1 :=
  (by decide +kernel : ∀ t : Fin grid0.N, _)

abbrev X0 : Vec Ideal S4096x4096 .bf16 := m ((c.tc : Thread nD τ).loc main_arg0)
abbrev X1 : Vec Ideal S16384x4096 .bf16 := m ((c.tc : Thread nD τ).loc main_arg1)
abbrev W : Vec Ideal S2x4096x4096 .f32 := m ((c.tc : Thread nD τ).loc main_arg2)

/-- The rows of the two arrays, one after the other. -/
def X (i : Fin 20480) (k : Fin 4096) : EReal :=
  if h : i.val < 4096 then X0 m c (ix2 (⟨i.val, h⟩ : Fin 4096) k) else X1 m c (ix2 (⟨i.val - 4096, by omega⟩ : Fin 16384) k)

theorem blk0 (i : Fin 512) (k : Fin 4096) : iblk m c 0 t (ix2 i k) = X0 m c (ix2 (⟨min (rowOf t).val 7 * 512 + i.val, by omega⟩ : Fin 4096) k) := by
  blk_ext! [iblk, V, idx0 t]
theorem blk1 (i : Fin 512) (k : Fin 4096) : iblk m c 1 t (ix2 i k) = X1 m c (ix2 (⟨((rowOf t).val - 8) * 512 + i.val, by omega⟩ : Fin 16384) k) := by
  blk_ext! [iblk, V, idx1 t]
theorem blk2 (k : Fin 4096) (j : Fin 512) : iblk m c 2 t (ix3 0 k j) = W m c (ix3 0 k (⟨(colOf t).val * 512 + j.val, by omega⟩ : Fin 4096)) := by
  blk_ext! [iblk, V, idx2 t]

theorem pay1_eq (w) (k : Fin 4096) (j : Fin 512) : k0_pay1 (F := Ideal) w (ix2 k j) = w (ix3 0 k j) := by pointwise [k0_pay1]
/-- A point's product, of its rows of the one array or of the other. -/
theorem pay2_eq (w) (i j : Fin 512) : k0_pay2 (F := Ideal) (grid0.coords t) (iblk m c 0 t) (iblk m c 1 t) w (ix2 i j)
    = ∑ k : Fin 4096, X m c (⟨(rowOf t).val * 512 + i.val, by omega⟩ : Fin 20480) k * w (ix2 k j) := by
  have hx : ∀ k : Fin 4096, (Scalar.select (Scalar.cmpi .slt (BitVec.ofNat 32 (grid0.coords t 1).val) 8#32) (iblk m c 0 t) (iblk m c 1 t) : Vec Ideal S512x4096 .bf16) (ix2 i k)
      = X m c (⟨(rowOf t).val * 512 + i.val, by omega⟩ : Fin 20480) k := fun k => by
    rw [which t]
    by_cases h : (rowOf t).val < 8
    · rw [if_pos h]
      refine (blk0 m c t i k).trans ?_
      rw [X, dif_pos (show (rowOf t).val * 512 + i.val < 4096 by omega)]
      exact congrArg (fun q => X0 m c (ix2 q k)) (Fin.ext (show min (rowOf t).val 7 * 512 + i.val = (rowOf t).val * 512 + i.val by omega))
    · rw [if_neg h]
      refine (blk1 m c t i k).trans ?_
      rw [X, dif_neg (show ¬(rowOf t).val * 512 + i.val < 4096 by omega)]
      exact congrArg (fun q => X1 m c (ix2 q k)) (Fin.ext (show ((rowOf t).val - 8) * 512 + i.val = (rowOf t).val * 512 + i.val - 4096 by omega))
  have key : ∀ x : Vec Ideal S512x4096 .bf16, (truncf .bf16 (matmul (φ₁ := .bf16) (φ₂ := .bf16) dot_S512x4096_S4096x512_S512x512_1_0_0_1_n_n none x w (constant (F := Ideal) S512x512 .f32 0x00000000#32)) bitsLt_bf16_f32 : FVec Ideal S512x512 .bf16) (ix2 i j)
      = ∑ k : Fin 4096, (x (ix2 i k) : EReal) * w (ix2 k j) := fun x => by pointwise []
  refine (key _).trans (Finset.sum_congr rfl fun k _ => ?_)
  rw [hx k]

/-- The scratch holds the point's columns of the weights: stored at the first point of a block of columns, kept after. -/
theorem kept (n : ℕ) (hn : n < cfg0.N) (k : Fin 4096) (j : Fin 512) : (outsAt0 m c n hn).2 (ix2 k j) = iblk m c 2 ⟨n, hn⟩ (ix3 0 k j) := by
  induction n with
  | zero =>
    rw [outsAt0_A m c ⟨0, hn⟩ rfl]
    frame_out
    exact pay1_eq _ k j
  | succ n ih =>
    by_cases h : (n + 1) % 40 = 0
    · rw [outsAt0_A m c ⟨n + 1, hn⟩ h]
      frame_out
      exact pay1_eq _ k j
    · rw [outsAt0_B m c ⟨n + 1, hn⟩ h]
      show (outsAt0 m c n (Nat.lt_of_succ_lt hn)).2 (ix2 k j) = _
      rw [ih, blk2, blk2]
      have hc : colOf ⟨n, Nat.lt_of_succ_lt hn⟩ = colOf ⟨n + 1, hn⟩ := Fin.ext (show n / 40 % 8 = (n + 1) / 40 % 8 by omega)
      simp only [hc]

/-- What a point stores: its block of the product. -/
theorem stored (i j : Fin 512) : (outsAt0 m c t.val t.isLt).1 (ix2 i j)
    = ∑ k : Fin 4096, X m c (⟨(rowOf t).val * 512 + i.val, by omega⟩ : Fin 20480) k * (show EReal from iblk m c 2 t (ix3 0 k j)) := by
  by_cases h : t.val % 40 = 0
  · rw [outsAt0_A m c t h]
    frame_out
    rw [pay2_eq]
    simp only [pay1_eq]
  · have hn : t.val - 1 < cfg0.N := Nat.lt_of_le_of_lt (Nat.sub_le _ _) t.isLt
    have hk : ∀ k j, (outsAt0 m c (t.val - 1) hn).2 (ix2 k j) = iblk m c 2 t (ix3 0 k j) := fun k j => by
      rw [kept, blk2, blk2]
      have hc : colOf ⟨t.val - 1, hn⟩ = colOf t := Fin.ext (show (t.val - 1) / 40 % 8 = t.val / 40 % 8 by omega)
      simp only [hc]
    rw [outsAt0_B m c t h]
    frame_out
    rw [pay2_eq]
    simp only [read_unread_whole]
    simp only [hk]

/-- The product. -/
def product : Vec Ideal S20480x4096 .bf16 := fun j => ∑ k : Fin 4096, X m c (j 0) k * W m c (ix3 0 k (j 1))

theorem emb3 (i j : Fin 512) : (win0_3.blk t).view.emb (ix2 i j)
    = ix2 (⟨(rowOf t).val * 512 + i.val, by omega⟩ : Fin 20480) (⟨(colOf t).val * 512 + j.val, by omega⟩ : Fin 4096) := by
  blk_ext! [idx3 t]

/-- The result array is the product. -/
theorem final : (dats m 0 c).arrAt 3 cfg0.N = product m c := by
  refine (dats m 0 c).arrAt_eq_of_covers 3 _ (by decide +kernel) fun t hf y => ?_
  blk_simp
  rw [after0_3]
  obtain ⟨i, j, rfl⟩ : ∃ i j : Fin 512, y = ix2 i j := ⟨y 0, y 1, by funext a; fin_cases a <;> rfl⟩
  rw [emb3, stored]
  simp only [blk2]
  rfl

open Cert.ReferenceOutIdeal.Read in
theorem joined (i : Fin 20480) (k : Fin 4096) : val_main_v0 (F := Ideal) (X0 m c) (X1 m c) (ix2 i k) = X m c i k := by
  pointwise [val_main_v0]
  rfl

open Cert.ReferenceOutIdeal.Read in
/-- The reference's product is the same. -/
theorem same : val_main_v5 (F := Ideal) (X0 m c) (X1 m c) (W m c) = product m c := by
  funext j
  obtain ⟨i, e, rfl⟩ : ∃ (i : Fin 20480) (e : Fin 4096), j = ix2 i e := ⟨j 0, j 1, by funext a; fin_cases a <;> rfl⟩
  rw [val_main_v5_apply]
  refine (val_main_v4_apply (X0 m c) (X1 m c) (W m c) (ix2 i e)).trans (Finset.sum_congr rfl fun k _ => ?_)
  rw [val_main_v1_apply, val_main_v3_apply, val_main_v2_apply]
  have hl : lidx_main_v4 (ix2 i e) k = ix2 i k := by funext a; fin_cases a <;> rfl
  rw [hl, joined]
  refine congrArg₂ (fun a b : EReal => a * b) rfl (congrArg (W m c) ?_)
  funext a
  fin_cases a
  · rfl
  · exact Fin.ext (show (k.val * 4096 + e.val) / 4096 % 4096 = k.val by omega)
  · exact Fin.ext (show (k.val * 4096 + e.val) % 4096 = e.val by omega)

end Cert.KernelOutIdeal.Mm

end
-- ==== Proof.UpIRuns.lean ====
module

public import proofs.«01_k».proof.Proof.Gen.KernelUpIdeal.Launch
public import proofs.«01_k».proof.Proof.Gen.KernelUpIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit

@[expose] public section

set_option maxRecDepth 16384

noncomputable section

namespace Cert.KernelUpIdeal.Run

open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The experts' up call: its region, tables and blocks, and what the runs of its body share. -/

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S704 .i32 := Memref.whole main_arg0
abbrev htbM0_0 : tbM0_0.IsWhole := Memref.isWhole_whole _
abbrev tbM0_1 : Memref sig .tc .smem S704 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post of Defs.lean, at any `F`. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c)))⟩) h

/-! ## The body's branch conditions -/

/-- The word of the first table at the point, and at the point before (the first point: itself). -/
abbrev beAt (c : Dev nD) (i : grid0.Coords) (xt0 : TbBuf0 (F := F) c tbM0_0) : BitVec 32 :=
  tbM0_0.view.readAt (Elt F) (Rect.unit (s := S704) (k0_off1 i) S1.size (k0_off1_inb i)).toLoadRect xt0 (Shape.Idx.first (numel1_S1.symm ▸ Nat.one_pos))
abbrev bePrev (c : Dev nD) (i : grid0.Coords) (xt0 : TbBuf0 (F := F) c tbM0_0) : BitVec 32 :=
  tbM0_0.view.readAt (Elt F) (Rect.unit (s := S704) (k0_off2 i) S1.size (k0_off2_inb i)).toLoadRect xt0 (Shape.Idx.first (numel1_S1.symm ▸ Nat.one_pos))
/-- The word of the second table at the point, read twice. -/
abbrev actAt (c : Dev nD) (i : grid0.Coords) (xt1 : TbBuf0 (F := F) c tbM0_1) : BitVec 32 :=
  tbM0_1.view.readAt (Elt F) (Rect.unit (s := S704) (k0_off3 i) S1.size (k0_off3_inb i)).toLoadRect xt1 (Shape.Idx.first (numel1_S1.symm ▸ Nat.one_pos))
abbrev actAt' (c : Dev nD) (i : grid0.Coords) (xt1 : TbBuf0 (F := F) c tbM0_1) : BitVec 32 :=
  tbM0_1.view.readAt (Elt F) (Rect.unit (s := S704) (k0_off4 i) S1.size (k0_off4_inb i)).toLoadRect xt1 (Shape.Idx.first (numel1_S1.symm ▸ Nat.one_pos))

/-- The weights are stored at the first point and where the expert changes. -/
abbrev fills (i : grid0.Coords) (v2 v6 : BitVec 32) : Prop :=
  (Scalar.cmpi .ne (Scalar.extui (Scalar.ori (Scalar.cmpi .eq (BitVec.ofNat 32 (i 0).val) 0#32) (Scalar.cmpi .ne v2 v6))) 0#32) = 1#1

/-- What an active point stores, of its rows and the weights kept. -/
def act (x : Vec F S256x2048 .i32) (s0 s1 : Vec F S4096x512 .bf16) : Vec F S256x512 .bf16 :=
  k0_pay3 x (View.ld s0 (Rect.unit (s := S4096x512) ![0, 0] S2048x512.size inb_S4096x512_S2048x512_0_0)) (View.ld s0 (Rect.unit (s := S4096x512) ![2048, 0] S2048x512.size inb_S4096x512_S2048x512_2048_0))
    (View.ld s1 (Rect.unit (s := S4096x512) ![0, 0] S2048x512.size inb_S4096x512_S2048x512_0_0)) (View.ld s1 (Rect.unit (s := S4096x512) ![2048, 0] S2048x512.size inb_S4096x512_S2048x512_2048_0))

/-! ## The buffers at a point -/

/-- Each window's current staging memref at point `t`, spelled as the pipeline passes it (`bodyAt0`), and its wholeness. -/
abbrev ms0_0 (hO : Ok m) (t : Fin (cfgM m hO).N) : Memref sig .tc .vmem S256x2048 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x4096x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x4096x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x512 .bf16 := spec0_3.stage ((cfgM m hO).slots t 3)
abbrev hs0_3 (hO : Ok m) (t : Fin (cfgM m hO).N) : (ms0_3 m hO t).IsWhole := hstage0_3 (((cfgM m hO).slots t 3).cast nbuf0_3)
/-- The scratch operands: whole scoped buffers of the kernel's own, passed beside the windows. -/
abbrev scM0_0 : Memref sig .tc .vmem S4096x512 .bf16 := Memref.whole cc0_scratch0
abbrev scM0_1 : Memref sig .tc .vmem S4096x512 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## Its schedule -/

/-- Window 3 (result 0 (%0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 0 (by decide) (by decide) (Pipeline.Window.sep_of_coord cc0_transform_3 0 0 (fun _ => rfl) (by decide)) (P := 1) (m := 0) (by decide) rfl t).mpr (Nat.mod_one _) : ∀ t : Fin grid0.N, Pipeline.Window.flushOf grid0 true cc0_transform_3 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_expert_up (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _)

end Cert.KernelUpIdeal.Run

end
-- ==== Proof.UpIRunA.lean ====
module

public import proofs.«01_k».proof.Proof.UpIRuns

@[expose] public section

set_option maxRecDepth 16384

noncomputable section

namespace Cert.KernelUpIdeal.Run

open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- An active point that stores the weights. -/
theorem runA (c : Dev nD) (i : grid0.Coords) (arg3 : Memref sig .tc .vmem S256x2048 .i32) (harg3 : arg3.IsWhole) (arg4 : Memref sig .tc .vmem S1x1x4096x512 .f32) (harg4 : arg4.IsWhole) (arg5 : Memref sig .tc .vmem S1x1x4096x512 .f32) (harg5 : arg5.IsWhole) (arg6 : Memref sig .tc .vmem S256x512 .bf16) (harg6 : arg6.IsWhole) (arg7 : Memref sig .tc .vmem S4096x512 .bf16) (harg7 : arg7.IsWhole) (arg8 : Memref sig .tc .vmem S4096x512 .bf16) (harg8 : arg8.IsWhole)
    (x0 : Vec F S256x2048 .i32) (x1 : Vec F S1x1x4096x512 .f32) (x2 : Vec F S1x1x4096x512 .f32) (xt0 : TbBuf0 (F := F) c tbM0_0) (xt1 : TbBuf0 (F := F) c tbM0_1)
    (hc0 : fills i (beAt c i xt0) (bePrev c i xt0)) (hc1 : k0_cond2 (actAt c i xt1) = 1#1) (hc2 : ¬k0_cond3 (actAt' c i xt1) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare (act x0 (k0_pay1 x1) (k0_pay2 x2)) ∗ owns (c : Thread nD τ) arg7 fullShare (k0_pay1 x1) ∗ owns (c : Thread nD τ) arg8 fullShare (k0_pay2 x2) ∗ tbPt0 c tbM0_0 xt0 ∗ tbPt0 c tbM0_1 xt1) -∗ K ⟨⟩))
      ⊢ wp frame (wpE (defs₀ (F := F)) Variants.none c none) E (cc0_moe_expert_up i tbM0_0 htbM0_0 tbM0_1 htbM0_1 arg3 harg3 arg4 harg4 arg5 harg5 arg6 harg6 arg7 harg7 arg8 harg8) K := by
  simp only [cc0_moe_expert_up_eq_skeleton]; unfold cc0_moe_expert_up_skel
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, HT0, HT1, Hk⟩
  obtain rfl := harg3.eq_unread hf0; obtain rfl := harg4.eq_unread hf1; obtain rfl := harg5.eq_unread hf2
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    refine (View.read_writes_full _ _ _ _ _).trans ?_
    unfold act
    unfold runA.sl.v30 runA.sl.v32 runA.sl.v41 runA.sl.v43
    have e0 : View.read (Elt F) arg7.view (arg7.view.writes (Elt F) arg7.view.junk (runA.sl.HS0_1 c arg4 harg4 x1)) = k0_pay1 x1 := by
      unfold runA.sl.HS0_1
      refine (View.read_writes_full _ _ _ _ _).trans ?_
      simp (disch := decide) only [View.ld_unit_lit', View.readAt_eq_ld, Memref.IsWhole.read_unread]
    have e1 : View.read (Elt F) arg8.view (arg8.view.writes (Elt F) arg8.view.junk (runA.sl.HS1_1 c arg5 harg5 x2)) = k0_pay2 x2 := by
      unfold runA.sl.HS1_1
      refine (View.read_writes_full _ _ _ _ _).trans ?_
      simp (disch := decide) only [View.ld_unit_lit', View.readAt_eq_ld, Memref.IsWhole.read_unread]
    simp (disch := decide) only [View.readCov, e0, e1, View.ld_unit_lit', View.readCov_unit_lit', View.readCov_cons_unit_lit', View.readAt_eq_ld, Memref.IsWhole.read_unread]
  isplitl [HS0]
  · iexists _; isplitr
    swap; · iexact HS0
    ipureintro
    refine (View.read_writes_full _ _ _ _ _).trans ?_
    simp (disch := decide) only [View.ld_unit_lit', View.readCov_unit_lit', View.readCov_cons_unit_lit', View.readAt_eq_ld, Memref.IsWhole.read_unread]
  isplitl [HS1]
  · iexists _; isplitr
    swap; · iexact HS1
    ipureintro
    refine (View.read_writes_full _ _ _ _ _).trans ?_
    simp (disch := decide) only [View.ld_unit_lit', View.readCov_unit_lit', View.readCov_cons_unit_lit', View.readAt_eq_ld, Memref.IsWhole.read_unread]
  isplitl [HT0]; · iexact HT0
  iexact HT1

end Cert.KernelUpIdeal.Run

end
-- ==== Proof.UpIRunB.lean ====
module

public import proofs.«01_k».proof.Proof.UpIRunA

@[expose] public section

set_option maxRecDepth 16384

noncomputable section

namespace Cert.KernelUpIdeal.Run

open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A point that stores the weights and no product. -/
theorem runB (c : Dev nD) (i : grid0.Coords) (arg3 : Memref sig .tc .vmem S256x2048 .i32) (harg3 : arg3.IsWhole) (arg4 : Memref sig .tc .vmem S1x1x4096x512 .f32) (harg4 : arg4.IsWhole) (arg5 : Memref sig .tc .vmem S1x1x4096x512 .f32) (harg5 : arg5.IsWhole) (arg6 : Memref sig .tc .vmem S256x512 .bf16) (harg6 : arg6.IsWhole) (arg7 : Memref sig .tc .vmem S4096x512 .bf16) (harg7 : arg7.IsWhole) (arg8 : Memref sig .tc .vmem S4096x512 .bf16) (harg8 : arg8.IsWhole)
    (x0 : Vec F S256x2048 .i32) (x1 : Vec F S1x1x4096x512 .f32) (x2 : Vec F S1x1x4096x512 .f32) (xt0 : TbBuf0 (F := F) c tbM0_0) (xt1 : TbBuf0 (F := F) c tbM0_1)
    (hc0 : fills i (beAt c i xt0) (bePrev c i xt0)) (hc1 : ¬k0_cond2 (actAt c i xt1) = 1#1) (hc2 : k0_cond3 (actAt' c i xt1) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare (k0_pay4) ∗ owns (c : Thread nD τ) arg7 fullShare (k0_pay1 x1) ∗ owns (c : Thread nD τ) arg8 fullShare (k0_pay2 x2) ∗ tbPt0 c tbM0_0 xt0 ∗ tbPt0 c tbM0_1 xt1) -∗ K ⟨⟩))
      ⊢ wp frame (wpE (defs₀ (F := F)) Variants.none c none) E (cc0_moe_expert_up i tbM0_0 htbM0_0 tbM0_1 htbM0_1 arg3 harg3 arg4 harg4 arg5 harg5 arg6 harg6 arg7 harg7 arg8 harg8) K := by
  simp only [cc0_moe_expert_up_eq_skeleton]; unfold cc0_moe_expert_up_skel
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, HT0, HT1, Hk⟩
  obtain rfl := harg3.eq_unread hf0; obtain rfl := harg4.eq_unread hf1; obtain rfl := harg5.eq_unread hf2
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    refine (View.read_writes_full _ _ _ _ _).trans ?_
    rfl
  isplitl [HS0]
  · iexists _; isplitr
    swap; · iexact HS0
    ipureintro
    refine (View.read_writes_full _ _ _ _ _).trans ?_
    simp (disch := decide) only [View.ld_unit_lit', View.readCov_unit_lit', View.readCov_cons_unit_lit', View.readAt_eq_ld, Memref.IsWhole.read_unread]
  isplitl [HS1]
  · iexists _; isplitr
    swap; · iexact HS1
    ipureintro
    refine (View.read_writes_full _ _ _ _ _).trans ?_
    simp (disch := decide) only [View.ld_unit_lit', View.readCov_unit_lit', View.readCov_cons_unit_lit', View.readAt_eq_ld, Memref.IsWhole.read_unread]
  isplitl [HT0]; · iexact HT0
  iexact HT1

end Cert.KernelUpIdeal.Run

end
-- ==== Proof.UpIRunC.lean ====
module

public import proofs.«01_k».proof.Proof.UpIRunB

@[expose] public section

set_option maxRecDepth 16384

noncomputable section

namespace Cert.KernelUpIdeal.Run

open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- An active point that keeps the weights. -/
theorem runC (c : Dev nD) (i : grid0.Coords) (arg3 : Memref sig .tc .vmem S256x2048 .i32) (harg3 : arg3.IsWhole) (arg4 : Memref sig .tc .vmem S1x1x4096x512 .f32) (harg4 : arg4.IsWhole) (arg5 : Memref sig .tc .vmem S1x1x4096x512 .f32) (harg5 : arg5.IsWhole) (arg6 : Memref sig .tc .vmem S256x512 .bf16) (harg6 : arg6.IsWhole) (arg7 : Memref sig .tc .vmem S4096x512 .bf16) (harg7 : arg7.IsWhole) (arg8 : Memref sig .tc .vmem S4096x512 .bf16) (harg8 : arg8.IsWhole)
    (x0 : Vec F S256x2048 .i32) (x1 : Vec F S1x1x4096x512 .f32) (x2 : Vec F S1x1x4096x512 .f32) (xt0 : TbBuf0 (F := F) c tbM0_0) (xt1 : TbBuf0 (F := F) c tbM0_1) (xs0 xs1 : Vec F S4096x512 .bf16)
    (hc0 : ¬fills i (beAt c i xt0) (bePrev c i xt0)) (hc1 : k0_cond2 (actAt c i xt1) = 1#1) (hc2 : ¬k0_cond3 (actAt' c i xt1) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare (act x0 (xs0) (xs1)) ∗ owns (c : Thread nD τ) arg7 fullShare (xs0) ∗ owns (c : Thread nD τ) arg8 fullShare (xs1) ∗ tbPt0 c tbM0_0 xt0 ∗ tbPt0 c tbM0_1 xt1) -∗ K ⟨⟩))
      ⊢ wp frame (wpE (defs₀ (F := F)) Variants.none c none) E (cc0_moe_expert_up i tbM0_0 htbM0_0 tbM0_1 htbM0_1 arg3 harg3 arg4 harg4 arg5 harg5 arg6 harg6 arg7 harg7 arg8 harg8) K := by
  simp only [cc0_moe_expert_up_eq_skeleton]; unfold cc0_moe_expert_up_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, HT0, HT1, Hk⟩
  obtain rfl := harg3.eq_unread hf0; obtain rfl := harg4.eq_unread hf1; obtain rfl := harg5.eq_unread hf2; obtain rfl := harg7.eq_unread hfs0; obtain rfl := harg8.eq_unread hfs1
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    refine (View.read_writes_full _ _ _ _ _).trans ?_
    unfold act
    simp (disch := decide) only [View.ld_unit_lit', View.readCov_unit_lit', View.readCov_cons_unit_lit', View.readAt_eq_ld, Memref.IsWhole.read_unread]
  isplitl [HS0]
  · iexists _; isplitr; · ipureintro; exact harg7.read_unread _
    iexact HS0
  isplitl [HS1]
  · iexists _; isplitr; · ipureintro; exact harg8.read_unread _
    iexact HS1
  isplitl [HT0]; · iexact HT0
  iexact HT1

end Cert.KernelUpIdeal.Run

end
-- ==== Proof.UpIRunD.lean ====
module

public import proofs.«01_k».proof.Proof.UpIRunC

@[expose] public section

set_option maxRecDepth 16384

noncomputable section

namespace Cert.KernelUpIdeal.Run

open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A point that keeps the weights and stores no product. -/
theorem runD (c : Dev nD) (i : grid0.Coords) (arg3 : Memref sig .tc .vmem S256x2048 .i32) (harg3 : arg3.IsWhole) (arg4 : Memref sig .tc .vmem S1x1x4096x512 .f32) (harg4 : arg4.IsWhole) (arg5 : Memref sig .tc .vmem S1x1x4096x512 .f32) (harg5 : arg5.IsWhole) (arg6 : Memref sig .tc .vmem S256x512 .bf16) (harg6 : arg6.IsWhole) (arg7 : Memref sig .tc .vmem S4096x512 .bf16) (harg7 : arg7.IsWhole) (arg8 : Memref sig .tc .vmem S4096x512 .bf16) (harg8 : arg8.IsWhole)
    (x0 : Vec F S256x2048 .i32) (x1 : Vec F S1x1x4096x512 .f32) (x2 : Vec F S1x1x4096x512 .f32) (xt0 : TbBuf0 (F := F) c tbM0_0) (xt1 : TbBuf0 (F := F) c tbM0_1) (xs0 xs1 : Vec F S4096x512 .bf16)
    (hc0 : ¬fills i (beAt c i xt0) (bePrev c i xt0)) (hc1 : ¬k0_cond2 (actAt c i xt1) = 1#1) (hc2 : k0_cond3 (actAt' c i xt1) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare (k0_pay4) ∗ owns (c : Thread nD τ) arg7 fullShare (xs0) ∗ owns (c : Thread nD τ) arg8 fullShare (xs1) ∗ tbPt0 c tbM0_0 xt0 ∗ tbPt0 c tbM0_1 xt1) -∗ K ⟨⟩))
      ⊢ wp frame (wpE (defs₀ (F := F)) Variants.none c none) E (cc0_moe_expert_up i tbM0_0 htbM0_0 tbM0_1 htbM0_1 arg3 harg3 arg4 harg4 arg5 harg5 arg6 harg6 arg7 harg7 arg8 harg8) K := by
  simp only [cc0_moe_expert_up_eq_skeleton]; unfold cc0_moe_expert_up_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, HT0, HT1, Hk⟩
  obtain rfl := harg3.eq_unread hf0; obtain rfl := harg4.eq_unread hf1; obtain rfl := harg5.eq_unread hf2; obtain rfl := harg7.eq_unread hfs0; obtain rfl := harg8.eq_unread hfs1
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    refine (View.read_writes_full _ _ _ _ _).trans ?_
    rfl
  isplitl [HS0]
  · iexists _; isplitr; · ipureintro; exact harg7.read_unread _
    iexact HS0
  isplitl [HS1]
  · iexists _; isplitr; · ipureintro; exact harg8.read_unread _
    iexact HS1
  isplitl [HT0]; · iexact HT0
  iexact HT1

end Cert.KernelUpIdeal.Run

end
-- ==== Proof.UpIFrame.lean ====
module

public import proofs.«01_k».proof.Proof.UpIRunD

@[expose] public section

set_option maxRecDepth 16384

noncomputable section

namespace Cert.KernelUpIdeal.Run

open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The frame of the experts' up call: what its buffers hold point by point, its body at every point, its run. -/

theorem fills_first (t : Fin grid0.N) (h : t.val = 0) (v2 v6 : BitVec 32) : fills (grid0.coords t) v2 v6 := by
  have e0 : (grid0.coords t 0).val = t.val / 1 % 704 := Pipeline.Grid.coords_val t 0 (by decide) rfl
  have e : (grid0.coords t 0).val = 0 := by rw [e0, h]
  unfold fills
  rw [e]
  generalize Scalar.cmpi .ne v2 v6 = b
  revert b
  decide

/-- A word is zero or not. -/
theorem zero_iff (w : BitVec 32) : ¬k0_cond2 w = 1#1 ↔ k0_cond3 w = 1#1 := by
  unfold k0_cond2 k0_cond3
  by_cases h : w = 0#32
  · subst h; decide
  · have a : (w != 0#32) = true := by simpa using h
    have b : (w == 0#32) = false := by simpa using h
    simp [Scalar.cmpi, IntOp.cmpi, Scalar.extui, a, b]

/-- The weights kept after a point. -/
def kept (hO : Ok m) (c : Dev nD) : (n : ℕ) → n < (cfgM m hO).N → Vec F S4096x512 .bf16 × Vec F S4096x512 .bf16
  | 0, h => (k0_pay1 (iblk m hO c 1 ⟨0, h⟩), k0_pay2 (iblk m hO c 2 ⟨0, h⟩))
  | n + 1, h =>
    if fills (grid0.coords ⟨n + 1, h⟩) (beAt c (grid0.coords ⟨n + 1, h⟩) (tbl m 0)) (bePrev c (grid0.coords ⟨n + 1, h⟩) (tbl m 0)) then
      (k0_pay1 (iblk m hO c 1 ⟨n + 1, h⟩), k0_pay2 (iblk m hO c 2 ⟨n + 1, h⟩))
    else kept hO c n (Nat.lt_of_succ_lt h)

theorem kept_fills (hO : Ok m) (c : Dev nD) (t : Fin (cfgM m hO).N) (h : fills (grid0.coords t) (beAt c (grid0.coords t) (tbl m 0)) (bePrev c (grid0.coords t) (tbl m 0))) :
    kept m hO c t.val t.isLt = (k0_pay1 (iblk m hO c 1 t), k0_pay2 (iblk m hO c 2 t)) := by
  obtain ⟨n, hn⟩ := t
  cases n with
  | zero => rfl
  | succ n => exact if_pos h

theorem kept_kept (hO : Ok m) (c : Dev nD) (t : Fin (cfgM m hO).N) (h : ¬fills (grid0.coords t) (beAt c (grid0.coords t) (tbl m 0)) (bePrev c (grid0.coords t) (tbl m 0))) :
    kept m hO c t.val t.isLt = kept m hO c (t.val - 1) (Nat.lt_of_le_of_lt (Nat.sub_le _ _) t.isLt) := by
  obtain ⟨n, hn⟩ := t
  cases n with
  | zero => exact absurd (fills_first ⟨0, hn⟩ rfl _ _) h
  | succ n => exact if_neg h

/-- What a point stores. -/
def outv (hO : Ok m) (c : Dev nD) (t : Fin (cfgM m hO).N) : Vec F S256x512 .bf16 :=
  if k0_cond2 (actAt c (grid0.coords t) (tbl m 1)) = 1#1 then act (iblk m hO c 0 t) (kept m hO c t.val t.isLt).1 (kept m hO c t.val t.isLt).2 else k0_pay4

theorem outv_act (hO : Ok m) (c : Dev nD) (t : Fin (cfgM m hO).N) (h : k0_cond2 (actAt c (grid0.coords t) (tbl m 1)) = 1#1) :
    outv m hO c t = act (iblk m hO c 0 t) (kept m hO c t.val t.isLt).1 (kept m hO c t.val t.isLt).2 := if_pos h
theorem outv_zero (hO : Ok m) (c : Dev nD) (t : Fin (cfgM m hO).N) (h : ¬k0_cond2 (actAt c (grid0.coords t) (tbl m 1)) = 1#1) : outv m hO c t = k0_pay4 := if_neg h

/-- The invariant before position `n`: before the first point the class's, every scratch at anything; afterwards the weights kept. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((kept m hO c n hn).1) ∗ owns (c : Thread nD τ) scM0_1 fullShare ((kept m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((kept m hO c n hn).1) ∗ owns (c : Thread nD τ) scM0_1 fullShare ((kept m hO c n hn).2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((kept m hO c (n - 1) (by omega)).1) ∗ owns (c : Thread nD τ) scM0_1 fullShare ((kept m hO c (n - 1) (by omega)).2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outv m hO c t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = outv m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

set_option maxHeartbeats 3200000 in
/-- The body at any point, by its four cases. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).owesAt () t.succ = (dats m hO 0 c).owesAt () t.castSucc from rfl,
    after0_0, after0_1, after0_2, after0_3]
  rw [show (dats m hO 0 c).Φ t.succ = PhiS m hO c (t.val + 1) t.isLt from rfl, PhiS_succ, PhiT0_eq, PhiS_castSucc m hO c t]
  by_cases h0 : fills (grid0.coords t) (beAt c (grid0.coords t) (tbl m 0)) (bePrev c (grid0.coords t) (tbl m 0))
  · by_cases h1 : k0_cond2 (actAt c (grid0.coords t) (tbl m 1)) = 1#1
    · rw [outv_act m hO c t h1, kept_fills m hO c t h0]
      by_cases hz : t.val = 0
      · rw [PhiS_zero m hO c _ _ hz, PhiT0_eq, PhiA0_eq]
        iintro ⟨⟨⟨⟨HS0, HS1⟩, Hg⟩, ⟨HT0, HT1⟩⟩, Ho, ⟨%d0, H0⟩, ⟨%d1, H1⟩, ⟨%d2, H2⟩, ⟨%d3, H3⟩⟩
        iapply (runA c (grid0.coords t) _ _ _ _ _ _ _ _ _ _ _ _ (iblk m hO c 0 t) (iblk m hO c 1 t) (iblk m hO c 2 t) (tbl m 0) (tbl m 1) h0 h1 (fun h => (zero_iff _).mpr h h1) Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HT0]; · iexact HT0
        isplitl [HT1]; · iexact HT1
        iintro ⟨H0, H1, H2, H3, HS0, HS1, HT0, HT1⟩
        isplitl [HS0 HS1 Hg HT0 HT1]
        · isplitl [HS0 HS1 Hg]
          · isplitl [HS0 HS1]
            · isplitl [HS0]
              · iexact HS0
              iexact HS1
            iexact Hg
          isplitl [HT0]; · iexact HT0
          iexact HT1
        isplitl [Ho]; · iexact Ho
        isplitl [H0]; · iexact H0
        isplitl [H1]; · iexact H1
        isplitl [H2]; · iexact H2
        iexact H3
      · rw [PhiS_pos m hO c _ _ hz, PhiT0_eq]
        iintro ⟨⟨⟨⟨HS0, HS1⟩, Hg⟩, ⟨HT0, HT1⟩⟩, Ho, ⟨%d0, H0⟩, ⟨%d1, H1⟩, ⟨%d2, H2⟩, ⟨%d3, H3⟩⟩
        iapply (runA c (grid0.coords t) _ _ _ _ _ _ _ _ _ _ _ _ (iblk m hO c 0 t) (iblk m hO c 1 t) (iblk m hO c 2 t) (tbl m 0) (tbl m 1) h0 h1 (fun h => (zero_iff _).mpr h h1) Set.univ _)
        isplitl [H0]; · iexact H0
        isplitl [H1]; · iexact H1
        isplitl [H2]; · iexact H2
        isplitl [H3]; · iexists _; iexact H3
        isplitl [HS0]; · iexists _; iexact HS0
        isplitl [HS1]; · iexists _; iexact HS1
        isplitl [HT0]; · iexact HT0
        isplitl [HT1]; · iexact HT1
        iintro ⟨H0, H1, H2, H3, HS0, HS1, HT0, HT1⟩
        isplitl [HS0 HS1 Hg HT0 HT1]
        · isplitl [HS0 HS1 Hg]
          · isplitl [HS0 HS1]
            · isplitl [HS0]
              · iexact HS0
              iexact HS1
            iexact Hg
          isplitl [HT0]; · iexact HT0
          iexact HT1
        isplitl [Ho]; · iexact Ho
        isplitl [H0]; · iexact H0
        isplitl [H1]; · iexact H1
        isplitl [H2]; · iexact H2
        iexact H3
    · rw [outv_zero m hO c t h1, kept_fills m hO c t h0]
      by_cases hz : t.val = 0
      · rw [PhiS_zero m hO c _ _ hz, PhiT0_eq, PhiA0_eq]
        iintro ⟨⟨⟨⟨HS0, HS1⟩, Hg⟩, ⟨HT0, HT1⟩⟩, Ho, ⟨%d0, H0⟩, ⟨%d1, H1⟩, ⟨%d2, H2⟩, ⟨%d3, H3⟩⟩
        iapply (runB c (grid0.coords t) _ _ _ _ _ _ _ _ _ _ _ _ (iblk m hO c 0 t) (iblk m hO c 1 t) (iblk m hO c 2 t) (tbl m 0) (tbl m 1) h0 h1 ((zero_iff _).mp h1) Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HT0]; · iexact HT0
        isplitl [HT1]; · iexact HT1
        iintro ⟨H0, H1, H2, H3, HS0, HS1, HT0, HT1⟩
        isplitl [HS0 HS1 Hg HT0 HT1]
        · isplitl [HS0 HS1 Hg]
          · isplitl [HS0 HS1]
            · isplitl [HS0]
              · iexact HS0
              iexact HS1
            iexact Hg
          isplitl [HT0]; · iexact HT0
          iexact HT1
        isplitl [Ho]; · iexact Ho
        isplitl [H0]; · iexact H0
        isplitl [H1]; · iexact H1
        isplitl [H2]; · iexact H2
        iexact H3
      · rw [PhiS_pos m hO c _ _ hz, PhiT0_eq]
        iintro ⟨⟨⟨⟨HS0, HS1⟩, Hg⟩, ⟨HT0, HT1⟩⟩, Ho, ⟨%d0, H0⟩, ⟨%d1, H1⟩, ⟨%d2, H2⟩, ⟨%d3, H3⟩⟩
        iapply (runB c (grid0.coords t) _ _ _ _ _ _ _ _ _ _ _ _ (iblk m hO c 0 t) (iblk m hO c 1 t) (iblk m hO c 2 t) (tbl m 0) (tbl m 1) h0 h1 ((zero_iff _).mp h1) Set.univ _)
        isplitl [H0]; · iexact H0
        isplitl [H1]; · iexact H1
        isplitl [H2]; · iexact H2
        isplitl [H3]; · iexists _; iexact H3
        isplitl [HS0]; · iexists _; iexact HS0
        isplitl [HS1]; · iexists _; iexact HS1
        isplitl [HT0]; · iexact HT0
        isplitl [HT1]; · iexact HT1
        iintro ⟨H0, H1, H2, H3, HS0, HS1, HT0, HT1⟩
        isplitl [HS0 HS1 Hg HT0 HT1]
        · isplitl [HS0 HS1 Hg]
          · isplitl [HS0 HS1]
            · isplitl [HS0]
              · iexact HS0
              iexact HS1
            iexact Hg
          isplitl [HT0]; · iexact HT0
          iexact HT1
        isplitl [Ho]; · iexact Ho
        isplitl [H0]; · iexact H0
        isplitl [H1]; · iexact H1
        isplitl [H2]; · iexact H2
        iexact H3
  · have hz : t.val ≠ 0 := fun hz => h0 (fills_first t hz _ _)
    rw [PhiS_pos m hO c _ _ hz, PhiT0_eq]
    by_cases h1 : k0_cond2 (actAt c (grid0.coords t) (tbl m 1)) = 1#1
    · rw [outv_act m hO c t h1, kept_kept m hO c t h0]
      iintro ⟨⟨⟨⟨HS0, HS1⟩, Hg⟩, ⟨HT0, HT1⟩⟩, Ho, ⟨%d0, H0⟩, ⟨%d1, H1⟩, ⟨%d2, H2⟩, ⟨%d3, H3⟩⟩
      iapply (runC c (grid0.coords t) _ _ _ _ _ _ _ _ _ _ _ _ (iblk m hO c 0 t) (iblk m hO c 1 t) (iblk m hO c 2 t) (tbl m 0) (tbl m 1) (kept m hO c (t.val - 1) (Nat.lt_of_le_of_lt (Nat.sub_le _ _) t.isLt)).1 (kept m hO c (t.val - 1) (Nat.lt_of_le_of_lt (Nat.sub_le _ _) t.isLt)).2 h0 h1 (fun h => (zero_iff _).mpr h h1) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HT0]; · iexact HT0
      isplitl [HT1]; · iexact HT1
      iintro ⟨H0, H1, H2, H3, HS0, HS1, HT0, HT1⟩
      isplitl [HS0 HS1 Hg HT0 HT1]
      · isplitl [HS0 HS1 Hg]
        · isplitl [HS0 HS1]
          · isplitl [HS0]
            · iexact HS0
            iexact HS1
          iexact Hg
        isplitl [HT0]; · iexact HT0
        iexact HT1
      isplitl [Ho]; · iexact Ho
      isplitl [H0]; · iexact H0
      isplitl [H1]; · iexact H1
      isplitl [H2]; · iexact H2
      iexact H3
    · rw [outv_zero m hO c t h1, kept_kept m hO c t h0]
      iintro ⟨⟨⟨⟨HS0, HS1⟩, Hg⟩, ⟨HT0, HT1⟩⟩, Ho, ⟨%d0, H0⟩, ⟨%d1, H1⟩, ⟨%d2, H2⟩, ⟨%d3, H3⟩⟩
      iapply (runD c (grid0.coords t) _ _ _ _ _ _ _ _ _ _ _ _ (iblk m hO c 0 t) (iblk m hO c 1 t) (iblk m hO c 2 t) (tbl m 0) (tbl m 1) (kept m hO c (t.val - 1) (Nat.lt_of_le_of_lt (Nat.sub_le _ _) t.isLt)).1 (kept m hO c (t.val - 1) (Nat.lt_of_le_of_lt (Nat.sub_le _ _) t.isLt)).2 h0 h1 ((zero_iff _).mp h1) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HT0]; · iexact HT0
      isplitl [HT1]; · iexact HT1
      iintro ⟨H0, H1, H2, H3, HS0, HS1, HT0, HT1⟩
      isplitl [HS0 HS1 Hg HT0 HT1]
      · isplitl [HS0 HS1 Hg]
        · isplitl [HS0 HS1]
          · isplitl [HS0]
            · iexact HS0
            iexact HS1
          iexact Hg
        isplitl [HT0]; · iexact HT0
        iexact HT1
      isplitl [Ho]; · iexact Ho
      isplitl [H0]; · iexact H0
      isplitl [H1]; · iexact H1
      isplitl [H2]; · iexact H2
      iexact H3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  have key : ∀ (b f : Bool) (X Y : sProp 𝕄), f = true → (match b with | true => (match f with | false => X | true => Y) | false => Y) = Y := by
    rintro (_ | _) _ X Y rfl <;> rfl
  unfold bodyPost
  refine sep_mono .rfl (sep_mono .rfl (sep_mono .rfl (sep_mono .rfl (sep_mono .rfl ?_))))
  exact .of_eq (key _ _ _ _ (flush0_3 (adm m hO) t)).symm

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexists _; iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 704 := N_0; omega)

/-! ## The run and the frame -/

-- `θ_run_frameP_track`'s implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the region found it (Lib/Pipeline/Frame.lean `FramePost`), and every semaphore counter at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The frame, under the condition of the tables. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ hO (dats m hO) (A_eq m hO) ((θ_run defs _ _).mono (fun _ h => h.1) (run_main m ρ hO)))
    ((θ_run defs _ _).mono (fun _ h => h.2) (run_main m ρ hO))

end Cert.KernelUpIdeal.Run

end
-- ==== Proof.UpIOk.lean ====
module

public import proofs.«01_k».proof.Proof.UpIRuns
public import proofs.«01_k».proof.Proof.Gen.Pre_experts_named
public import Idealize.ShloMosaic.Lib.ValueIdxCore

@[expose] public section

set_option maxRecDepth 16384

noncomputable section

namespace Cert.KernelUpIdeal.Run

open Cert.KernelUpIdeal Cert.KernelUpIdeal.Gen
open Idealize.ShloMosaic Idealize.ShloMosaic.TcCoe Idealize.SL.Sem

/-! The precondition: each block's expert is one of the 64, so the blocks of weights lie inside their arrays. -/

variable {F : FTy → Type} [FloatOps F]
variable (m : (ℓ : Loc nD τ sig) → Buf (Elt F) ℓ)

theorem andi_one (a b : BitVec 1) : IntOp.andi a b = 1#1 ↔ a = 1#1 ∧ b = 1#1 := by revert a b; decide

/-- A word from 0 up to 64, signed. -/
theorem word_small (w : BitVec 32) (h0 : IntOp.cmpi .sge w 0#32 = 1#1) (h1 : IntOp.cmpi .slt w 64#32 = 1#1) : w.toNat < 64 := by
  rw [WordCmp.cmpi_sge_eq, WordCmp.ofBool_eq_one_iff, decide_eq_true_eq] at h0
  rw [WordCmp.cmpi_slt_eq, WordCmp.ofBool_eq_one_iff, decide_eq_true_eq] at h1
  have e0 : (0#32).toInt = 0 := by decide
  have e1 : (64#32).toInt = 64 := by decide
  rw [e0] at h0
  rw [e1] at h1
  rw [BitVec.toInt_eq_toNat_cond] at h0 h1
  split at h0 <;> split at h1 <;> omega

/-- The precondition on the launch memory. -/
abbrev Named : Prop := ∀ c : Dev nD, Cert.Pre_experts_named.fn (F := F) (V m c main_arg0) (V m c main_arg1) (V m c main_arg2) (V m c main_arg3) (V m c main_arg4) = fun _ => 1#1

theorem small (h : Named m) (y : S704.Idx) : (show BitVec 32 from tbl m 0 y).toNat < 64 := by
  have e := congrFun (h 0) y
  simp only [Cert.Pre_experts_named.fn, constantI, broadcastInDim, cmpi, andi, andi_one] at e
  exact word_small _ e.1 e.2

theorem ok_of_named (h : Named m) : Ok m := by
  refine ⟨fun i => ⟨fun a => ?_, .inl rfl⟩, fun i => ⟨fun a => ?_, .inl rfl⟩⟩
  all_goals
    match a with
    | ⟨0, _⟩ => show (0 + 1) * 1 ≤ 4; omega
    | ⟨1, _⟩ =>
      exact (Nat.mul_one _).le.trans (Nat.succ_le_of_lt (small m h _))
    | ⟨2, _⟩ => show (0 + 1) * 4096 ≤ 4096; omega
    | ⟨3, _⟩ => show (0 + 1) * 512 ≤ 512; omega

end Cert.KernelUpIdeal.Run

end
-- ==== Proof.UpRef.lean ====
module

public import proofs.«01_k».proof.Proof.Gen.ReferenceUpIdeal.Read
public import Idealize.ShloMosaic.Lib.ValueIdxCore
public import Idealize.ShloMosaic.Lib.WordCmp
public import Idealize.ShloMosaic.Lib.Pointwise

@[expose] public section

set_option maxRecDepth 16384

noncomputable section

namespace Cert.ReferenceUpIdeal.Of

open Cert.ReferenceUpIdeal Cert.ReferenceUpIdeal.Gen Cert.ReferenceUpIdeal.Read
open Idealize.ShloMosaic Idealize.ShloMosaic.TcCoe Idealize.SL.Sem

/-! The experts' up call: what its reference says, element by element. -/

/-- The weights gathered: those of the expert the index names, read signed and clamped. -/
theorem gather_apply (x : S64x4096x512.Idx → EReal) (idx : IVec S704x1 32) (t : Fin 704) (k : Fin 4096) (j : Fin 512) :
    Host.gather gather_S64x4096x512_S704x1_S704x4096x512_12_0_n_n_0_1_14096512 x idx (ix3 t k j)
      = x (ix3 ⟨min (idx (ix2 t 0)).toInt.toNat 63, by omega⟩ k j) := by
  unfold Host.gather
  congr 1
  funext a
  refine Fin.ext ?_
  show GatherDims.start gather_S64x4096x512_S704x1_S704x4096x512_12_0_n_n_0_1_14096512 (ix3 t k j) idx a
    + GatherDims.batchCoord gather_S64x4096x512_S704x1_S704x4096x512_12_0_n_n_0_1_14096512 (ix3 t k j) a
    + GatherDims.offCoord gather_S64x4096x512_S704x1_S704x4096x512_12_0_n_n_0_1_14096512 (ix3 t k j) a = _
  rw [GatherDims.batchCoord_eq_zero _ _ _ List.not_mem_nil, Nat.add_zero]
  obtain rfl | rfl | rfl : a = (0 : Fin 3) ∨ a = (1 : Fin 3) ∨ a = (2 : Fin 3) := by revert a; decide
  · rw [GatherDims.offCoord_eq_zero _ _ _ (fun h => ((GatherDims.mem_sKept _ _).mp h).1 (List.mem_singleton.mpr rfl)), Nat.add_zero]
    unfold GatherDims.start
    rw [dif_pos (show (0 : Fin 3) ∈ GatherDims.startIndexMap gather_S64x4096x512_S704x1_S704x4096x512_12_0_n_n_0_1_14096512 from List.mem_singleton.mpr rfl)]
    have hsi : GatherDims.siIdx gather_S64x4096x512_S704x1_S704x4096x512_12_0_n_n_0_1_14096512 (ix3 t k j)
        ⟨List.idxOf (0 : Fin 3) (GatherDims.startIndexMap gather_S64x4096x512_S704x1_S704x4096x512_12_0_n_n_0_1_14096512),
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  · unfold GatherDims.start
    rw [dif_neg (show ¬(1 : Fin 3) ∈ GatherDims.startIndexMap gather_S64x4096x512_S704x1_S704x4096x512_12_0_n_n_0_1_14096512 from by decide), Nat.zero_add]
    rfl
  · unfold GatherDims.start
    rw [dif_neg (show ¬(2 : Fin 3) ∈ GatherDims.startIndexMap gather_S64x4096x512_S704x1_S704x4096x512_12_0_n_n_0_1_14096512 from by decide), Nat.zero_add]
    rfl

variable (x0 x1 : IVec S704 32) (x2 : IVec S180224x2048 32) (x3 x4 : S4x64x4096x512.Idx → EReal)

/-- A word's low half and its high half, as numbers. -/
def lo (w : BitVec 32) : EReal := FloatOps.ofBits (F := Ideal) .f32 (IntOp.shli .host w 16#32)
def hi (w : BitVec 32) : EReal := FloatOps.ofBits (F := Ideal) .f32 (IntOp.andi w 4294901760#32)

/-- A row's element: its first half in the words' low halves, its second in their high halves. -/
def elem (r : Fin 180224) (k : Fin 4096) : EReal :=
  if h : k.val < 2048 then lo (x2 (ix2 r ⟨k.val, h⟩)) else hi (x2 (ix2 r ⟨k.val - 2048, by omega⟩))

/-- The expert of a block of rows. -/
def expert (t : Fin 704) : Fin 64 := Fin.ofNat 64 (x0 (ix1 t)).toNat

/-- A row's product with the weights of its block's expert. -/
def prod (w : S4x64x4096x512.Idx → EReal) (t : Fin 704) (i : Fin 256) (j : Fin 512) : EReal :=
  ∑ k : Fin 4096, elem x2 ⟨t.val * 256 + i.val, by omega⟩ k * w (ix4 0 (expert x0 t) k j)

/-- What a block of rows comes to: zero where nothing is routed, else the gated product. -/
def block (t : Fin 704) (i : Fin 256) (j : Fin 512) : EReal :=
  if x1 (ix1 t) = 0#32 then 0
  else prod x0 x2 x3 t i j * Ideal.div 1 (1 + Ideal.exp (-prod x0 x2 x3 t i j)) * prod x0 x2 x4 t i j

theorem v2_at (i : S180224x2048.Idx) : val_main_v2 (F := Ideal) x2 i = lo (x2 i) := by
  rw [val_main_v2_apply, val_main_v1_apply, val_main_v0_apply]; rfl
theorem v5_at (i : S180224x2048.Idx) : val_main_v5 (F := Ideal) x2 i = hi (x2 i) := by
  rw [val_main_v5_apply, val_main_v4_apply, val_main_v3_apply]; rfl

theorem v6_at (r : Fin 180224) (k : Fin 4096) : val_main_v6 (F := Ideal) x2 (ix2 r k) = elem x2 r k := by
  have h : val_main_v6 (F := Ideal) x2 (ix2 r k)
      = if h : k.val < 2048 then val_main_v2 (F := Ideal) x2 (ix2 r ⟨k.val, h⟩) else val_main_v5 (F := Ideal) x2 (ix2 r ⟨k.val - 2048, by omega⟩) := by
    pointwise [val_main_v6]
  rw [h]
  unfold elem
  split
  · exact v2_at x2 _
  · exact v5_at x2 _

theorem v7_at (t : Fin 704) (i : Fin 256) (k : Fin 4096) : val_main_v7 (F := Ideal) x2 (ix3 t i k) = elem x2 ⟨t.val * 256 + i.val, by omega⟩ k := by
  rw [val_main_v7_apply, ← v6_at]
  congr 1
  funext a
  fin_cases a
  · exact Fin.ext (show ((t.val * 256 + i.val) * 4096 + k.val) / 4096 = t.val * 256 + i.val by omega)
  · exact Fin.ext (show ((t.val * 256 + i.val) * 4096 + k.val) % 4096 = k.val by omega)

/-- The expert named, as it is one of the 64. -/
theorem v14_at (h : ∀ y, (x0 y).toNat < 64) (i : S704.Idx) : val_main_v14 (F := Ideal) x0 i = x0 i := by
  rw [val_main_v14_apply, val_main_v11_apply, val_main_v10_apply]
  have e : IntOp.cmpi .slt (x0 i) (val_main_c_1 (F := Ideal) (idx_main_v10 i)) = 0#1 := by
    show IntOp.cmpi .slt (x0 i) 0#32 = 0#1
    rw [WordCmp.cmpi_slt_zero, WordCmp.ofBool_eq_zero_iff, decide_eq_false_iff_not]
    have := h i
    omega
  rw [e]
  rfl

theorem clamp (w : BitVec 32) (h : w.toNat < 64) : min w.toInt.toNat 63 = w.toNat % 64 := by
  rw [WordCmp.toInt_eq_toNat_of_lt_half (by omega)]
  omega

theorem v9_at (e : Fin 64) (k : Fin 4096) (j : Fin 512) : val_main_v9 (F := Ideal) x3 (ix3 e k j) = x3 (ix4 0 e k j) := by
  rw [val_main_v9_apply, val_main_v8_apply]
  congr 1
  funext a
  fin_cases a
  · rfl
  · exact Fin.ext (show ((e.val * 4096 + k.val) * 512 + j.val) / 2097152 % 64 = e.val by omega)
  · exact Fin.ext (show ((e.val * 4096 + k.val) * 512 + j.val) / 512 % 4096 = k.val by omega)
  · exact Fin.ext (show ((e.val * 4096 + k.val) * 512 + j.val) % 512 = j.val by omega)

theorem v16_at (h : ∀ y, (x0 y).toNat < 64) (t : Fin 704) (k : Fin 4096) (j : Fin 512) :
    val_main_v16 (F := Ideal) x0 x3 (ix3 t k j) = x3 (ix4 0 (expert x0 t) k j) := by
  unfold val_main_v16
  rw [gather_apply, v9_at]
  have e : val_main_v15 (F := Ideal) x0 (ix2 t 0) = x0 (ix1 t) := by
    rw [val_main_v15_apply, v14_at x0 h]
    congr 1; funext a; fin_cases a; rfl
  have e' : (⟨min (val_main_v15 (F := Ideal) x0 (ix2 t 0)).toInt.toNat 63, by omega⟩ : Fin 64) = expert x0 t :=
    Fin.ext (by show min _ 63 = (x0 (ix1 t)).toNat % 64; rw [e]; exact clamp _ (h _))
  rw [e']

theorem v26_at (h : ∀ y, (x0 y).toNat < 64) (t : Fin 704) (k : Fin 4096) (j : Fin 512) :
    val_main_v26 (F := Ideal) x0 x4 (ix3 t k j) = x4 (ix4 0 (expert x0 t) k j) := v16_at x0 x4 h t k j

theorem v17_at (h : ∀ y, (x0 y).toNat < 64) (t : Fin 704) (i : Fin 256) (j : Fin 512) :
    val_main_v17 (F := Ideal) x0 x2 x3 (ix3 t i j) = prod x0 x2 x3 t i j := by
  rw [val_main_v17_apply]
  refine Finset.sum_congr rfl fun k _ => congrArg₂ (fun a b : EReal => a * b) ?_ ?_
  · rw [← v7_at]; congr 1; funext a; fin_cases a <;> rfl
  · rw [← v16_at x0 x3 h]; congr 1; funext a; fin_cases a <;> rfl

theorem v27_at (h : ∀ y, (x0 y).toNat < 64) (t : Fin 704) (i : Fin 256) (j : Fin 512) :
    val_main_v27 (F := Ideal) x0 x2 x4 (ix3 t i j) = prod x0 x2 x4 t i j := by
  rw [val_main_v27_apply]
  refine Finset.sum_congr rfl fun k _ => congrArg₂ (fun a b : EReal => a * b) ?_ ?_
  · rw [← v7_at]; congr 1; funext a; fin_cases a <;> rfl
  · rw [← v26_at x0 x4 h]; congr 1; funext a; fin_cases a <;> rfl

theorem one_bits : FloatOps.ofBits (F := Ideal) .f32 0x3F800000#32 = (1 : EReal) := by pointwise []
theorem zero_bits : FloatOps.ofBits (F := Ideal) .f32 0x00000000#32 = (0 : EReal) := by pointwise []

theorem v32_at (h : ∀ y, (x0 y).toNat < 64) (t : Fin 704) (i : Fin 256) (j : Fin 512) :
    val_main_v32 (F := Ideal) x0 x2 x3 x4 (ix3 t i j)
      = prod x0 x2 x3 t i j * Ideal.div 1 (1 + Ideal.exp (-prod x0 x2 x3 t i j)) * prod x0 x2 x4 t i j := by
  rw [val_main_v32_apply, val_main_v31_apply, val_main_call0_v5_apply, val_main_call0_v3_apply, val_main_call0_v1_apply, val_main_call0_v0_apply,
    val_main_call0_v4_apply, val_main_call0_v2_apply, val_main_call0_cst_apply, val_main_call0_cst_0_apply, v17_at x0 x2 x3 h, v27_at x0 x2 x4 h, one_bits]
  rfl

theorem v33_at (h : ∀ y, (x0 y).toNat < 64) (t : Fin 704) (i : Fin 256) (j : Fin 512) :
    val_main_v33 (F := Ideal) x0 x1 x2 x3 x4 (ix3 t i j) = block x0 x1 x2 x3 x4 t i j := by
  rw [val_main_v33_apply, v32_at x0 x2 x3 x4 h, val_main_call1_v1_apply, val_main_v30_apply, val_main_v29_apply, val_main_v28_apply,
    val_main_call1_v2_apply, val_main_call1_v0_apply, val_main_cst_apply, zero_bits, val_main_c_5_apply, WordCmp.cmpi_ne_eq]
  unfold block
  have e : (idx_main_v30 (idx_main_call1_v1 (ix3 t i j))) = ix1 t := by funext a; fin_cases a; rfl
  rw [e]
  by_cases h0 : x1 (ix1 t) = 0#32
  · rw [if_pos h0, h0]; rfl
  · rw [if_neg h0, decide_eq_true h0]; rfl

/-- The reference's result. -/
theorem v35_at (h : ∀ y, (x0 y).toNat < 64) (t : Fin 704) (i : Fin 256) (j : Fin 512) :
    val_main_v35 (F := Ideal) x0 x1 x2 x3 x4 (ix2 ⟨t.val * 256 + i.val, by omega⟩ j) = block x0 x1 x2 x3 x4 t i j := by
  rw [val_main_v35_apply, val_main_v34_apply, ← v33_at x0 x1 x2 x3 x4 h]
  have e : idx_main_v35 (ix2 ⟨t.val * 256 + i.val, by omega⟩ j) = ix3 t i j := by
    funext a
    fin_cases a
    · exact Fin.ext (show ((t.val * 256 + i.val) * 512 + j.val) / 131072 = t.val by omega)
    · exact Fin.ext (show ((t.val * 256 + i.val) * 512 + j.val) / 512 % 256 = i.val by omega)
    · exact Fin.ext (show ((t.val * 256 + i.val) * 512 + j.val) % 512 = j.val by omega)
  rw [e]
  rfl

end Cert.ReferenceUpIdeal.Of

end
-- ==== Proof.UpIVal.lean ====
module

public import proofs.«01_k».proof.Proof.UpIFrame
public import proofs.«01_k».proof.Proof.UpIOk
public import proofs.«01_k».proof.Proof.UpRef
public import proofs.«01_k».proof.Proof.Spec
public import Idealize.ShloMosaic.Lib.Pipeline.ReadBack

@[expose] public section

set_option maxRecDepth 16384

noncomputable section

namespace Cert.KernelUpIdeal.Run

open Cert.KernelUpIdeal Cert.KernelUpIdeal.Gen
open Idealize.ShloMosaic Idealize.ShloMosaic.TcCoe Idealize.SL.Sem
open Idealize.ShloMosaic.Pipeline (Dat)
open Cert.ReferenceUpIdeal.Of (lo hi elem expert prod block)

/-! The experts' up call: its array after the run, of its arguments. -/

variable (m : (ℓ : Loc nD τ sig) → Buf (Elt Ideal) ℓ) (hO : Ok m) (c : Dev nD) (t : Fin grid0.N)

abbrev BE : IVec S704 32 := m ((c.tc : Thread nD τ).loc main_arg0)
abbrev ACT : IVec S704 32 := m ((c.tc : Thread nD τ).loc main_arg1)
abbrev X : IVec S180224x2048 32 := m ((c.tc : Thread nD τ).loc main_arg2)
abbrev WG : Vec Ideal S4x64x4096x512 .f32 := m ((c.tc : Thread nD τ).loc main_arg3)
abbrev WU : Vec Ideal S4x64x4096x512 .f32 := m ((c.tc : Thread nD τ).loc main_arg4)

/-- A grid point as a block of rows. -/
def pt (t : Fin grid0.N) : Fin 704 := ⟨t.val, t.isLt⟩

theorem coord (t : Fin grid0.N) : (grid0.coords t 0).val = t.val := by
  have e0 : (grid0.coords t 0).val = t.val / 1 % 704 := Pipeline.Grid.coords_val t 0 (by decide) rfl
  have := (pt t).isLt
  have h : (pt t).val = t.val := rfl
  omega

theorem tbl0 : tbl m 0 = BE m c := by obtain rfl : c = 0 := Subsingleton.elim _ _; rfl
theorem tbl1 : tbl m 1 = ACT m c := by obtain rfl : c = 0 := Subsingleton.elim _ _; rfl

theorem unit_at (off : Fin 1 → Nat) (h) (n : Fin 704) (e : off 0 = n.val) :
    (Rect.unit (s := S704) off S1.size h).emb (Shape.Idx.first (numel1_S1.symm ▸ Nat.one_pos)) = ix1 n := by
  funext a
  fin_cases a
  refine Fin.ext ?_
  rw [Rect.emb_apply]
  have : ((Shape.Idx.first (s := S1) (numel1_S1.symm ▸ Nat.one_pos) : S1.Idx) 0).val < 1 := Fin.isLt _
  show off 0 + 1 * ((Shape.Idx.first (s := S1) (numel1_S1.symm ▸ Nat.one_pos) : S1.Idx) 0).val = n.val
  omega

theorem off1 (i : grid0.Coords) : k0_off1 i 0 = (i 0).val := by rw [k0_off1_eq]; rfl
theorem off3 (i : grid0.Coords) : k0_off3 i 0 = (i 0).val := by rw [k0_off3_eq]; rfl

theorem be_at : beAt c (grid0.coords t) (tbl m 0) = BE m c (ix1 (pt t)) := by
  rw [← unit_at (k0_off1 (grid0.coords t)) (k0_off1_inb _) (pt t) ((off1 _).trans (coord t)), ← tbl0]
  rfl
theorem act_at : actAt c (grid0.coords t) (tbl m 1) = ACT m c (ix1 (pt t)) := by
  rw [← unit_at (k0_off3 (grid0.coords t)) (k0_off3_inb _) (pt t) ((off3 _).trans (coord t)), ← tbl1]
  rfl

theorem off2 : ∀ t : Fin grid0.N, k0_off2 (grid0.coords t) 0 = t.val - 1 := by decide +kernel

theorem prev_at : bePrev c (grid0.coords t) (tbl m 0) = BE m c (ix1 ⟨t.val - 1, Nat.lt_of_le_of_lt (Nat.sub_le _ _) (pt t).isLt⟩) := by
  rw [← unit_at (k0_off2 (grid0.coords t)) (k0_off2_inb _) ⟨t.val - 1, Nat.lt_of_le_of_lt (Nat.sub_le _ _) (pt t).isLt⟩ (off2 t), ← tbl0]
  rfl

/-- Where nothing is stored, the expert is the one of the point before. -/
theorem same_expert (h : ¬fills (grid0.coords t) (beAt c (grid0.coords t) (tbl m 0)) (bePrev c (grid0.coords t) (tbl m 0))) :
    BE m c (ix1 (pt t)) = BE m c (ix1 ⟨t.val - 1, Nat.lt_of_le_of_lt (Nat.sub_le _ _) (pt t).isLt⟩) := by
  rw [be_at, prev_at] at h
  by_contra e
  refine h ?_
  unfold fills
  have e' : Scalar.cmpi .ne (BE m c (ix1 (pt t))) (BE m c (ix1 ⟨t.val - 1, Nat.lt_of_le_of_lt (Nat.sub_le _ _) (pt t).isLt⟩)) = 1#1 :=
    (WordCmp.cmpi_ne_eq _ _).trans (by rw [decide_eq_true e]; rfl)
  rw [e']
  generalize Scalar.cmpi .eq (BitVec.ofNat 32 (grid0.coords t 0).val) 0#32 = b
  revert b
  decide

end Cert.KernelUpIdeal.Run

end
-- ==== Proof.UpIPay.lean ====
module

public import proofs.«01_k».proof.Proof.UpIRuns
public import proofs.«01_k».proof.Proof.UpRef
public import proofs.«01_k».proof.Proof.Spec
public import Idealize.ShloMosaic.Lib.Pointwise

@[expose] public section

set_option maxRecDepth 16384

noncomputable section

namespace Cert.KernelUpIdeal.Run

open Cert.KernelUpIdeal Cert.KernelUpIdeal.Gen
open Idealize.ShloMosaic Idealize.ShloMosaic.TcCoe Idealize.SL.Sem
open Cert.ReferenceUpIdeal.Of (lo hi)

/-! What the body of the experts' up call stores, at an element. -/

theorem pay1_eq (w) (k : Fin 4096) (j : Fin 512) : k0_pay1 (F := Ideal) w (ix2 k j) = w (ix4 0 0 k j) := by pointwise [k0_pay1]
theorem pay2_eq (w) (k : Fin 4096) (j : Fin 512) : k0_pay2 (F := Ideal) w (ix2 k j) = w (ix4 0 0 k j) := by pointwise [k0_pay2]
theorem pay4_eq (i : Fin 256) (j : Fin 512) : k0_pay4 (F := Ideal) (ix2 i j) = (0 : EReal) := by pointwise [k0_pay4]

/-- A row's words against the two halves of a column. -/
def half (x : IVec S256x2048 32) (a b : S2048x512.Idx → EReal) (i : Fin 256) (j : Fin 512) : EReal :=
  (∑ k : Fin 2048, lo (x (ix2 i k)) * a (ix2 k j)) + ∑ k : Fin 2048, hi (x (ix2 i k)) * b (ix2 k j)

theorem lo_eq (w : BitVec 32) : Ideal.ofBits .f32 (IntOp.shli .vector w 16#32) = lo w := by
  unfold lo IntOp.shli
  rfl
theorem hi_eq (w : BitVec 32) : Ideal.ofBits .f32 (IntOp.andi w 4294901760#32) = hi w := rfl

theorem pay3_eq (x : IVec S256x2048 32) (a b a' b' : S2048x512.Idx → EReal) (i : Fin 256) (j : Fin 512) :
    k0_pay3 (F := Ideal) x a b a' b' (ix2 i j) = Ideal.div (half x a b i j) (1 + Ideal.exp (-half x a b i j)) * half x a' b' i j := by
  rw [← zero_sub (half x a b i j)]
  unfold half
  simp only [← lo_eq, ← hi_eq]
  pointwise [k0_pay3]

end Cert.KernelUpIdeal.Run

end
-- ==== Proof.UpIArr.lean ====
module

public import proofs.«01_k».proof.Proof.UpIVal
public import proofs.«01_k».proof.Proof.UpIPay
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelUpIdeal.Run

open Cert.KernelUpIdeal Cert.KernelUpIdeal.Gen
open Idealize.ShloMosaic Idealize.ShloMosaic.TcCoe Idealize.SL.Sem
open Idealize.ShloMosaic.Pipeline (Dat)
open Cert.ReferenceUpIdeal.Of (lo hi elem expert prod block)

/-! The experts' up call: its blocks, what each point stores, its array after the run. -/

variable (m : (ℓ : Loc nD τ sig) → Buf (Elt Ideal) ℓ) (hN : Named m) (hO : Ok m) (c : Dev nD) (t : Fin (cfgM m hO).N)

theorem small' (hN : Named m) (y : S704.Idx) : (BE m c y).toNat < 64 := by
  rw [← tbl0]; exact small m hN y

theorem expert_val (hN : Named m) (n : Fin 704) : (expert (BE m c) n).val = (BE m c (ix1 n)).toNat :=
  Nat.mod_eq_of_lt (small' m c hN _)

theorem idx0 : ((cfgM m hO).win 0).index t = ![(pt t).val, 0] := by
  show cc0_transform_0 (grid0.coords t) = _
  unfold cc0_transform_0
  dsimp only
  rw [coord]
  have : (pt t).val < 704 := (pt t).isLt
  show ![(BitVec.ofNat 32 (pt t).val).toNat, 0] = _
  rw [WordCmp.toNat_ofNat_of_lt (by omega)]

theorem idx3 : ((cfgM m hO).win 3).index t = ![(pt t).val, 0] := idx0 m hO t

theorem idx1 (hN : Named m) : ((cfgM m hO).win 1).index t = ![0, (expert (BE m 0) (pt t)).val, 0, 0] := by
  rw [expert_val m 0 hN, ← be_at m 0 t]
  rfl
theorem idx2 (hN : Named m) : ((cfgM m hO).win 2).index t = ![0, (expert (BE m 0) (pt t)).val, 0, 0] := by
  rw [expert_val m 0 hN, ← be_at m 0 t]
  rfl

theorem blk0 (i : Fin 256) (k : Fin 2048) : iblk m hO c 0 t (ix2 i k) = X m c (ix2 (⟨(pt t).val * 256 + i.val, by omega⟩ : Fin 180224) k) := by
  blk_ext! [iblk, V, idx0 m hO t]
theorem blk1 (hN : Named m) (k : Fin 4096) (j : Fin 512) : iblk m hO c 1 t (ix4 0 0 k j) = WG m c (ix4 0 (expert (BE m 0) (pt t)) k j) := by
  blk_ext! [iblk, V, idx1 m hO t hN]
theorem blk2 (hN : Named m) (k : Fin 4096) (j : Fin 512) : iblk m hO c 2 t (ix4 0 0 k j) = WU m c (ix4 0 (expert (BE m 0) (pt t)) k j) := by
  blk_ext! [iblk, V, idx2 m hO t hN]

theorem emb3 (i : Fin 256) (j : Fin 512) : (((cfgM m hO).win 3).blk t).view.emb (ix2 i j)
    = ix2 (⟨(pt t).val * 256 + i.val, by omega⟩ : Fin 180224) j := by
  blk_ext! [idx3 m hO t]

/-- Where a point stores the weights, it stores its expert's. -/
theorem kept_new (hN : Named m) (h : fills (grid0.coords t) (beAt c (grid0.coords t) (tbl m 0)) (bePrev c (grid0.coords t) (tbl m 0))) (k : Fin 4096) (j : Fin 512) :
    (kept m hO c t.val t.isLt).1 (ix2 k j) = WG m c (ix4 0 (expert (BE m 0) (pt t)) k j)
      ∧ (kept m hO c t.val t.isLt).2 (ix2 k j) = WU m c (ix4 0 (expert (BE m 0) (pt t)) k j) := by
  rw [kept_fills m hO c t h]
  exact ⟨(pay1_eq (iblk m hO c 1 t) k j).trans (blk1 m hO c t hN k j), (pay2_eq (iblk m hO c 2 t) k j).trans (blk2 m hO c t hN k j)⟩

/-- The weights kept at a point are its expert's. -/
theorem kept_at (hN : Named m) (n : ℕ) : ∀ (hn : n < (cfgM m hO).N) (k : Fin 4096) (j : Fin 512),
    (kept m hO c n hn).1 (ix2 k j) = WG m c (ix4 0 (expert (BE m 0) (pt ⟨n, hn⟩)) k j)
      ∧ (kept m hO c n hn).2 (ix2 k j) = WU m c (ix4 0 (expert (BE m 0) (pt ⟨n, hn⟩)) k j) := by
  induction n with
  | zero => exact fun hn k j => kept_new m hO c ⟨0, hn⟩ hN (fills_first ⟨0, hn⟩ rfl _ _) k j
  | succ n ih =>
    intro hn k j
    by_cases h : fills (grid0.coords ⟨n + 1, hn⟩) (beAt c (grid0.coords ⟨n + 1, hn⟩) (tbl m 0)) (bePrev c (grid0.coords ⟨n + 1, hn⟩) (tbl m 0))
    · exact kept_new m hO c ⟨n + 1, hn⟩ hN h k j
    · have e : expert (BE m 0) (pt ⟨n + 1, hn⟩) = expert (BE m 0) (pt ⟨n, Nat.lt_of_succ_lt hn⟩) := by
        unfold expert
        obtain rfl : c = 0 := Subsingleton.elim _ _
        exact congrArg (fun w : BitVec 32 => Fin.ofNat 64 w.toNat) (same_expert m 0 ⟨n + 1, hn⟩ h)
      have e' : kept m hO c (n + 1) hn = kept m hO c n (Nat.lt_of_succ_lt hn) := kept_kept m hO c ⟨n + 1, hn⟩ h
      rw [e', e]
      exact ih (Nat.lt_of_succ_lt hn) k j

/-- A column's upper and lower half. -/
theorem ld_low (s : Vec Ideal S4096x512 .bf16) (k : Fin 2048) (j : Fin 512) :
    View.ld s (Rect.unit (s := S4096x512) ![0, 0] S2048x512.size inb_S4096x512_S2048x512_0_0) (ix2 k j) = s (ix2 (⟨k.val, by omega⟩ : Fin 4096) j) := by
  refine congrArg s (funext fun a => ?_)
  fin_cases a
  · exact Fin.ext (show 0 + 1 * k.val = k.val by omega)
  · exact Fin.ext (show 0 + 1 * j.val = j.val by omega)
theorem ld_high (s : Vec Ideal S4096x512 .bf16) (k : Fin 2048) (j : Fin 512) :
    View.ld s (Rect.unit (s := S4096x512) ![2048, 0] S2048x512.size inb_S4096x512_S2048x512_2048_0) (ix2 k j) = s (ix2 (⟨k.val + 2048, by omega⟩ : Fin 4096) j) := by
  refine congrArg s (funext fun a => ?_)
  fin_cases a
  · exact Fin.ext (show 2048 + 1 * k.val = k.val + 2048 by omega)
  · exact Fin.ext (show 0 + 1 * j.val = j.val by omega)

/-- The two halves of a row's product together. -/
theorem sum_halves (f : Fin 4096 → EReal) :
    (∑ k : Fin 4096, f k) = (∑ k : Fin 2048, f ⟨k.val, by omega⟩) + ∑ k : Fin 2048, f ⟨k.val + 2048, by omega⟩ := by
  refine (Fin.sum_univ_add (a := 2048) (b := 2048) f).trans (congrArg₂ (fun a b : EReal => a + b) rfl ?_)
  exact Finset.sum_congr rfl fun k _ => congrArg f (Fin.ext (Nat.add_comm _ _))

theorem half_eq (s : Vec Ideal S4096x512 .bf16) (w : S4x64x4096x512.Idx → EReal)
    (hs : ∀ k j, s (ix2 k j) = w (ix4 0 (expert (BE m 0) (pt t)) k j)) (i : Fin 256) (j : Fin 512) :
    half (iblk m hO c 0 t) (View.ld s (Rect.unit (s := S4096x512) ![0, 0] S2048x512.size inb_S4096x512_S2048x512_0_0))
      (View.ld s (Rect.unit (s := S4096x512) ![2048, 0] S2048x512.size inb_S4096x512_S2048x512_2048_0)) i j
      = prod (BE m 0) (X m c) w (pt t) i j := by
  unfold half prod
  rw [sum_halves]
  refine congrArg₂ (fun a b : EReal => a + b) (Finset.sum_congr rfl fun k _ => ?_) (Finset.sum_congr rfl fun k _ => ?_)
  · rw [ld_low, hs, blk0]
    refine congrArg (fun a : EReal => a * _) ?_
    unfold elem
    rw [dif_pos (show (⟨k.val, by omega⟩ : Fin 4096).val < 2048 from k.isLt)]
  · rw [ld_high, hs, blk0]
    refine congrArg (fun a : EReal => a * _) ?_
    unfold elem
    rw [dif_neg (show ¬(⟨k.val + 2048, by omega⟩ : Fin 4096).val < 2048 from by show ¬(k.val + 2048 < 2048); omega)]
    refine congrArg hi (congrArg (X m c) ?_)
    funext a
    fin_cases a
    · rfl
    · exact Fin.ext (show k.val = k.val + 2048 - 2048 by omega)

theorem cond2_iff (w : BitVec 32) : k0_cond2 w = 1#1 ↔ ¬w = 0#32 := by
  constructor
  · rintro h rfl
    exact absurd h (by decide)
  · intro h
    have a : (w != 0#32) = true := by simpa using h
    unfold k0_cond2
    simp [Scalar.cmpi, IntOp.cmpi, Scalar.extui, a]

/-- What a point stores: its block of the result. -/
theorem stored (hN : Named m) (i : Fin 256) (j : Fin 512) :
    outv m hO c t (ix2 i j) = block (BE m 0) (ACT m c) (X m c) (WG m c) (WU m c) (pt t) i j := by
  unfold block
  by_cases h : ACT m c (ix1 (pt t)) = 0#32
  · rw [if_pos h, outv_zero m hO c t (by rw [cond2_iff]; exact fun h' => h' ((act_at m c t).trans h))]
    exact pay4_eq i j
  · rw [if_neg h, outv_act m hO c t ((cond2_iff _).mpr fun h' => h ((act_at m c t).symm.trans h'))]
    unfold act
    rw [Scan.gate_eq]
    refine (pay3_eq _ _ _ _ _ i j).trans ?_
    rw [half_eq m hO c t _ (WG m c) (fun k j => (kept_at m hO c hN t.val t.isLt k j).1),
      half_eq m hO c t _ (WU m c) (fun k j => (kept_at m hO c hN t.val t.isLt k j).2)]

/-- The result. -/
def result : Vec Ideal S180224x512 .bf16 := fun y =>
  block (BE m 0) (ACT m c) (X m c) (WG m c) (WU m c) ⟨(y 0).val / 256, by have : (y 0).val < 180224 := (y 0).isLt; omega⟩ ⟨(y 0).val % 256, by omega⟩ (y 1)

theorem result_at (n : Fin 704) (i : Fin 256) (j : Fin 512) :
    result m c (ix2 (⟨n.val * 256 + i.val, by omega⟩ : Fin 180224) j) = block (BE m 0) (ACT m c) (X m c) (WG m c) (WU m c) n i j := by
  unfold result
  congr 1
  · exact Fin.ext (show (n.val * 256 + i.val) / 256 = n.val by omega)
  · exact Fin.ext (show (n.val * 256 + i.val) % 256 = i.val by omega)

/-- An index of the result by its block of rows. -/
theorem by_rows (y : S180224x512.Idx) : ∃ (n : Fin 704) (i : Fin 256) (j : Fin 512), y = ix2 (⟨n.val * 256 + i.val, by omega⟩ : Fin 180224) j := by
  have h0 : (y 0).val < 180224 := (y 0).isLt
  refine ⟨⟨(y 0).val / 256, by omega⟩, ⟨(y 0).val % 256, by omega⟩, y 1, ?_⟩
  funext a
  fin_cases a
  · exact Fin.ext (show (y 0).val = (y 0).val / 256 * 256 + (y 0).val % 256 by omega)
  · rfl

/-- The blocks written back cover the result. -/
theorem cover (y : S180224x512.Idx) : ∃ t : Fin (cfgM m hO).N, ((cfgM m hO).win 3).flush t = true ∧ y ∈ (((cfgM m hO).win 3).blk t).view.set := by
  obtain ⟨n, i, j, rfl⟩ := by_rows y
  refine ⟨⟨n.val, n.isLt⟩, flush0_3 (adm m hO) _, ?_⟩
  have h := View.emb_mem_set (((cfgM m hO).win 3).blk ⟨n.val, n.isLt⟩).view (ix2 i j)
  rw [emb3 m hO ⟨n.val, n.isLt⟩ i j] at h
  exact h

/-- The result array after the run. -/
theorem final (hN : Named m) : (dats m hO 0 c).arrAt 3 (cfgM m hO).N = result m c := by
  refine (dats m hO 0 c).arrAt_eq_of_emb 3 _ (fun t hf y => ?_) (cover m hO)
  blk_simp
  rw [after0_3]
  obtain ⟨i, j, rfl⟩ : ∃ (i : Fin 256) (j : Fin 512), y = ix2 i j := ⟨(show S256x512.Idx from y) 0, (show S256x512.Idx from y) 1, by funext a; fin_cases a <;> rfl⟩
  rw [emb3, result_at]
  exact stored m hO c t hN i j

open Cert.ReferenceUpIdeal.Read in
/-- The reference's result is the same. -/
theorem same (hN : Named m) : val_main_v35 (F := Ideal) (BE m c) (ACT m c) (X m c) (WG m c) (WU m c) = result m c := by
  obtain rfl : c = 0 := Subsingleton.elim _ _
  funext y
  obtain ⟨n, i, j, e⟩ := by_rows y
  rw [e, result_at]
  exact Cert.ReferenceUpIdeal.Of.v35_at _ _ _ _ _ (small' m 0 hN) n i j

end Cert.KernelUpIdeal.Run

end
-- ==== Proof.lean ====
module

public import proofs.«01_k».proof.Defs
public import proofs.«01_k».proof.Proof.BitsRun
public import proofs.«01_k».proof.Proof.GlaRun
public import proofs.«01_k».proof.Proof.RefIter
public import proofs.«01_k».proof.Proof.Equation
public import proofs.«01_k».proof.Proof.ProjIn
public import proofs.«01_k».proof.Proof.ProjOut
public import proofs.«01_k».proof.Proof.Gen.KernelIn.Frame
public import proofs.«01_k».proof.Proof.Gen.KernelInIdeal.Frame
public import proofs.«01_k».proof.Proof.Gen.ReferenceInIdeal.Run
public import proofs.«01_k».proof.Proof.Gen.ReferenceInIdeal.Read
public import proofs.«01_k».proof.Proof.Gen.KernelOut.Frame
public import proofs.«01_k».proof.Proof.Gen.KernelOutIdeal.Frame
public import proofs.«01_k».proof.Proof.Gen.ReferenceOutIdeal.Run
public import proofs.«01_k».proof.Proof.Gen.ReferenceOutIdeal.Read
public import proofs.«01_k».proof.Proof.Gen.KernelInIdeal.Value
public import proofs.«01_k».proof.Proof.Gen.KernelOutIdeal.Value
public import proofs.«01_k».proof.Proof.UpFrame
public import proofs.«01_k».proof.Proof.UpOk
public import proofs.«01_k».proof.Proof.UpIArr
public import proofs.«01_k».proof.Proof.Gen.Pre_experts_named
public import proofs.«01_k».proof.Proof.Gen.ReferenceUpIdeal.Run
public import proofs.«01_k».proof.Proof.Gen.ReferenceUpIdeal.Read
public import Idealize.ShloMosaic.Adequacy
public import Idealize.ShloMosaic.Init
public import Idealize.ShloMosaic.Lib.Claim

@[expose] public section

noncomputable section

namespace Cert.Proof

open Idealize.ShloMosaic Idealize.ShloMosaic.TcCoe Idealize.SL.Sem

theorem frame_p : Cert.quiescent_Kernel := fun m ρ _ => Cert.Kernel.Gla.frame m ρ

theorem frame_pi : Cert.quiescent_KernelIdeal := fun m ρ _ => Cert.KernelIdeal.Gla.frame m ρ

/-- The reference's states on a device, one step after another. -/
def states (m : (ℓ : Loc Cert.ReferenceIdeal.nD Cert.ReferenceIdeal.τ Cert.ReferenceIdeal.sig) → Buf (Elt Ideal) ℓ) (c : Dev Cert.ReferenceIdeal.nD) :
    ℕ → Cert.ReferenceIdeal.Step.State Ideal
  | 0 => Cert.ReferenceIdeal.Iter.initState m c
  | n + 1 => Cert.ReferenceIdeal.Step.step n (states m c n)

theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Iter.run_iter (F := Ideal) m ρ (states m) (fun _ => rfl) (fun _ _ => rfl))

/-- The scan's rows and states, the kernel's and the reference's. -/
theorem algebraic : Cert.algebraic_KernelIdeal_ReferenceIdeal := by
  intro m ρ m' ρ' _ hagree
  refine ⟨fun c => Cert.KernelIdeal.Gla.rowsResult m c, fun c => Cert.KernelIdeal.Gla.statesResult m c, ?_, ?_⟩
  · refine (θ_run Cert.KernelIdeal.defs _ _).mono (fun r h c => ?_)
      (θ_run_and (Cert.KernelIdeal.Gla.run_main m ρ) (Cert.KernelIdeal.Gla.frame m ρ))
    exact ⟨(h.1.out_eq c 8).trans (Cert.KernelIdeal.Gla.final8 m c), (h.1.out_eq c 9).trans (Cert.KernelIdeal.Gla.final9 m c), h.2.1 c⟩
  · refine (θ_run Cert.ReferenceIdeal.defs _ _).mono (fun r h c => ?_)
      (Cert.ReferenceIdeal.Iter.run_iter (F := Ideal) m' ρ' (states m') (fun _ => rfl) (fun _ _ => rfl))
    obtain ⟨e0, e1, e2, e3, e4⟩ := hagree c
    have h0 : states m' c 0 = Cert.ReferenceIdeal.Step.init (Cert.KernelIdeal.Gla.A0 m c) (Cert.KernelIdeal.Gla.A1 m c) (Cert.KernelIdeal.Gla.A2 m c) (Cert.KernelIdeal.Gla.A3 m c) := by
      show Cert.ReferenceIdeal.Step.init _ _ _ _ = _
      rw [e0, e1, e2, e3]
    have hs : ∀ n, states m' c (n + 1) = Cert.ReferenceIdeal.Step.step n (states m' c n) := fun _ => rfl
    refine ⟨((h c).1.trans ?_), ((h c).2.1.trans ?_), (h c).2.2⟩
    · rw [e0, e4]
      exact rows_same m c (states m' c) h0 hs
    · exact states_same m c (states m' c) h0 hs

theorem frame_in : Cert.quiescent_KernelIn := fun m ρ _ => Cert.KernelIn.Gen.frame m ρ

theorem frame_in_i : Cert.quiescent_KernelInIdeal := fun m ρ _ => Cert.KernelInIdeal.Gen.frame m ρ

theorem frame_in_ri : Cert.quiescent_ReferenceInIdeal := fun m ρ _ =>
  (θ_run Cert.ReferenceInIdeal.defs _ _).mono (fun r h => ⟨fun c => (h c).2, sem_eq_zero_of_no_sems (by decide) r.2⟩)
    (Cert.ReferenceInIdeal.Value.run (F := Ideal) m ρ)

/-- The input projection, the kernel's and the reference's. -/
theorem algebraic_in : Cert.algebraic_KernelInIdeal_ReferenceInIdeal := by
  intro m ρ m' ρ' _ hagree
  refine ⟨fun c => Cert.KernelInIdeal.Mm.product m c, ?_, ?_⟩
  · refine (θ_run Cert.KernelInIdeal.defs _ _).mono (fun r h c => ?_) (Cert.KernelInIdeal.Value.run_blocks m ρ)
    exact ⟨(h c).1.trans (Cert.KernelInIdeal.Mm.final m c), (h c).2⟩
  · refine (θ_run Cert.ReferenceInIdeal.defs _ _).mono (fun r h c => ?_) (Cert.ReferenceInIdeal.Value.run (F := Ideal) m' ρ')
    obtain ⟨e0, e1⟩ := hagree c
    refine ⟨(h c).1.trans ?_, (h c).2⟩
    rw [e0, e1]
    exact Cert.KernelInIdeal.Mm.same m c

theorem frame_o : Cert.quiescent_KernelOut := fun m ρ _ => Cert.KernelOut.Gen.frame m ρ

theorem frame_o_i : Cert.quiescent_KernelOutIdeal := fun m ρ _ => Cert.KernelOutIdeal.Gen.frame m ρ

theorem frame_o_ri : Cert.quiescent_ReferenceOutIdeal := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)

/-- The output projection, the kernel's and the reference's. -/
theorem algebraic_out : Cert.algebraic_KernelOutIdeal_ReferenceOutIdeal := by
  intro m ρ m' ρ' _ hagree
  refine ⟨fun c => Cert.KernelOutIdeal.Mm.product m c, ?_, ?_⟩
  · refine (θ_run Cert.KernelOutIdeal.defs _ _).mono (fun r h c => ?_) (Cert.KernelOutIdeal.Value.run_blocks m ρ)
    exact ⟨(h c).1.trans (Cert.KernelOutIdeal.Mm.final m c), (h c).2⟩
  · refine (θ_run Cert.ReferenceOutIdeal.defs _ _).mono (fun r h c => ?_) (Cert.ReferenceOutIdeal.Value.run (F := Ideal) m' ρ')
    obtain ⟨e0, e1, e2⟩ := hagree c
    refine ⟨(h c).1.trans ?_, (h c).2⟩
    rw [e0, e1, e2]
    exact Cert.KernelOutIdeal.Mm.same m c

theorem frame_up : Cert.quiescent_KernelUp := fun m ρ h => Cert.KernelUp.Run.frame m ρ (Cert.KernelUp.Run.ok_of_named m h)

theorem frame_up_i : Cert.quiescent_KernelUpIdeal := fun m ρ h => Cert.KernelUpIdeal.Run.frame m ρ (Cert.KernelUpIdeal.Run.ok_of_named m h)

theorem frame_up_ri : Cert.quiescent_ReferenceUpIdeal := fun m ρ _ =>
  (θ_run Cert.ReferenceUpIdeal.defs _ _).mono (fun r h => ⟨fun c => (h c).2, sem_eq_zero_of_no_sems (by decide) r.2⟩)
    (Cert.ReferenceUpIdeal.Value.run (F := Ideal) m ρ)

/-- The experts' up call, the kernel's and the reference's. -/
theorem algebraic_up : Cert.algebraic_KernelUpIdeal_ReferenceUpIdeal := by
  intro m ρ m' ρ' hN hagree
  have hO := Cert.KernelUpIdeal.Run.ok_of_named m hN
  refine ⟨fun c => Cert.KernelUpIdeal.Run.result m c, ?_, ?_⟩
  · refine (θ_run Cert.KernelUpIdeal.defs _ _).mono (fun r h c => ?_)
      (θ_run_and (Cert.KernelUpIdeal.Run.run_main m ρ hO) (Cert.KernelUpIdeal.Run.frame m ρ hO))
    exact ⟨((h.1.1 c).1 3).trans (Cert.KernelUpIdeal.Run.final m hO c hN), h.2.1 c⟩
  · refine (θ_run Cert.ReferenceUpIdeal.defs _ _).mono (fun r h c => ?_) (Cert.ReferenceUpIdeal.Value.run (F := Ideal) m' ρ')
    obtain ⟨e0, e1, e2, e3, e4⟩ := hagree c
    refine ⟨(h c).1.trans ?_, (h c).2⟩
    rw [Cert.ReferenceUpIdeal.Read.val_main_v35_eq, e0, e1, e2, e3, e4]
    exact Cert.KernelUpIdeal.Run.same m c hN

theorem claim : Cert.Claim := ⟨Cert.Kernel.Gen.facts, Cert.KernelIdeal.Gen.facts, Cert.ReferenceIdeal.Gen.facts,
  Cert.KernelIn.Gen.facts, Cert.KernelInIdeal.Gen.facts, Cert.ReferenceInIdeal.Gen.facts,
  Cert.KernelOut.Gen.facts, Cert.KernelOutIdeal.Gen.facts, Cert.ReferenceOutIdeal.Gen.facts,
  Cert.KernelUp.Gen.facts, Cert.KernelUpIdeal.Gen.facts, Cert.ReferenceUpIdeal.Gen.facts, Cert.Pre_experts_named.Gen.facts,
  frame_p, frame_pi, frame_ri, frame_in, frame_in_i, frame_in_ri, frame_o, frame_o_i, frame_o_ri, frame_up, frame_up_i, frame_up_ri,
  trivial, algebraic, trivial, algebraic_in, trivial, algebraic_out, trivial, algebraic_up⟩

end Cert.Proof

end
